-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![3072, 1536]⟩ ⟨2, ![3072, 12288]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1536, 3072]⟩ ⟨2, ![12288, 3072]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3072x1536 : Shape := ⟨2, ![3072, 1536]⟩
abbrev S1536x3072 : Shape := ⟨2, ![1536, 3072]⟩
abbrev S3072x3072 : Shape := ⟨2, ![3072, 3072]⟩
abbrev S3x512x3072 : Shape := ⟨3, ![3, 512, 3072]⟩
abbrev S384x3072 : Shape := ⟨2, ![384, 3072]⟩
abbrev S2x256x1536 : Shape := ⟨3, ![2, 256, 1536]⟩
abbrev S3x4 : Shape := ⟨2, ![3, 4]⟩
abbrev S3x3 : Shape := ⟨2, ![3, 3]⟩
abbrev S4 : Shape := ⟨1, ![4]⟩
abbrev S3 : Shape := ⟨1, ![3]⟩
abbrev S3x5 : Shape := ⟨2, ![3, 5]⟩
abbrev S_ : Shape := ⟨0, ![]⟩
abbrev S1 : Shape := ⟨1, ![1]⟩
abbrev S1x256x1536 : Shape := ⟨3, ![1, 256, 1536]⟩
abbrev S256x1536 : Shape := ⟨2, ![256, 1536]⟩
abbrev S256x3072 : Shape := ⟨2, ![256, 3072]⟩
abbrev S1x256x3072 : Shape := ⟨3, ![1, 256, 3072]⟩
abbrev S1x1 : Shape := ⟨2, ![1, 1]⟩
abbrev S1x128x3072 : Shape := ⟨3, ![1, 128, 3072]⟩
abbrev S128x3072 : Shape := ⟨2, ![128, 3072]⟩
abbrev S1x512x3072 : Shape := ⟨3, ![1, 512, 3072]⟩
abbrev S512x3072 : Shape := ⟨2, ![512, 3072]⟩

abbrev nBuf : Space → Nat
  | .hbm => 3
  | .vmem => 6
  | .smem => 0
  | _ => 0

abbrev bufTy : (tb : Table) → Fin (tcTables nBuf tb) → BufTy
  | .hbm, ⟨0, _⟩ => ⟨S3072x1536, .f32⟩
  | .hbm, ⟨1, _⟩ => ⟨S1536x3072, .f32⟩
  | .hbm, ⟨2, _⟩ => ⟨S3072x3072, .f32⟩
  | .local _ .vmem, ⟨0, _⟩ => ⟨S3x512x3072, .f32⟩
  | .local _ .vmem, ⟨1, _⟩ => ⟨S3x512x3072, .bf16⟩
  | .local _ .vmem, ⟨2, _⟩ => ⟨S3x512x3072, .bf16⟩
  | .local _ .vmem, ⟨3, _⟩ => ⟨S1536x3072, .bf16⟩
  | .local _ .vmem, ⟨4, _⟩ => ⟨S384x3072, .f32⟩
  | .local _ .vmem, ⟨5, _⟩ => ⟨S2x256x1536, .f32⟩
  | _, _ => ⟨S3072x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => false
  | _ => false

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  (ofTc nBuf bufTy 16 49 bufScoped semScoped dmaSemScoped tileCredit tileCredit_eq_zero tileCredit_pos).withBarriers [(0, 15)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 15

abbrev nD : Nat := 8
abbrev τ : Topo := Topo.v7x

variable {F : FTy → Type} [FloatOps F]

abbrev grid0 : Pipeline.Grid := .none

def k0_dev1 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_34 : BitVec 32 := 4#32
  let v82 : BitVec 32 := Scalar.muli v19 c4_i32_34
  let c1_i32_31 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v76 : BitVec 32 := Scalar.subi c1_i32_31 v57
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c3_i32 : BitVec 32 := 3#32
  let c2_i32_33 : BitVec 32 := 2#32
  let c1_i32_32 : BitVec 32 := 1#32
  let v77 : BitVec 32 := Scalar.subi c1_i32_32 v57
  let v78 : BitVec 32 := Scalar.muli c2_i32_33 v77
  let v79 : BitVec 32 := Scalar.subi c3_i32 v78
  let v80 : BitVec 32 := Scalar.muli v74 v79
  let v81 : BitVec 32 := Scalar.addi v76 v80
  let v83 : BitVec 32 := Scalar.addi v82 v81
  let c1_i32_36 : BitVec 32 := 1#32
  let v84 : BitVec 32 := Scalar.muli v83 c1_i32_36
  let v85 : BitVec 32 := Scalar.addi c0_i32_37 v84
  v85.toNat
def k0_dev2 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_41 : BitVec 32 := 4#32
  let v91 : BitVec 32 := Scalar.muli v19 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c1_i32_38 : BitVec 32 := 1#32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v86 : BitVec 32 := Scalar.subi c1_i32_38 v74
  let c3_i32_40 : BitVec 32 := 3#32
  let c2_i32_39 : BitVec 32 := 2#32
  let v87 : BitVec 32 := Scalar.muli c2_i32_39 v57
  let v88 : BitVec 32 := Scalar.subi c3_i32_40 v87
  let v89 : BitVec 32 := Scalar.muli v86 v88
  let v90 : BitVec 32 := Scalar.addi v57 v89
  let v92 : BitVec 32 := Scalar.addi v91 v90
  let c1_i32_43 : BitVec 32 := 1#32
  let v93 : BitVec 32 := Scalar.muli v92 c1_i32_43
  let v94 : BitVec 32 := Scalar.addi c0_i32_44 v93
  v94.toNat
def k0_dev3 (d0 : Dev nD) : Nat :=
  let c0_i32_49 : BitVec 32 := 0#32
  let c1_i32_45 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v95 : BitVec 32 := Scalar.subi c1_i32_45 v19
  let c4_i32_46 : BitVec 32 := 4#32
  let v96 : BitVec 32 := Scalar.muli v95 c4_i32_46
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v97 : BitVec 32 := Scalar.addi v96 v29
  let c1_i32_48 : BitVec 32 := 1#32
  let v98 : BitVec 32 := Scalar.muli v97 c1_i32_48
  let v99 : BitVec 32 := Scalar.addi c0_i32_49 v98
  v99.toNat
def k0_off1 (d0 : Dev nD) : Fin 2 → Nat :=
  let c0_i32_100 : BitVec 32 := 0#32
  let c1_i32_84 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v145 : BitVec 32 := Scalar.subi c1_i32_84 v57
  let c512_i32_85 : BitVec 32 := 512#32
  let v146 : BitVec 32 := Scalar.muli v145 c512_i32_85
  let v162 : BitVec 32 := Scalar.addi c0_i32_100 v146
  let c1_i32_86 : BitVec 32 := 1#32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v147 : BitVec 32 := Scalar.subi c1_i32_86 v74
  let c256_i32 : BitVec 32 := 256#32
  let v148 : BitVec 32 := Scalar.muli v147 c256_i32
  let v163 : BitVec 32 := Scalar.addi v162 v148
  let c0_i32_114 : BitVec 32 := 0#32
  ![v163.toNat, 0]
def k0_off2 (d0 : Dev nD) : Fin 2 → Nat :=
  let c0_i32_101 : BitVec 32 := 0#32
  let c1_i32_84 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v145 : BitVec 32 := Scalar.subi c1_i32_84 v57
  let c512_i32_85 : BitVec 32 := 512#32
  let v146 : BitVec 32 := Scalar.muli v145 c512_i32_85
  let v164 : BitVec 32 := Scalar.addi c0_i32_101 v146
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c256_i32_87 : BitVec 32 := 256#32
  let v149 : BitVec 32 := Scalar.muli v74 c256_i32_87
  let v165 : BitVec 32 := Scalar.addi v164 v149
  let c0_i32_124 : BitVec 32 := 0#32
  ![v165.toNat, 0]
def k0_off3 (d0 : Dev nD) : Fin 3 → Nat :=
  let c0_130 : Index := 0#32
  let c1_i32_86 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v147 : BitVec 32 := Scalar.subi c1_i32_86 v74
  let c256_i32 : BitVec 32 := 256#32
  let v148 : BitVec 32 := Scalar.muli v147 c256_i32
  let v207 : Index := Scalar.indexCast v148
  let c0_131 : Index := 0#32
  ![0, v207.toNat, 0]
def k0_off4 (d0 : Dev nD) : Fin 3 → Nat :=
  let c0_i32_137 : BitVec 32 := 0#32
  let c1_i32_86 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v147 : BitVec 32 := Scalar.subi c1_i32_86 v74
  let c256_i32 : BitVec 32 := 256#32
  let v148 : BitVec 32 := Scalar.muli v147 c256_i32
  let c0_i32_147 : BitVec 32 := 0#32
  ![0, v148.toNat, 0]
def k0_dev4 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_136 : BitVec 32 := 4#32
  let v217 : BitVec 32 := Scalar.muli v19 c4_i32_136
  let c1_i32_132 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v211 : BitVec 32 := Scalar.subi c1_i32_132 v57
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c3_i32_135 : BitVec 32 := 3#32
  let c2_i32_134 : BitVec 32 := 2#32
  let c1_i32_133 : BitVec 32 := 1#32
  let v212 : BitVec 32 := Scalar.subi c1_i32_133 v57
  let v213 : BitVec 32 := Scalar.muli c2_i32_134 v212
  let v214 : BitVec 32 := Scalar.subi c3_i32_135 v213
  let v215 : BitVec 32 := Scalar.muli v74 v214
  let v216 : BitVec 32 := Scalar.addi v211 v215
  let v218 : BitVec 32 := Scalar.addi v217 v216
  let c1_i32_143 : BitVec 32 := 1#32
  let v219 : BitVec 32 := Scalar.muli v218 c1_i32_143
  let v220 : BitVec 32 := Scalar.addi c0_i32_144 v219
  v220.toNat
def k0_off5 (d0 : Dev nD) : Fin 2 → Nat :=
  let c1024_i32 : BitVec 32 := 1024#32
  let c1_i32_89 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v151 : BitVec 32 := Scalar.subi c1_i32_89 v74
  let c512_i32_90 : BitVec 32 := 512#32
  let v152 : BitVec 32 := Scalar.muli v151 c512_i32_90
  let v166 : BitVec 32 := Scalar.addi c1024_i32 v152
  let c1_i32_91 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v153 : BitVec 32 := Scalar.subi c1_i32_91 v19
  let c256_i32_92 : BitVec 32 := 256#32
  let v154 : BitVec 32 := Scalar.muli v153 c256_i32_92
  let v167 : BitVec 32 := Scalar.addi v166 v154
  let c0_i32_157 : BitVec 32 := 0#32
  ![v167.toNat, 0]
def k0_off6 (d0 : Dev nD) : Fin 3 → Nat :=
  let c0_163 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c256_i32_87 : BitVec 32 := 256#32
  let v149 : BitVec 32 := Scalar.muli v74 c256_i32_87
  let v245 : Index := Scalar.indexCast v149
  let c0_164 : Index := 0#32
  ![0, v245.toNat, 0]
def k0_off7 (d0 : Dev nD) : Fin 3 → Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c256_i32_87 : BitVec 32 := 256#32
  let v149 : BitVec 32 := Scalar.muli v74 c256_i32_87
  let c0_i32_180 : BitVec 32 := 0#32
  ![0, v149.toNat, 0]
def k0_dev5 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_169 : BitVec 32 := 4#32
  let v255 : BitVec 32 := Scalar.muli v19 c4_i32_169
  let c1_i32_165 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v249 : BitVec 32 := Scalar.subi c1_i32_165 v57
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c3_i32_168 : BitVec 32 := 3#32
  let c2_i32_167 : BitVec 32 := 2#32
  let c1_i32_166 : BitVec 32 := 1#32
  let v250 : BitVec 32 := Scalar.subi c1_i32_166 v57
  let v251 : BitVec 32 := Scalar.muli c2_i32_167 v250
  let v252 : BitVec 32 := Scalar.subi c3_i32_168 v251
  let v253 : BitVec 32 := Scalar.muli v74 v252
  let v254 : BitVec 32 := Scalar.addi v249 v253
  let v256 : BitVec 32 := Scalar.addi v255 v254
  let c1_i32_176 : BitVec 32 := 1#32
  let v257 : BitVec 32 := Scalar.muli v256 c1_i32_176
  let v258 : BitVec 32 := Scalar.addi c0_i32_177 v257
  v258.toNat
def k0_off8 (d0 : Dev nD) : Fin 2 → Nat :=
  let c1024_i32_102 : BitVec 32 := 1024#32
  let c1_i32_89 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v151 : BitVec 32 := Scalar.subi c1_i32_89 v74
  let c512_i32_90 : BitVec 32 := 512#32
  let v152 : BitVec 32 := Scalar.muli v151 c512_i32_90
  let v168 : BitVec 32 := Scalar.addi c1024_i32_102 v152
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_93 : BitVec 32 := 256#32
  let v155 : BitVec 32 := Scalar.muli v19 c256_i32_93
  let v169 : BitVec 32 := Scalar.addi v168 v155
  let c0_i32_190 : BitVec 32 := 0#32
  ![v169.toNat, 0]
def k0_off9 (d0 : Dev nD) : Fin 3 → Nat :=
  let c1_197 : Index := 1#32
  let c1_i32_91 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v153 : BitVec 32 := Scalar.subi c1_i32_91 v19
  let c256_i32_92 : BitVec 32 := 256#32
  let v154 : BitVec 32 := Scalar.muli v153 c256_i32_92
  let v283 : Index := Scalar.indexCast v154
  let c0_198 : Index := 0#32
  ![1, v283.toNat, 0]
def k0_off10 (d0 : Dev nD) : Fin 3 → Nat :=
  let c1_i32_203 : BitVec 32 := 1#32
  let c1_i32_91 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v153 : BitVec 32 := Scalar.subi c1_i32_91 v19
  let c256_i32_92 : BitVec 32 := 256#32
  let v154 : BitVec 32 := Scalar.muli v153 c256_i32_92
  let c0_i32_213 : BitVec 32 := 0#32
  ![1, v154.toNat, 0]
def k0_dev6 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_202 : BitVec 32 := 4#32
  let v292 : BitVec 32 := Scalar.muli v19 c4_i32_202
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c1_i32_199 : BitVec 32 := 1#32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v287 : BitVec 32 := Scalar.subi c1_i32_199 v74
  let c3_i32_201 : BitVec 32 := 3#32
  let c2_i32_200 : BitVec 32 := 2#32
  let v288 : BitVec 32 := Scalar.muli c2_i32_200 v57
  let v289 : BitVec 32 := Scalar.subi c3_i32_201 v288
  let v290 : BitVec 32 := Scalar.muli v287 v289
  let v291 : BitVec 32 := Scalar.addi v57 v290
  let v293 : BitVec 32 := Scalar.addi v292 v291
  let c1_i32_209 : BitVec 32 := 1#32
  let v294 : BitVec 32 := Scalar.muli v293 c1_i32_209
  let v295 : BitVec 32 := Scalar.addi c0_i32_210 v294
  v295.toNat
def k0_off11 (d0 : Dev nD) : Fin 2 → Nat :=
  let c2048_i32 : BitVec 32 := 2048#32
  let c1_i32_95 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v157 : BitVec 32 := Scalar.subi c1_i32_95 v19
  let c512_i32_96 : BitVec 32 := 512#32
  let v158 : BitVec 32 := Scalar.muli v157 c512_i32_96
  let v170 : BitVec 32 := Scalar.addi c2048_i32 v158
  let c1_i32_97 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v159 : BitVec 32 := Scalar.subi c1_i32_97 v57
  let c256_i32_98 : BitVec 32 := 256#32
  let v160 : BitVec 32 := Scalar.muli v159 c256_i32_98
  let v171 : BitVec 32 := Scalar.addi v170 v160
  let c0_i32_223 : BitVec 32 := 0#32
  ![v171.toNat, 0]
def k0_off12 (d0 : Dev nD) : Fin 3 → Nat :=
  let c1_230 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_93 : BitVec 32 := 256#32
  let v155 : BitVec 32 := Scalar.muli v19 c256_i32_93
  let v320 : Index := Scalar.indexCast v155
  let c0_231 : Index := 0#32
  ![1, v320.toNat, 0]
def k0_off13 (d0 : Dev nD) : Fin 3 → Nat :=
  let c1_i32_236 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_93 : BitVec 32 := 256#32
  let v155 : BitVec 32 := Scalar.muli v19 c256_i32_93
  let c0_i32_246 : BitVec 32 := 0#32
  ![1, v155.toNat, 0]
def k0_dev7 (d0 : Dev nD) : Nat :=
  let c0_i32_243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_235 : BitVec 32 := 4#32
  let v329 : BitVec 32 := Scalar.muli v19 c4_i32_235
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c1_i32_232 : BitVec 32 := 1#32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v324 : BitVec 32 := Scalar.subi c1_i32_232 v74
  let c3_i32_234 : BitVec 32 := 3#32
  let c2_i32_233 : BitVec 32 := 2#32
  let v325 : BitVec 32 := Scalar.muli c2_i32_233 v57
  let v326 : BitVec 32 := Scalar.subi c3_i32_234 v325
  let v327 : BitVec 32 := Scalar.muli v324 v326
  let v328 : BitVec 32 := Scalar.addi v57 v327
  let v330 : BitVec 32 := Scalar.addi v329 v328
  let c1_i32_242 : BitVec 32 := 1#32
  let v331 : BitVec 32 := Scalar.muli v330 c1_i32_242
  let v332 : BitVec 32 := Scalar.addi c0_i32_243 v331
  v332.toNat
def k0_off14 (d0 : Dev nD) : Fin 2 → Nat :=
  let c2048_i32_103 : BitVec 32 := 2048#32
  let c1_i32_95 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v157 : BitVec 32 := Scalar.subi c1_i32_95 v19
  let c512_i32_96 : BitVec 32 := 512#32
  let v158 : BitVec 32 := Scalar.muli v157 c512_i32_96
  let v172 : BitVec 32 := Scalar.addi c2048_i32_103 v158
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c256_i32_99 : BitVec 32 := 256#32
  let v161 : BitVec 32 := Scalar.muli v57 c256_i32_99
  let v173 : BitVec 32 := Scalar.addi v172 v161
  let c0_i32_256 : BitVec 32 := 0#32
  ![v173.toNat, 0]
def k0_off15 (d0 : Dev nD) : Fin 3 → Nat :=
  let c2 : Index := 2#32
  let c1_i32_97 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v159 : BitVec 32 := Scalar.subi c1_i32_97 v57
  let c256_i32_98 : BitVec 32 := 256#32
  let v160 : BitVec 32 := Scalar.muli v159 c256_i32_98
  let v357 : Index := Scalar.indexCast v160
  let c0_263 : Index := 0#32
  ![2, v357.toNat, 0]
def k0_off16 (d0 : Dev nD) : Fin 3 → Nat :=
  let c2_i32_266 : BitVec 32 := 2#32
  let c1_i32_97 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v159 : BitVec 32 := Scalar.subi c1_i32_97 v57
  let c256_i32_98 : BitVec 32 := 256#32
  let v160 : BitVec 32 := Scalar.muli v159 c256_i32_98
  let c0_i32_276 : BitVec 32 := 0#32
  ![2, v160.toNat, 0]
def k0_dev8 (d0 : Dev nD) : Nat :=
  let c0_i32_273 : BitVec 32 := 0#32
  let c1_i32_264 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v361 : BitVec 32 := Scalar.subi c1_i32_264 v19
  let c4_i32_265 : BitVec 32 := 4#32
  let v362 : BitVec 32 := Scalar.muli v361 c4_i32_265
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v363 : BitVec 32 := Scalar.addi v362 v29
  let c1_i32_272 : BitVec 32 := 1#32
  let v364 : BitVec 32 := Scalar.muli v363 c1_i32_272
  let v365 : BitVec 32 := Scalar.addi c0_i32_273 v364
  v365.toNat
def k0_off17 (d0 : Dev nD) : Fin 2 → Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c512_i32 : BitVec 32 := 512#32
  let v144 : BitVec 32 := Scalar.muli v57 c512_i32
  let v174 : BitVec 32 := Scalar.addi c0_i32_104 v144
  let c1_i32_86 : BitVec 32 := 1#32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v147 : BitVec 32 := Scalar.subi c1_i32_86 v74
  let c256_i32 : BitVec 32 := 256#32
  let v148 : BitVec 32 := Scalar.muli v147 c256_i32
  let v175 : BitVec 32 := Scalar.addi v174 v148
  let c0_i32_286 : BitVec 32 := 0#32
  ![v175.toNat, 0]
def k0_off18 (d0 : Dev nD) : Fin 3 → Nat :=
  let c2_293 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c256_i32_99 : BitVec 32 := 256#32
  let v161 : BitVec 32 := Scalar.muli v57 c256_i32_99
  let v390 : Index := Scalar.indexCast v161
  let c0_294 : Index := 0#32
  ![2, v390.toNat, 0]
def k0_off19 (d0 : Dev nD) : Fin 3 → Nat :=
  let c2_i32_297 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c256_i32_99 : BitVec 32 := 256#32
  let v161 : BitVec 32 := Scalar.muli v57 c256_i32_99
  let c0_i32_307 : BitVec 32 := 0#32
  ![2, v161.toNat, 0]
def k0_dev9 (d0 : Dev nD) : Nat :=
  let c0_i32_304 : BitVec 32 := 0#32
  let c1_i32_295 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v394 : BitVec 32 := Scalar.subi c1_i32_295 v19
  let c4_i32_296 : BitVec 32 := 4#32
  let v395 : BitVec 32 := Scalar.muli v394 c4_i32_296
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v396 : BitVec 32 := Scalar.addi v395 v29
  let c1_i32_303 : BitVec 32 := 1#32
  let v397 : BitVec 32 := Scalar.muli v396 c1_i32_303
  let v398 : BitVec 32 := Scalar.addi c0_i32_304 v397
  v398.toNat
def k0_off20 (d0 : Dev nD) : Fin 2 → Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c512_i32 : BitVec 32 := 512#32
  let v144 : BitVec 32 := Scalar.muli v57 c512_i32
  let v176 : BitVec 32 := Scalar.addi c0_i32_105 v144
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c256_i32_87 : BitVec 32 := 256#32
  let v149 : BitVec 32 := Scalar.muli v74 c256_i32_87
  let v177 : BitVec 32 := Scalar.addi v176 v149
  let c0_i32_317 : BitVec 32 := 0#32
  ![v177.toNat, 0]
def k0_dev10 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_347 : BitVec 32 := 4#32
  let v450 : BitVec 32 := Scalar.muli v19 c4_i32_347
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c1_i32_344 : BitVec 32 := 1#32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v445 : BitVec 32 := Scalar.subi c1_i32_344 v74
  let c3_i32_346 : BitVec 32 := 3#32
  let c2_i32_345 : BitVec 32 := 2#32
  let v446 : BitVec 32 := Scalar.muli c2_i32_345 v57
  let v447 : BitVec 32 := Scalar.subi c3_i32_346 v446
  let v448 : BitVec 32 := Scalar.muli v445 v447
  let v449 : BitVec 32 := Scalar.addi v57 v448
  let v451 : BitVec 32 := Scalar.addi v450 v449
  let c1_i32_351 : BitVec 32 := 1#32
  let v454 : BitVec 32 := Scalar.muli v451 c1_i32_351
  let v455 : BitVec 32 := Scalar.addi c0_i32_352 v454
  v455.toNat
def k0_dev11 (d0 : Dev nD) : Nat :=
  let c0_i32_394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_386 : BitVec 32 := 4#32
  let v484 : BitVec 32 := Scalar.muli v19 c4_i32_386
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c1_i32_383 : BitVec 32 := 1#32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v479 : BitVec 32 := Scalar.subi c1_i32_383 v74
  let c3_i32_385 : BitVec 32 := 3#32
  let c2_i32_384 : BitVec 32 := 2#32
  let v480 : BitVec 32 := Scalar.muli c2_i32_384 v57
  let v481 : BitVec 32 := Scalar.subi c3_i32_385 v480
  let v482 : BitVec 32 := Scalar.muli v479 v481
  let v483 : BitVec 32 := Scalar.addi v57 v482
  let v485 : BitVec 32 := Scalar.addi v484 v483
  let c1_i32_393 : BitVec 32 := 1#32
  let v486 : BitVec 32 := Scalar.muli v485 c1_i32_393
  let v487 : BitVec 32 := Scalar.addi c0_i32_394 v486
  v487.toNat
def k0_off21 (d0 : Dev nD) : Fin 2 → Nat :=
  let c1024_i32_106 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c512_i32_88 : BitVec 32 := 512#32
  let v150 : BitVec 32 := Scalar.muli v74 c512_i32_88
  let v178 : BitVec 32 := Scalar.addi c1024_i32_106 v150
  let c1_i32_91 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v153 : BitVec 32 := Scalar.subi c1_i32_91 v19
  let c256_i32_92 : BitVec 32 := 256#32
  let v154 : BitVec 32 := Scalar.muli v153 c256_i32_92
  let v179 : BitVec 32 := Scalar.addi v178 v154
  let c0_i32_408 : BitVec 32 := 0#32
  ![v179.toNat, 0]
def k0_off22 (d0 : Dev nD) : Fin 2 → Nat :=
  let c1024_i32_107 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c512_i32_88 : BitVec 32 := 512#32
  let v150 : BitVec 32 := Scalar.muli v74 c512_i32_88
  let v180 : BitVec 32 := Scalar.addi c1024_i32_107 v150
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_93 : BitVec 32 := 256#32
  let v155 : BitVec 32 := Scalar.muli v19 c256_i32_93
  let v181 : BitVec 32 := Scalar.addi v180 v155
  let c0_i32_443 : BitVec 32 := 0#32
  ![v181.toNat, 0]
def k0_dev12 (d0 : Dev nD) : Nat :=
  let c0_i32_476 : BitVec 32 := 0#32
  let c1_i32_470 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v572 : BitVec 32 := Scalar.subi c1_i32_470 v19
  let c4_i32_471 : BitVec 32 := 4#32
  let v573 : BitVec 32 := Scalar.muli v572 c4_i32_471
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v574 : BitVec 32 := Scalar.addi v573 v29
  let c1_i32_475 : BitVec 32 := 1#32
  let v577 : BitVec 32 := Scalar.muli v574 c1_i32_475
  let v578 : BitVec 32 := Scalar.addi c0_i32_476 v577
  v578.toNat
def k0_dev13 (d0 : Dev nD) : Nat :=
  let c0_i32_516 : BitVec 32 := 0#32
  let c1_i32_507 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v602 : BitVec 32 := Scalar.subi c1_i32_507 v19
  let c4_i32_508 : BitVec 32 := 4#32
  let v603 : BitVec 32 := Scalar.muli v602 c4_i32_508
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v604 : BitVec 32 := Scalar.addi v603 v29
  let c1_i32_515 : BitVec 32 := 1#32
  let v605 : BitVec 32 := Scalar.muli v604 c1_i32_515
  let v606 : BitVec 32 := Scalar.addi c0_i32_516 v605
  v606.toNat
def k0_off23 (d0 : Dev nD) : Fin 2 → Nat :=
  let c2048_i32_108 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_94 : BitVec 32 := 512#32
  let v156 : BitVec 32 := Scalar.muli v19 c512_i32_94
  let v182 : BitVec 32 := Scalar.addi c2048_i32_108 v156
  let c1_i32_97 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v159 : BitVec 32 := Scalar.subi c1_i32_97 v57
  let c256_i32_98 : BitVec 32 := 256#32
  let v160 : BitVec 32 := Scalar.muli v159 c256_i32_98
  let v183 : BitVec 32 := Scalar.addi v182 v160
  let c0_i32_530 : BitVec 32 := 0#32
  ![v183.toNat, 0]
def k0_off24 (d0 : Dev nD) : Fin 2 → Nat :=
  let c2048_i32_109 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_94 : BitVec 32 := 512#32
  let v156 : BitVec 32 := Scalar.muli v19 c512_i32_94
  let v184 : BitVec 32 := Scalar.addi c2048_i32_109 v156
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c256_i32_99 : BitVec 32 := 256#32
  let v161 : BitVec 32 := Scalar.muli v57 c256_i32_99
  let v185 : BitVec 32 := Scalar.addi v184 v161
  let c0_i32_566 : BitVec 32 := 0#32
  ![v185.toNat, 0]
def k0_dev14 (d0 : Dev nD) : Nat :=
  let c0_i32_602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_597 : BitVec 32 := 4#32
  let v697 : BitVec 32 := Scalar.muli v19 c4_i32_597
  let c1_i32_593 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v691 : BitVec 32 := Scalar.subi c1_i32_593 v57
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c3_i32_596 : BitVec 32 := 3#32
  let c2_i32_595 : BitVec 32 := 2#32
  let c1_i32_594 : BitVec 32 := 1#32
  let v692 : BitVec 32 := Scalar.subi c1_i32_594 v57
  let v693 : BitVec 32 := Scalar.muli c2_i32_595 v692
  let v694 : BitVec 32 := Scalar.subi c3_i32_596 v693
  let v695 : BitVec 32 := Scalar.muli v74 v694
  let v696 : BitVec 32 := Scalar.addi v691 v695
  let v698 : BitVec 32 := Scalar.addi v697 v696
  let c1_i32_601 : BitVec 32 := 1#32
  let v701 : BitVec 32 := Scalar.muli v698 c1_i32_601
  let v702 : BitVec 32 := Scalar.addi c0_i32_602 v701
  v702.toNat
def k0_dev15 (d0 : Dev nD) : Nat :=
  let c0_i32_645 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_637 : BitVec 32 := 4#32
  let v732 : BitVec 32 := Scalar.muli v19 c4_i32_637
  let c1_i32_633 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v726 : BitVec 32 := Scalar.subi c1_i32_633 v57
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c3_i32_636 : BitVec 32 := 3#32
  let c2_i32_635 : BitVec 32 := 2#32
  let c1_i32_634 : BitVec 32 := 1#32
  let v727 : BitVec 32 := Scalar.subi c1_i32_634 v57
  let v728 : BitVec 32 := Scalar.muli c2_i32_635 v727
  let v729 : BitVec 32 := Scalar.subi c3_i32_636 v728
  let v730 : BitVec 32 := Scalar.muli v74 v729
  let v731 : BitVec 32 := Scalar.addi v726 v730
  let v733 : BitVec 32 := Scalar.addi v732 v731
  let c1_i32_644 : BitVec 32 := 1#32
  let v734 : BitVec 32 := Scalar.muli v733 c1_i32_644
  let v735 : BitVec 32 := Scalar.addi c0_i32_645 v734
  v735.toNat
def k0_off25 (d0 : Dev nD) : Fin 3 → Nat :=
  let c0_693 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c512_i32 : BitVec 32 := 512#32
  let v144 : BitVec 32 := Scalar.muli v57 c512_i32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c256_i32_373 : BitVec 32 := 256#32
  let v468 : BitVec 32 := Scalar.muli v74 c256_i32_373
  let v469 : BitVec 32 := Scalar.addi v144 v468
  let v785 : BitVec 32 := Scalar.subi v469 v144
  let v786 : Index := Scalar.indexCast v785
  let c0_694 : Index := 0#32
  ![0, v786.toNat, 0]
def k0_dev16 (d0 : Dev nD) : Nat :=
  let c0_i32_717 : BitVec 32 := 0#32
  let c1_i32_711 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v803 : BitVec 32 := Scalar.subi c1_i32_711 v19
  let c4_i32_712 : BitVec 32 := 4#32
  let v804 : BitVec 32 := Scalar.muli v803 c4_i32_712
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v805 : BitVec 32 := Scalar.addi v804 v29
  let c1_i32_716 : BitVec 32 := 1#32
  let v808 : BitVec 32 := Scalar.muli v805 c1_i32_716
  let v809 : BitVec 32 := Scalar.addi c0_i32_717 v808
  v809.toNat
def k0_off26 (d0 : Dev nD) : Fin 3 → Nat :=
  let c0_724 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c512_i32 : BitVec 32 := 512#32
  let v144 : BitVec 32 := Scalar.muli v57 c512_i32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c256_i32_373 : BitVec 32 := 256#32
  let v468 : BitVec 32 := Scalar.muli v74 c256_i32_373
  let v469 : BitVec 32 := Scalar.addi v144 v468
  let c1_i32_718 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v812 : BitVec 32 := Scalar.subi c1_i32_718 v19
  let c128_i32_719 : BitVec 32 := 128#32
  let v813 : BitVec 32 := Scalar.muli v812 c128_i32_719
  let v814 : BitVec 32 := Scalar.addi v469 v813
  let v817 : BitVec 32 := Scalar.subi v814 v144
  let v818 : Index := Scalar.indexCast v817
  let c0_725 : Index := 0#32
  ![0, v818.toNat, 0]
def k0_dev17 (d0 : Dev nD) : Nat :=
  let c0_i32_738 : BitVec 32 := 0#32
  let c1_i32_729 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v825 : BitVec 32 := Scalar.subi c1_i32_729 v19
  let c4_i32_730 : BitVec 32 := 4#32
  let v826 : BitVec 32 := Scalar.muli v825 c4_i32_730
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v827 : BitVec 32 := Scalar.addi v826 v29
  let c1_i32_737 : BitVec 32 := 1#32
  let v828 : BitVec 32 := Scalar.muli v827 c1_i32_737
  let v829 : BitVec 32 := Scalar.addi c0_i32_738 v828
  v829.toNat
def k0_off27 (d0 : Dev nD) : Fin 3 → Nat :=
  let c1_755 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c512_i32_88 : BitVec 32 := 512#32
  let v150 : BitVec 32 := Scalar.muli v74 c512_i32_88
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_497 : BitVec 32 := 256#32
  let v591 : BitVec 32 := Scalar.muli v19 c256_i32_497
  let v592 : BitVec 32 := Scalar.addi v150 v591
  let v846 : BitVec 32 := Scalar.subi v592 v150
  let v847 : Index := Scalar.indexCast v846
  let c0_756 : Index := 0#32
  ![1, v847.toNat, 0]
def k0_dev18 (d0 : Dev nD) : Nat :=
  let c0_i32_782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_777 : BitVec 32 := 4#32
  let v870 : BitVec 32 := Scalar.muli v19 c4_i32_777
  let c1_i32_773 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v864 : BitVec 32 := Scalar.subi c1_i32_773 v57
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c3_i32_776 : BitVec 32 := 3#32
  let c2_i32_775 : BitVec 32 := 2#32
  let c1_i32_774 : BitVec 32 := 1#32
  let v865 : BitVec 32 := Scalar.subi c1_i32_774 v57
  let v866 : BitVec 32 := Scalar.muli c2_i32_775 v865
  let v867 : BitVec 32 := Scalar.subi c3_i32_776 v866
  let v868 : BitVec 32 := Scalar.muli v74 v867
  let v869 : BitVec 32 := Scalar.addi v864 v868
  let v871 : BitVec 32 := Scalar.addi v870 v869
  let c1_i32_781 : BitVec 32 := 1#32
  let v874 : BitVec 32 := Scalar.muli v871 c1_i32_781
  let v875 : BitVec 32 := Scalar.addi c0_i32_782 v874
  v875.toNat
def k0_off28 (d0 : Dev nD) : Fin 3 → Nat :=
  let c1_790 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c512_i32_88 : BitVec 32 := 512#32
  let v150 : BitVec 32 := Scalar.muli v74 c512_i32_88
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_497 : BitVec 32 := 256#32
  let v591 : BitVec 32 := Scalar.muli v19 c256_i32_497
  let v592 : BitVec 32 := Scalar.addi v150 v591
  let c1_i32_784 : BitVec 32 := 1#32
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v878 : BitVec 32 := Scalar.subi c1_i32_784 v57
  let c128_i32_785 : BitVec 32 := 128#32
  let v879 : BitVec 32 := Scalar.muli v878 c128_i32_785
  let v880 : BitVec 32 := Scalar.addi v592 v879
  let v883 : BitVec 32 := Scalar.subi v880 v150
  let v884 : Index := Scalar.indexCast v883
  let c0_791 : Index := 0#32
  ![1, v884.toNat, 0]
def k0_dev19 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_799 : BitVec 32 := 4#32
  let v897 : BitVec 32 := Scalar.muli v19 c4_i32_799
  let c1_i32_795 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v891 : BitVec 32 := Scalar.subi c1_i32_795 v57
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c3_i32_798 : BitVec 32 := 3#32
  let c2_i32_797 : BitVec 32 := 2#32
  let c1_i32_796 : BitVec 32 := 1#32
  let v892 : BitVec 32 := Scalar.subi c1_i32_796 v57
  let v893 : BitVec 32 := Scalar.muli c2_i32_797 v892
  let v894 : BitVec 32 := Scalar.subi c3_i32_798 v893
  let v895 : BitVec 32 := Scalar.muli v74 v894
  let v896 : BitVec 32 := Scalar.addi v891 v895
  let v898 : BitVec 32 := Scalar.addi v897 v896
  let c1_i32_806 : BitVec 32 := 1#32
  let v899 : BitVec 32 := Scalar.muli v898 c1_i32_806
  let v900 : BitVec 32 := Scalar.addi c0_i32_807 v899
  v900.toNat
def k0_off29 (d0 : Dev nD) : Fin 3 → Nat :=
  let c2_824 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_94 : BitVec 32 := 512#32
  let v156 : BitVec 32 := Scalar.muli v19 c512_i32_94
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c256_i32_623 : BitVec 32 := 256#32
  let v715 : BitVec 32 := Scalar.muli v57 c256_i32_623
  let v716 : BitVec 32 := Scalar.addi v156 v715
  let v917 : BitVec 32 := Scalar.subi v716 v156
  let v918 : Index := Scalar.indexCast v917
  let c0_825 : Index := 0#32
  ![2, v918.toNat, 0]
def k0_dev20 (d0 : Dev nD) : Nat :=
  let c0_i32_850 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_845 : BitVec 32 := 4#32
  let v940 : BitVec 32 := Scalar.muli v19 c4_i32_845
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c1_i32_842 : BitVec 32 := 1#32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v935 : BitVec 32 := Scalar.subi c1_i32_842 v74
  let c3_i32_844 : BitVec 32 := 3#32
  let c2_i32_843 : BitVec 32 := 2#32
  let v936 : BitVec 32 := Scalar.muli c2_i32_843 v57
  let v937 : BitVec 32 := Scalar.subi c3_i32_844 v936
  let v938 : BitVec 32 := Scalar.muli v935 v937
  let v939 : BitVec 32 := Scalar.addi v57 v938
  let v941 : BitVec 32 := Scalar.addi v940 v939
  let c1_i32_849 : BitVec 32 := 1#32
  let v944 : BitVec 32 := Scalar.muli v941 c1_i32_849
  let v945 : BitVec 32 := Scalar.addi c0_i32_850 v944
  v945.toNat
def k0_off30 (d0 : Dev nD) : Fin 3 → Nat :=
  let c2_858 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_94 : BitVec 32 := 512#32
  let v156 : BitVec 32 := Scalar.muli v19 c512_i32_94
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c256_i32_623 : BitVec 32 := 256#32
  let v715 : BitVec 32 := Scalar.muli v57 c256_i32_623
  let v716 : BitVec 32 := Scalar.addi v156 v715
  let c1_i32_852 : BitVec 32 := 1#32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v948 : BitVec 32 := Scalar.subi c1_i32_852 v74
  let c128_i32_853 : BitVec 32 := 128#32
  let v949 : BitVec 32 := Scalar.muli v948 c128_i32_853
  let v950 : BitVec 32 := Scalar.addi v716 v949
  let v953 : BitVec 32 := Scalar.subi v950 v156
  let v954 : Index := Scalar.indexCast v953
  let c0_859 : Index := 0#32
  ![2, v954.toNat, 0]
def k0_dev21 (d0 : Dev nD) : Nat :=
  let c0_i32_874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_866 : BitVec 32 := 4#32
  let v966 : BitVec 32 := Scalar.muli v19 c4_i32_866
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c1_i32_863 : BitVec 32 := 1#32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v961 : BitVec 32 := Scalar.subi c1_i32_863 v74
  let c3_i32_865 : BitVec 32 := 3#32
  let c2_i32_864 : BitVec 32 := 2#32
  let v962 : BitVec 32 := Scalar.muli c2_i32_864 v57
  let v963 : BitVec 32 := Scalar.subi c3_i32_865 v962
  let v964 : BitVec 32 := Scalar.muli v961 v963
  let v965 : BitVec 32 := Scalar.addi v57 v964
  let v967 : BitVec 32 := Scalar.addi v966 v965
  let c1_i32_873 : BitVec 32 := 1#32
  let v968 : BitVec 32 := Scalar.muli v967 c1_i32_873
  let v969 : BitVec 32 := Scalar.addi c0_i32_874 v968
  v969.toNat
def k0_off31 (d0 : Dev nD) : Fin 3 → Nat :=
  let c0_891 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c512_i32 : BitVec 32 := 512#32
  let v144 : BitVec 32 := Scalar.muli v57 c512_i32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c256_i32_373 : BitVec 32 := 256#32
  let v468 : BitVec 32 := Scalar.muli v74 c256_i32_373
  let v469 : BitVec 32 := Scalar.addi v144 v468
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c128_i32 : BitVec 32 := 128#32
  let v810 : BitVec 32 := Scalar.muli v19 c128_i32
  let v811 : BitVec 32 := Scalar.addi v469 v810
  let v986 : BitVec 32 := Scalar.subi v811 v144
  let v987 : Index := Scalar.indexCast v986
  let c0_892 : Index := 0#32
  ![0, v987.toNat, 0]
def k0_dev22 (d0 : Dev nD) : Nat :=
  let c0_i32_915 : BitVec 32 := 0#32
  let c1_i32_909 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1004 : BitVec 32 := Scalar.subi c1_i32_909 v19
  let c4_i32_910 : BitVec 32 := 4#32
  let v1005 : BitVec 32 := Scalar.muli v1004 c4_i32_910
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1006 : BitVec 32 := Scalar.addi v1005 v29
  let c1_i32_914 : BitVec 32 := 1#32
  let v1009 : BitVec 32 := Scalar.muli v1006 c1_i32_914
  let v1010 : BitVec 32 := Scalar.addi c0_i32_915 v1009
  v1010.toNat
def k0_off32 (d0 : Dev nD) : Fin 3 → Nat :=
  let c1_928 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c512_i32_88 : BitVec 32 := 512#32
  let v150 : BitVec 32 := Scalar.muli v74 c512_i32_88
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c256_i32_497 : BitVec 32 := 256#32
  let v591 : BitVec 32 := Scalar.muli v19 c256_i32_497
  let v592 : BitVec 32 := Scalar.addi v150 v591
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c128_i32_783 : BitVec 32 := 128#32
  let v876 : BitVec 32 := Scalar.muli v57 c128_i32_783
  let v877 : BitVec 32 := Scalar.addi v592 v876
  let v1019 : BitVec 32 := Scalar.subi v877 v150
  let v1020 : Index := Scalar.indexCast v1019
  let c0_929 : Index := 0#32
  ![1, v1020.toNat, 0]
def k0_dev23 (d0 : Dev nD) : Nat :=
  let c0_i32_955 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_950 : BitVec 32 := 4#32
  let v1043 : BitVec 32 := Scalar.muli v19 c4_i32_950
  let c1_i32_946 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v1037 : BitVec 32 := Scalar.subi c1_i32_946 v57
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c3_i32_949 : BitVec 32 := 3#32
  let c2_i32_948 : BitVec 32 := 2#32
  let c1_i32_947 : BitVec 32 := 1#32
  let v1038 : BitVec 32 := Scalar.subi c1_i32_947 v57
  let v1039 : BitVec 32 := Scalar.muli c2_i32_948 v1038
  let v1040 : BitVec 32 := Scalar.subi c3_i32_949 v1039
  let v1041 : BitVec 32 := Scalar.muli v74 v1040
  let v1042 : BitVec 32 := Scalar.addi v1037 v1041
  let v1044 : BitVec 32 := Scalar.addi v1043 v1042
  let c1_i32_954 : BitVec 32 := 1#32
  let v1047 : BitVec 32 := Scalar.muli v1044 c1_i32_954
  let v1048 : BitVec 32 := Scalar.addi c0_i32_955 v1047
  v1048.toNat
def k0_off33 (d0 : Dev nD) : Fin 3 → Nat :=
  let c2_968 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_94 : BitVec 32 := 512#32
  let v156 : BitVec 32 := Scalar.muli v19 c512_i32_94
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c256_i32_623 : BitVec 32 := 256#32
  let v715 : BitVec 32 := Scalar.muli v57 c256_i32_623
  let v716 : BitVec 32 := Scalar.addi v156 v715
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c128_i32_851 : BitVec 32 := 128#32
  let v946 : BitVec 32 := Scalar.muli v74 c128_i32_851
  let v947 : BitVec 32 := Scalar.addi v716 v946
  let v1057 : BitVec 32 := Scalar.subi v947 v156
  let v1058 : Index := Scalar.indexCast v1057
  let c0_969 : Index := 0#32
  ![2, v1058.toNat, 0]
def k0_dev24 (d0 : Dev nD) : Nat :=
  let c0_i32_994 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_989 : BitVec 32 := 4#32
  let v1080 : BitVec 32 := Scalar.muli v19 c4_i32_989
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c1_i32_986 : BitVec 32 := 1#32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v1075 : BitVec 32 := Scalar.subi c1_i32_986 v74
  let c3_i32_988 : BitVec 32 := 3#32
  let c2_i32_987 : BitVec 32 := 2#32
  let v1076 : BitVec 32 := Scalar.muli c2_i32_987 v57
  let v1077 : BitVec 32 := Scalar.subi c3_i32_988 v1076
  let v1078 : BitVec 32 := Scalar.muli v1075 v1077
  let v1079 : BitVec 32 := Scalar.addi v57 v1078
  let v1081 : BitVec 32 := Scalar.addi v1080 v1079
  let c1_i32_993 : BitVec 32 := 1#32
  let v1084 : BitVec 32 := Scalar.muli v1081 c1_i32_993
  let v1085 : BitVec 32 := Scalar.addi c0_i32_994 v1084
  v1085.toNat
def k0_dev25 (d0 : Dev nD) : Nat :=
  let c0_i32_1013 : BitVec 32 := 0#32
  let c1_i32_1004 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1096 : BitVec 32 := Scalar.subi c1_i32_1004 v19
  let c4_i32_1005 : BitVec 32 := 4#32
  let v1097 : BitVec 32 := Scalar.muli v1096 c4_i32_1005
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1098 : BitVec 32 := Scalar.addi v1097 v29
  let c1_i32_1012 : BitVec 32 := 1#32
  let v1099 : BitVec 32 := Scalar.muli v1098 c1_i32_1012
  let v1100 : BitVec 32 := Scalar.addi c0_i32_1013 v1099
  v1100.toNat
def k0_dev26 (d0 : Dev nD) : Nat :=
  let c0_i32_1039 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1031 : BitVec 32 := 4#32
  let v1125 : BitVec 32 := Scalar.muli v19 c4_i32_1031
  let c1_i32_1027 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v1119 : BitVec 32 := Scalar.subi c1_i32_1027 v57
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c3_i32_1030 : BitVec 32 := 3#32
  let c2_i32_1029 : BitVec 32 := 2#32
  let c1_i32_1028 : BitVec 32 := 1#32
  let v1120 : BitVec 32 := Scalar.subi c1_i32_1028 v57
  let v1121 : BitVec 32 := Scalar.muli c2_i32_1029 v1120
  let v1122 : BitVec 32 := Scalar.subi c3_i32_1030 v1121
  let v1123 : BitVec 32 := Scalar.muli v74 v1122
  let v1124 : BitVec 32 := Scalar.addi v1119 v1123
  let v1126 : BitVec 32 := Scalar.addi v1125 v1124
  let c1_i32_1038 : BitVec 32 := 1#32
  let v1127 : BitVec 32 := Scalar.muli v1126 c1_i32_1038
  let v1128 : BitVec 32 := Scalar.addi c0_i32_1039 v1127
  v1128.toNat
def k0_dev27 (d0 : Dev nD) : Nat :=
  let c0_i32_1064 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1056 : BitVec 32 := 4#32
  let v1152 : BitVec 32 := Scalar.muli v19 c4_i32_1056
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c1_i32_1053 : BitVec 32 := 1#32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v1147 : BitVec 32 := Scalar.subi c1_i32_1053 v74
  let c3_i32_1055 : BitVec 32 := 3#32
  let c2_i32_1054 : BitVec 32 := 2#32
  let v1148 : BitVec 32 := Scalar.muli c2_i32_1054 v57
  let v1149 : BitVec 32 := Scalar.subi c3_i32_1055 v1148
  let v1150 : BitVec 32 := Scalar.muli v1147 v1149
  let v1151 : BitVec 32 := Scalar.addi v57 v1150
  let v1153 : BitVec 32 := Scalar.addi v1152 v1151
  let c1_i32_1063 : BitVec 32 := 1#32
  let v1154 : BitVec 32 := Scalar.muli v1153 c1_i32_1063
  let v1155 : BitVec 32 := Scalar.addi c0_i32_1064 v1154
  v1155.toNat
def k0_dev28 (d0 : Dev nD) : Nat :=
  let c0_i32_1107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1102 : BitVec 32 := 4#32
  let v1194 : BitVec 32 := Scalar.muli v19 c4_i32_1102
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c1_i32_1099 : BitVec 32 := 1#32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v1189 : BitVec 32 := Scalar.subi c1_i32_1099 v74
  let c3_i32_1101 : BitVec 32 := 3#32
  let c2_i32_1100 : BitVec 32 := 2#32
  let v1190 : BitVec 32 := Scalar.muli c2_i32_1100 v57
  let v1191 : BitVec 32 := Scalar.subi c3_i32_1101 v1190
  let v1192 : BitVec 32 := Scalar.muli v1189 v1191
  let v1193 : BitVec 32 := Scalar.addi v57 v1192
  let v1195 : BitVec 32 := Scalar.addi v1194 v1193
  let c1_i32_1106 : BitVec 32 := 1#32
  let v1198 : BitVec 32 := Scalar.muli v1195 c1_i32_1106
  let v1199 : BitVec 32 := Scalar.addi c0_i32_1107 v1198
  v1199.toNat
def k0_dev29 (d0 : Dev nD) : Nat :=
  let c0_i32_1144 : BitVec 32 := 0#32
  let c1_i32_1138 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1225 : BitVec 32 := Scalar.subi c1_i32_1138 v19
  let c4_i32_1139 : BitVec 32 := 4#32
  let v1226 : BitVec 32 := Scalar.muli v1225 c4_i32_1139
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1227 : BitVec 32 := Scalar.addi v1226 v29
  let c1_i32_1143 : BitVec 32 := 1#32
  let v1230 : BitVec 32 := Scalar.muli v1227 c1_i32_1143
  let v1231 : BitVec 32 := Scalar.addi c0_i32_1144 v1230
  v1231.toNat
def k0_dev30 (d0 : Dev nD) : Nat :=
  let c0_i32_1184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1179 : BitVec 32 := 4#32
  let v1263 : BitVec 32 := Scalar.muli v19 c4_i32_1179
  let c1_i32_1175 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v1257 : BitVec 32 := Scalar.subi c1_i32_1175 v57
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c3_i32_1178 : BitVec 32 := 3#32
  let c2_i32_1177 : BitVec 32 := 2#32
  let c1_i32_1176 : BitVec 32 := 1#32
  let v1258 : BitVec 32 := Scalar.subi c1_i32_1176 v57
  let v1259 : BitVec 32 := Scalar.muli c2_i32_1177 v1258
  let v1260 : BitVec 32 := Scalar.subi c3_i32_1178 v1259
  let v1261 : BitVec 32 := Scalar.muli v74 v1260
  let v1262 : BitVec 32 := Scalar.addi v1257 v1261
  let v1264 : BitVec 32 := Scalar.addi v1263 v1262
  let c1_i32_1183 : BitVec 32 := 1#32
  let v1267 : BitVec 32 := Scalar.muli v1264 c1_i32_1183
  let v1268 : BitVec 32 := Scalar.addi c0_i32_1184 v1267
  v1268.toNat
def k0_dev31 (d0 : Dev nD) : Nat :=
  let c0_i32_1205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1197 : BitVec 32 := 4#32
  let v1284 : BitVec 32 := Scalar.muli v19 c4_i32_1197
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c1_i32_1194 : BitVec 32 := 1#32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v1279 : BitVec 32 := Scalar.subi c1_i32_1194 v74
  let c3_i32_1196 : BitVec 32 := 3#32
  let c2_i32_1195 : BitVec 32 := 2#32
  let v1280 : BitVec 32 := Scalar.muli c2_i32_1195 v57
  let v1281 : BitVec 32 := Scalar.subi c3_i32_1196 v1280
  let v1282 : BitVec 32 := Scalar.muli v1279 v1281
  let v1283 : BitVec 32 := Scalar.addi v57 v1282
  let v1285 : BitVec 32 := Scalar.addi v1284 v1283
  let c1_i32_1204 : BitVec 32 := 1#32
  let v1286 : BitVec 32 := Scalar.muli v1285 c1_i32_1204
  let v1287 : BitVec 32 := Scalar.addi c0_i32_1205 v1286
  v1287.toNat
def k0_dev32 (d0 : Dev nD) : Nat :=
  let c0_i32_1228 : BitVec 32 := 0#32
  let c1_i32_1219 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1306 : BitVec 32 := Scalar.subi c1_i32_1219 v19
  let c4_i32_1220 : BitVec 32 := 4#32
  let v1307 : BitVec 32 := Scalar.muli v1306 c4_i32_1220
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1308 : BitVec 32 := Scalar.addi v1307 v29
  let c1_i32_1227 : BitVec 32 := 1#32
  let v1309 : BitVec 32 := Scalar.muli v1308 c1_i32_1227
  let v1310 : BitVec 32 := Scalar.addi c0_i32_1228 v1309
  v1310.toNat
def k0_dev33 (d0 : Dev nD) : Nat :=
  let c0_i32_1254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1246 : BitVec 32 := 4#32
  let v1335 : BitVec 32 := Scalar.muli v19 c4_i32_1246
  let c1_i32_1242 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v1329 : BitVec 32 := Scalar.subi c1_i32_1242 v57
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c3_i32_1245 : BitVec 32 := 3#32
  let c2_i32_1244 : BitVec 32 := 2#32
  let c1_i32_1243 : BitVec 32 := 1#32
  let v1330 : BitVec 32 := Scalar.subi c1_i32_1243 v57
  let v1331 : BitVec 32 := Scalar.muli c2_i32_1244 v1330
  let v1332 : BitVec 32 := Scalar.subi c3_i32_1245 v1331
  let v1333 : BitVec 32 := Scalar.muli v74 v1332
  let v1334 : BitVec 32 := Scalar.addi v1329 v1333
  let v1336 : BitVec 32 := Scalar.addi v1335 v1334
  let c1_i32_1253 : BitVec 32 := 1#32
  let v1337 : BitVec 32 := Scalar.muli v1336 c1_i32_1253
  let v1338 : BitVec 32 := Scalar.addi c0_i32_1254 v1337
  v1338.toNat
def k0_off34 (d0 : Dev nD) : Fin 3 → Nat :=
  let c0_1287 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c512_i32 : BitVec 32 := 512#32
  let v144 : BitVec 32 := Scalar.muli v57 c512_i32
  let c1_i32_1282 : BitVec 32 := 1#32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v1361 : BitVec 32 := Scalar.subi c1_i32_1282 v74
  let c256_i32_1283 : BitVec 32 := 256#32
  let v1362 : BitVec 32 := Scalar.muli v1361 c256_i32_1283
  let v1363 : BitVec 32 := Scalar.addi v144 v1362
  let v1367 : BitVec 32 := Scalar.subi v1363 v144
  let v1368 : Index := Scalar.indexCast v1367
  let c0_1288 : Index := 0#32
  ![0, v1368.toNat, 0]
def k0_dev34 (d0 : Dev nD) : Nat :=
  let c0_i32_1298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1293 : BitVec 32 := 4#32
  let v1378 : BitVec 32 := Scalar.muli v19 c4_i32_1293
  let c1_i32_1289 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v1372 : BitVec 32 := Scalar.subi c1_i32_1289 v57
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c3_i32_1292 : BitVec 32 := 3#32
  let c2_i32_1291 : BitVec 32 := 2#32
  let c1_i32_1290 : BitVec 32 := 1#32
  let v1373 : BitVec 32 := Scalar.subi c1_i32_1290 v57
  let v1374 : BitVec 32 := Scalar.muli c2_i32_1291 v1373
  let v1375 : BitVec 32 := Scalar.subi c3_i32_1292 v1374
  let v1376 : BitVec 32 := Scalar.muli v74 v1375
  let v1377 : BitVec 32 := Scalar.addi v1372 v1376
  let v1379 : BitVec 32 := Scalar.addi v1378 v1377
  let c1_i32_1297 : BitVec 32 := 1#32
  let v1382 : BitVec 32 := Scalar.muli v1379 c1_i32_1297
  let v1383 : BitVec 32 := Scalar.addi c0_i32_1298 v1382
  v1383.toNat
def k0_off35 (d0 : Dev nD) : Fin 3 → Nat :=
  let c1_1327 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c512_i32_88 : BitVec 32 := 512#32
  let v150 : BitVec 32 := Scalar.muli v74 c512_i32_88
  let c1_i32_1322 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1398 : BitVec 32 := Scalar.subi c1_i32_1322 v19
  let c256_i32_1323 : BitVec 32 := 256#32
  let v1399 : BitVec 32 := Scalar.muli v1398 c256_i32_1323
  let v1400 : BitVec 32 := Scalar.addi v150 v1399
  let v1404 : BitVec 32 := Scalar.subi v1400 v150
  let v1405 : Index := Scalar.indexCast v1404
  let c0_1328 : Index := 0#32
  ![1, v1405.toNat, 0]
def k0_dev35 (d0 : Dev nD) : Nat :=
  let c0_i32_1337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1332 : BitVec 32 := 4#32
  let v1414 : BitVec 32 := Scalar.muli v19 c4_i32_1332
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c1_i32_1329 : BitVec 32 := 1#32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v1409 : BitVec 32 := Scalar.subi c1_i32_1329 v74
  let c3_i32_1331 : BitVec 32 := 3#32
  let c2_i32_1330 : BitVec 32 := 2#32
  let v1410 : BitVec 32 := Scalar.muli c2_i32_1330 v57
  let v1411 : BitVec 32 := Scalar.subi c3_i32_1331 v1410
  let v1412 : BitVec 32 := Scalar.muli v1409 v1411
  let v1413 : BitVec 32 := Scalar.addi v57 v1412
  let v1415 : BitVec 32 := Scalar.addi v1414 v1413
  let c1_i32_1336 : BitVec 32 := 1#32
  let v1418 : BitVec 32 := Scalar.muli v1415 c1_i32_1336
  let v1419 : BitVec 32 := Scalar.addi c0_i32_1337 v1418
  v1419.toNat
def k0_off36 (d0 : Dev nD) : Fin 3 → Nat :=
  let c2_1366 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_94 : BitVec 32 := 512#32
  let v156 : BitVec 32 := Scalar.muli v19 c512_i32_94
  let c1_i32_1361 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v1434 : BitVec 32 := Scalar.subi c1_i32_1361 v57
  let c256_i32_1362 : BitVec 32 := 256#32
  let v1435 : BitVec 32 := Scalar.muli v1434 c256_i32_1362
  let v1436 : BitVec 32 := Scalar.addi v156 v1435
  let v1440 : BitVec 32 := Scalar.subi v1436 v156
  let v1441 : Index := Scalar.indexCast v1440
  let c0_1367 : Index := 0#32
  ![2, v1441.toNat, 0]
def k0_dev36 (d0 : Dev nD) : Nat :=
  let c0_i32_1374 : BitVec 32 := 0#32
  let c1_i32_1368 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1445 : BitVec 32 := Scalar.subi c1_i32_1368 v19
  let c4_i32_1369 : BitVec 32 := 4#32
  let v1446 : BitVec 32 := Scalar.muli v1445 c4_i32_1369
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1447 : BitVec 32 := Scalar.addi v1446 v29
  let c1_i32_1373 : BitVec 32 := 1#32
  let v1450 : BitVec 32 := Scalar.muli v1447 c1_i32_1373
  let v1451 : BitVec 32 := Scalar.addi c0_i32_1374 v1450
  v1451.toNat
def k0_off37 (d0 : Dev nD) : Fin 3 → Nat :=
  let c0_1379 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c512_i32 : BitVec 32 := 512#32
  let v144 : BitVec 32 := Scalar.muli v57 c512_i32
  let v1452 : BitVec 32 := Scalar.subi v144 v144
  let v1455 : Index := Scalar.indexCast v1452
  let c0_1380 : Index := 0#32
  ![0, v1455.toNat, 0]
def k0_dev37 (d0 : Dev nD) : Nat :=
  let c0_i32_1396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1388 : BitVec 32 := 4#32
  let v1468 : BitVec 32 := Scalar.muli v19 c4_i32_1388
  let c1_i32_1384 : BitVec 32 := 1#32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v1462 : BitVec 32 := Scalar.subi c1_i32_1384 v57
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c3_i32_1387 : BitVec 32 := 3#32
  let c2_i32_1386 : BitVec 32 := 2#32
  let c1_i32_1385 : BitVec 32 := 1#32
  let v1463 : BitVec 32 := Scalar.subi c1_i32_1385 v57
  let v1464 : BitVec 32 := Scalar.muli c2_i32_1386 v1463
  let v1465 : BitVec 32 := Scalar.subi c3_i32_1387 v1464
  let v1466 : BitVec 32 := Scalar.muli v74 v1465
  let v1467 : BitVec 32 := Scalar.addi v1462 v1466
  let v1469 : BitVec 32 := Scalar.addi v1468 v1467
  let c1_i32_1395 : BitVec 32 := 1#32
  let v1470 : BitVec 32 := Scalar.muli v1469 c1_i32_1395
  let v1471 : BitVec 32 := Scalar.addi c0_i32_1396 v1470
  v1471.toNat
def k0_off38 (d0 : Dev nD) : Fin 2 → Nat :=
  let c0_i32_1401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c512_i32 : BitVec 32 := 512#32
  let v144 : BitVec 32 := Scalar.muli v57 c512_i32
  let v1480 : BitVec 32 := Scalar.addi c0_i32_1401 v144
  let c0_i32_1404 : BitVec 32 := 0#32
  ![v1480.toNat, 0]
def k0_off39 (d0 : Dev nD) : Fin 3 → Nat :=
  let c1_1411 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c512_i32_88 : BitVec 32 := 512#32
  let v150 : BitVec 32 := Scalar.muli v74 c512_i32_88
  let v1486 : BitVec 32 := Scalar.subi v150 v150
  let v1489 : Index := Scalar.indexCast v1486
  let c0_1412 : Index := 0#32
  ![1, v1489.toNat, 0]
def k0_dev38 (d0 : Dev nD) : Nat :=
  let c0_i32_1427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1419 : BitVec 32 := 4#32
  let v1501 : BitVec 32 := Scalar.muli v19 c4_i32_1419
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let c1_i32_1416 : BitVec 32 := 1#32
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v1496 : BitVec 32 := Scalar.subi c1_i32_1416 v74
  let c3_i32_1418 : BitVec 32 := 3#32
  let c2_i32_1417 : BitVec 32 := 2#32
  let v1497 : BitVec 32 := Scalar.muli c2_i32_1417 v57
  let v1498 : BitVec 32 := Scalar.subi c3_i32_1418 v1497
  let v1499 : BitVec 32 := Scalar.muli v1496 v1498
  let v1500 : BitVec 32 := Scalar.addi v57 v1499
  let v1502 : BitVec 32 := Scalar.addi v1501 v1500
  let c1_i32_1426 : BitVec 32 := 1#32
  let v1503 : BitVec 32 := Scalar.muli v1502 c1_i32_1426
  let v1504 : BitVec 32 := Scalar.addi c0_i32_1427 v1503
  v1504.toNat
def k0_off40 (d0 : Dev nD) : Fin 2 → Nat :=
  let c1024_i32_1432 : BitVec 32 := 1024#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let c512_i32_88 : BitVec 32 := 512#32
  let v150 : BitVec 32 := Scalar.muli v74 c512_i32_88
  let v1513 : BitVec 32 := Scalar.addi c1024_i32_1432 v150
  let c0_i32_1435 : BitVec 32 := 0#32
  ![v1513.toNat, 0]
def k0_off41 (d0 : Dev nD) : Fin 3 → Nat :=
  let c2_1442 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_94 : BitVec 32 := 512#32
  let v156 : BitVec 32 := Scalar.muli v19 c512_i32_94
  let v1519 : BitVec 32 := Scalar.subi v156 v156
  let v1522 : Index := Scalar.indexCast v1519
  let c0_1443 : Index := 0#32
  ![2, v1522.toNat, 0]
def k0_dev39 (d0 : Dev nD) : Nat :=
  let c0_i32_1456 : BitVec 32 := 0#32
  let c1_i32_1447 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1529 : BitVec 32 := Scalar.subi c1_i32_1447 v19
  let c4_i32_1448 : BitVec 32 := 4#32
  let v1530 : BitVec 32 := Scalar.muli v1529 c4_i32_1448
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1531 : BitVec 32 := Scalar.addi v1530 v29
  let c1_i32_1455 : BitVec 32 := 1#32
  let v1532 : BitVec 32 := Scalar.muli v1531 c1_i32_1455
  let v1533 : BitVec 32 := Scalar.addi c0_i32_1456 v1532
  v1533.toNat
def k0_off42 (d0 : Dev nD) : Fin 2 → Nat :=
  let c2048_i32_1461 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c512_i32_94 : BitVec 32 := 512#32
  let v156 : BitVec 32 := Scalar.muli v19 c512_i32_94
  let v1542 : BitVec 32 := Scalar.addi c2048_i32_1461 v156
  let c0_i32_1464 : BitVec 32 := 0#32
  ![v1542.toNat, 0]
def k0_off43 (d0 : Dev nD) (c0_i32_1499 : BitVec 32) : Fin 2 → Nat :=
  let c0_i32_1498 : BitVec 32 := 0#32
  let c0_i32_1492 : BitVec 32 := 0#32
  let c1_i32_1490 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_11 : BitVec 32 := 1#32
  let v30 : BitVec 32 := Scalar.addi v29 c1_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c2_i32 : BitVec 32 := 2#32
  let c0_i32_14 : BitVec 32 := 0#32
  let v37 : BitVec 1 := Scalar.cmpi .sgt c2_i32 c0_i32_14
  let v38 : BitVec 32 := Scalar.extui v37
  let c0_i32_15 : BitVec 32 := 0#32
  let v39 : BitVec 1 := Scalar.cmpi .slt c2_i32 c0_i32_15
  let v40 : BitVec 32 := Scalar.extui v39
  let v41 : BitVec 32 := Scalar.subi v38 v40
  let v42 : BitVec 1 := Scalar.cmpi .ne v36 v41
  let v43 : BitVec 32 := Scalar.remsi v30 c2_i32
  let c0_i32_16 : BitVec 32 := 0#32
  let v44 : BitVec 1 := Scalar.cmpi .ne v43 c0_i32_16
  let v45 : BitVec 1 := Scalar.andi v42 v44
  let v31 : BitVec 32 := Scalar.divsi v30 c2_i32
  let c1_i32_17 : BitVec 32 := 1#32
  let v46 : BitVec 32 := Scalar.subi v31 c1_i32_17
  let v47 : BitVec 32 := Scalar.select v45 v46 v31
  let c2_i32_18 : BitVec 32 := 2#32
  let c0_i32_19 : BitVec 32 := 0#32
  let v48 : BitVec 1 := Scalar.cmpi .eq c2_i32_18 c0_i32_19
  let c1_i32_20 : BitVec 32 := 1#32
  let v49 : BitVec 32 := Scalar.select v48 c1_i32_20 c2_i32_18
  let v50 : BitVec 32 := Scalar.remsi v47 v49
  let c0_i32_22 : BitVec 32 := 0#32
  let v52 : BitVec 1 := Scalar.cmpi .slt v50 c0_i32_22
  let c0_i32_23 : BitVec 32 := 0#32
  let v53 : BitVec 1 := Scalar.cmpi .slt v49 c0_i32_23
  let v54 : BitVec 1 := Scalar.xori v52 v53
  let c0_i32_21 : BitVec 32 := 0#32
  let v51 : BitVec 1 := Scalar.cmpi .ne v50 c0_i32_21
  let v55 : BitVec 1 := Scalar.andi v54 v51
  let v56 : BitVec 32 := Scalar.addi v50 v49
  let v57 : BitVec 32 := Scalar.select v55 v56 v50
  let v1562 : BitVec 32 := Scalar.subi c1_i32_1490 v57
  let c512_i32_1491 : BitVec 32 := 512#32
  let v1563 : BitVec 32 := Scalar.muli v1562 c512_i32_1491
  let v1564 : BitVec 32 := Scalar.addi c0_i32_1492 v1563
  let v1571 : BitVec 32 := Scalar.addi c0_i32_1498 v1564
  let v1572 : BitVec 32 := Scalar.addi v1571 c0_i32_1499
  let c0_i32_1501 : BitVec 32 := 0#32
  ![v1572.toNat, 0]
def k0_off44 (d0 : Dev nD) (c0_i32_1555 : BitVec 32) : Fin 2 → Nat :=
  let c1024_i32_1554 : BitVec 32 := 1024#32
  let c0_i32_1548 : BitVec 32 := 0#32
  let c1_i32_1546 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_25 : BitVec 32 := 0#32
  let v59 : BitVec 1 := Scalar.cmpi .sgt v29 c0_i32_25
  let v60 : BitVec 32 := Scalar.extui v59
  let c0_i32_26 : BitVec 32 := 0#32
  let v61 : BitVec 1 := Scalar.cmpi .slt v29 c0_i32_26
  let v62 : BitVec 32 := Scalar.extui v61
  let v63 : BitVec 32 := Scalar.subi v60 v62
  let c2_i32_24 : BitVec 32 := 2#32
  let c0_i32_27 : BitVec 32 := 0#32
  let v64 : BitVec 1 := Scalar.cmpi .sgt c2_i32_24 c0_i32_27
  let v65 : BitVec 32 := Scalar.extui v64
  let c0_i32_28 : BitVec 32 := 0#32
  let v66 : BitVec 1 := Scalar.cmpi .slt c2_i32_24 c0_i32_28
  let v67 : BitVec 32 := Scalar.extui v66
  let v68 : BitVec 32 := Scalar.subi v65 v67
  let v69 : BitVec 1 := Scalar.cmpi .ne v63 v68
  let v70 : BitVec 32 := Scalar.remsi v29 c2_i32_24
  let c0_i32_29 : BitVec 32 := 0#32
  let v71 : BitVec 1 := Scalar.cmpi .ne v70 c0_i32_29
  let v72 : BitVec 1 := Scalar.andi v69 v71
  let v58 : BitVec 32 := Scalar.divsi v29 c2_i32_24
  let c1_i32_30 : BitVec 32 := 1#32
  let v73 : BitVec 32 := Scalar.subi v58 c1_i32_30
  let v74 : BitVec 32 := Scalar.select v72 v73 v58
  let v1611 : BitVec 32 := Scalar.subi c1_i32_1546 v74
  let c512_i32_1547 : BitVec 32 := 512#32
  let v1612 : BitVec 32 := Scalar.muli v1611 c512_i32_1547
  let v1613 : BitVec 32 := Scalar.addi c0_i32_1548 v1612
  let v1620 : BitVec 32 := Scalar.addi c1024_i32_1554 v1613
  let v1621 : BitVec 32 := Scalar.addi v1620 c0_i32_1555
  let c0_i32_1557 : BitVec 32 := 0#32
  ![v1621.toNat, 0]
def k0_off45 (d0 : Dev nD) (c0_i32_1611 : BitVec 32) : Fin 2 → Nat :=
  let c2048_i32_1610 : BitVec 32 := 2048#32
  let c0_i32_1604 : BitVec 32 := 0#32
  let c1_i32_1602 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1660 : BitVec 32 := Scalar.subi c1_i32_1602 v19
  let c512_i32_1603 : BitVec 32 := 512#32
  let v1661 : BitVec 32 := Scalar.muli v1660 c512_i32_1603
  let v1662 : BitVec 32 := Scalar.addi c0_i32_1604 v1661
  let v1669 : BitVec 32 := Scalar.addi c2048_i32_1610 v1662
  let v1670 : BitVec 32 := Scalar.addi v1669 c0_i32_1611
  let c0_i32_1613 : BitVec 32 := 0#32
  ![v1670.toNat, 0]
-- ==== ReferenceIdeal.lean ====
abbrev S3072x12288 : Shape := ⟨2, ![3072, 12288]⟩
abbrev S12288x3072 : Shape := ⟨2, ![12288, 3072]⟩
abbrev S3072x3072 : Shape := ⟨2, ![3072, 3072]⟩

abbrev nBuf : Space → Nat
  | .hbm => 3
  | .vmem => 0
  | .smem => 0
  | _ => 0

abbrev bufTy : (tb : Table) → Fin (tcTables nBuf tb) → BufTy
  | .hbm, ⟨0, _⟩ => ⟨S3072x12288, .f32⟩
  | .hbm, ⟨1, _⟩ => ⟨S12288x3072, .f32⟩
  | .hbm, ⟨2, _⟩ => ⟨S3072x3072, .f32⟩
  | _, _ => ⟨S3072x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Pieces.lean ====
/- Pieces of a buffer held together with what their elements satisfy, and the memory operations of a core on them. -/
module

public import Idealize.ShloMosaic.Lib.Transfers
public import Idealize.ShloMosaic.Lib.Rounds
public import Idealize.ShloMosaic.Lib.ValueLayout
public import Idealize.ShloMosaic.Lib.Tactic

@[expose] public section

noncomputable section

namespace Cert.Pieces

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {U : Type} [URA U]
variable {sp sp' : Space} {s s' : Shape} {e : EltTy}

local notation "𝕄" => MT nD τ sig Unit Val ℕ U ℕ

/-- The elements `S` of the buffer `m` of device `c`, each satisfying `P`. -/
def pc (c : Dev nD) (m : Memref sig .tc sp s e) (S : Finset s.Idx) (P : s.Idx → Val e → Prop) : sProp 𝕄 :=
  iprop(∃ f : Buf Val (m.view.loc (c : Thread nD τ)), ⌜∀ i ∈ S, P i (m.view.read Val f i)⌝
    ∗ (m.view.loc (c : Thread nD τ) ↦[m.view.setOn S]{fullShare} f))

instance pc_storable (c : Dev nD) (m : Memref sig .tc sp s e) (S : Finset s.Idx) (P : s.Idx → Val e → Prop) :
    BI.Storable (upEmb : UEmb _ 𝕄) (pc (U := U) (τ := τ) c m S P) := by unfold pc; infer_instance

/-- The elements of a rectangle are those its own indices name. -/
theorem emb_mem (r : Rect s) (x : r.shape.Idx) : r.emb x ∈ r.set := by
  rw [← Rect.map_emb_univ]; exact Finset.mem_map_of_mem _ (Finset.mem_univ x)
theorem exists_emb (r : Rect s) {i : s.Idx} (h : i ∈ r.set) : ∃ x, r.emb x = i := by
  rw [← Rect.map_emb_univ] at h
  obtain ⟨x, -, hx⟩ := Finset.mem_map.mp h
  exact ⟨x, hx⟩

section Laws

variable {c : Dev nD} {m : Memref sig .tc sp s e} {S T : Finset s.Idx} {P P' : s.Idx → Val e → Prop}

/-- A piece satisfies whatever follows from what it is known to satisfy. -/
theorem pc_mono (h : ∀ i ∈ S, ∀ v, P i v → P' i v) : (pc c m S P : sProp 𝕄) ⊢ pc c m S P' := by
  unfold pc
  iintro ⟨%f, %hf, H⟩
  iexists f
  isplitr
  · ipureintro; exact fun i hi => h i hi _ (hf i hi)
  · iexact H

/-- A piece splits into two disjoint ones, -/
theorem pc_split (hd : Disjoint S T) : (pc c m (S ∪ T) P : sProp 𝕄) ⊢ iprop(pc c m S P ∗ pc c m T P) := by
  unfold pc
  iintro ⟨%f, %hf, H⟩
  have e1 : m.view.setOn (S ∪ T) = m.view.setOn S ∪ m.view.setOn T := Finset.map_union _ _
  have hd' : Disjoint (m.view.setOn S) (m.view.setOn T) := (Finset.disjoint_map _).mpr hd
  rw [e1]
  ihave H := (pointsTo_union hd').1 $$ H
  icases H with ⟨H1, H2⟩
  isplitl [H1]
  · iexists f
    isplitr
    · ipureintro; exact fun i hi => hf i (Finset.mem_union_left _ hi)
    · iexact H1
  · iexists f
    isplitr
    · ipureintro; exact fun i hi => hf i (Finset.mem_union_right _ hi)
    · iexact H2

/-- and two disjoint pieces make one. -/
theorem pc_join (hd : Disjoint S T) : iprop(pc c m S P ∗ pc c m T P) ⊢ (pc c m (S ∪ T) P : sProp 𝕄) := by
  unfold pc
  iintro ⟨⟨%f, %hf, H1⟩, ⟨%g, %hg, H2⟩⟩
  have e1 : m.view.setOn (S ∪ T) = m.view.setOn S ∪ m.view.setOn T := Finset.map_union _ _
  have hd' : Disjoint (m.view.setOn S) (m.view.setOn T) := (Finset.disjoint_map _).mpr hd
  iexists ((m.view.setOn T).piecewise g f)
  isplitr
  · ipureintro
    intro i hi
    rcases Finset.mem_union.mp hi with h | h
    · rw [View.read_congr_at (f := (m.view.setOn T).piecewise g f) (g := f) i
        (Finset.piecewise_eq_of_notMem _ _ _ (fun h' => Finset.disjoint_left.mp hd h (m.view.mem_setOn.mp h')))]
      exact hf i h
    · rw [View.read_congr_at (f := (m.view.setOn T).piecewise g f) (g := g) i
        (Finset.piecewise_eq_of_mem _ _ _ (m.view.mem_setOn.mpr h))]
      exact hg i h
  · rw [e1]
    iapply (pointsTo_join hd')
    isplitl [H1] <;> iassumption

/-- A piece of a buffer held whole at known contents. -/
theorem pc_of_pointsTo {f : Buf Val (m.view.loc (c : Thread nD τ))} (h : ∀ i ∈ S, P i (m.view.read Val f i)) :
    (m.view.loc (c : Thread nD τ) ↦[m.view.setOn S]{fullShare} f) ⊢ (pc c m S P : sProp 𝕄) := by
  unfold pc
  iintro H
  iexists f
  isplitr
  · ipureintro; exact h
  · iexact H

/-- The rectangle of a piece, taken as a memref of its own with its unit axes dropped; and back. -/
theorem slab_of_pc (r : Rect s) (h : ∀ a, r.stride a = 1) (hs : r.shape.Squeezes s') {R : s'.Idx → Val e → Prop}
    (hR : ∀ j v, P (r.emb (Shape.reshapeEquiv hs.numel_eq j)) v → R j v) :
    (pc c m r.set P : sProp 𝕄) ⊢ pc c ((m.slice r h).squeeze s' hs) Finset.univ R := by
  unfold pc
  iintro ⟨%f, %hf, H⟩
  iexists f
  isplitr
  · ipureintro
    intro j _
    exact hR j _ (hf _ (emb_mem r _))
  · have e1 : ((m.slice r h).squeeze s' hs).view.setOn Finset.univ = m.view.setOn r.set :=
      ((m.view.slice r).set_reshape hs.numel_eq).trans (m.view.set_slice r)
    rw [e1]
    iexact H

theorem pc_of_slab (r : Rect s) (h : ∀ a, r.stride a = 1) (hs : r.shape.Squeezes s') {R : s'.Idx → Val e → Prop}
    (hR : ∀ j v, R j v → P (r.emb (Shape.reshapeEquiv hs.numel_eq j)) v) :
    (pc c ((m.slice r h).squeeze s' hs) Finset.univ R : sProp 𝕄) ⊢ pc c m r.set P := by
  unfold pc
  iintro ⟨%f, %hf, H⟩
  iexists f
  isplitr
  · ipureintro
    intro i hi
    obtain ⟨x, rfl⟩ := exists_emb r hi
    obtain ⟨y, rfl⟩ := (Shape.reshapeEquiv hs.numel_eq).surjective x
    exact hR y _ (hf y (Finset.mem_univ _))
  · have e1 : ((m.slice r h).squeeze s' hs).view.setOn Finset.univ = m.view.setOn r.set :=
      ((m.view.slice r).set_reshape hs.numel_eq).trans (m.view.set_slice r)
    rw [e1]
    iexact H

/-- The same of a rectangle taken without dropping axes. -/
theorem slice_of_pc (r : Rect s) (h : ∀ a, r.stride a = 1) {R : r.shape.Idx → Val e → Prop}
    (hR : ∀ j v, P (r.emb j) v → R j v) :
    (pc c m r.set P : sProp 𝕄) ⊢ pc c (m.slice r h) Finset.univ R := by
  unfold pc
  iintro ⟨%f, %hf, H⟩
  iexists f
  isplitr
  · ipureintro
    intro j _
    exact hR j _ (hf _ (emb_mem r _))
  · have e1 : (m.slice r h).view.setOn Finset.univ = m.view.setOn r.set := m.view.set_slice r
    rw [e1]
    iexact H

theorem pc_of_slice (r : Rect s) (h : ∀ a, r.stride a = 1) {R : r.shape.Idx → Val e → Prop}
    (hR : ∀ j v, R j v → P (r.emb j) v) :
    (pc c (m.slice r h) Finset.univ R : sProp 𝕄) ⊢ pc c m r.set P := by
  unfold pc
  iintro ⟨%f, %hf, H⟩
  iexists f
  isplitr
  · ipureintro
    intro i hi
    obtain ⟨x, rfl⟩ := exists_emb r hi
    exact hR x _ (hf x (Finset.mem_univ _))
  · have e1 : (m.slice r h).view.setOn Finset.univ = m.view.setOn r.set := m.view.set_slice r
    rw [e1]
    iexact H

end Laws

section Steps

variable {Λ : Labels} {defs : Defs nD τ sig Val Λ} (𝒱 : Variants) (bd : Option 𝒱.V) {α : Type} {Q : α → sProp (MT nD τ sig Unit Val ℕ U ℕ)}
variable {c : Dev nD} {S : Finset s.Idx} {P P' : s.Idx → Val e → Prop}

/-- A load reads values that satisfy what the piece does. -/
theorem pc_load {cs : CoreSpace} {m : Memref sig .tc cs s e} {r : Rect s} {hl : m.view.LoadsAt r.toLoadRect}
    {k : (r.shape.Idx → Val e) → Prog (TpuEff nD τ sig Val Λ .tc) α} (hS : r.set ⊆ S) :
    (pc c m S P : sProp 𝕄) ⊢ iprop((∀ w : r.shape.Idx → Val e, ⌜∀ j, P (r.emb j) (w j)⌝ -∗ pc c m S P -∗ wp frame (wpE defs 𝒱 (c : Thread nD τ) bd) Set.univ (k w) Q)
      -∗ wp frame (wpE defs 𝒱 (c : Thread nD τ) bd) Set.univ (.op (.load m r.toLoadRect hl) k) Q) := by
  unfold pc
  iintro ⟨%f, %hf, H⟩ Hk
  iapply (wp_load (r := r.toLoadRect) 𝒱 (c : Thread nD τ) bd Set.univ (S := m.view.setOn S) (Finset.map_subset_map.mpr hS)) $$ H
  iintro H
  iapply Hk $$ [] [H]
  · ipureintro; exact fun j => hf _ (hS (emb_mem r j))
  · iexists f
    isplitr
    · ipureintro; exact hf
    · iexact H

/-- A store leaves the values stored. -/
theorem pc_store {cs : CoreSpace} {m : Memref sig .tc cs s e} {r : Rect s} {w : r.shape.Idx → Val e}
    {hx : (m.access r).Stores Finset.univ} {hm : Finset.univ = Finset.univ ∨ ∀ a, r.stride a = 1}
    {k : PUnit → Prog (TpuEff nD τ sig Val Λ .tc) α} (hw : ∀ j, P' (r.emb j) (w j)) :
    (pc c m r.set P : sProp 𝕄) ⊢ iprop((pc c m r.set P' -∗ wp frame (wpE defs 𝒱 (c : Thread nD τ) bd) Set.univ (k ⟨⟩) Q)
      -∗ wp frame (wpE defs 𝒱 (c : Thread nD τ) bd) Set.univ (.op (.store m r w Finset.univ hx hm) k) Q) := by
  unfold pc
  iintro ⟨%f, %hf, H⟩ Hk
  have e1 : m.view.setOn r.set = (m.access r).set := (m.view.set_slice r).symm
  rw [e1]
  iapply (wp_store 𝒱 (c : Thread nD τ) bd Set.univ (m := m) (r := r) (S := (m.access r).set) (by rw [View.setOn_univ])) $$ H
  iintro H
  iapply Hk
  iexists ((m.access r).write Val f w Finset.univ)
  isplitr
  · ipureintro
    intro i hi
    obtain ⟨x, rfl⟩ := exists_emb r hi
    have := View.read_slice_write_emb (v := m.view) r f w (Finset.mem_univ x)
    rw [show m.view.read Val ((m.access r).write Val f w Finset.univ) (r.emb x) = w x from this]
    exact hw x
  · iexact H

end Steps

end Cert.Pieces
end
end
-- ==== Proof.K.BodyEq.lean ====
/- The printed body is the chain of steps. -/
module

public import proofs.«01_k».proof.Proof.K.Body0

@[expose] public section

noncomputable section

namespace Cert.Kernel.Ring

open Idealize.ShloMosaic Idealize.ShloMosaic.TcCoe
open Idealize.SL.Sem
open Cert.Kernel Cert.Kernel.Gen

variable {F : FTy → Type} [FloatOps F]

/-- The printed body reads the device's name and goes on as the chain of steps. -/
theorem body_eq_chain :
    (cc0__body (F := F) aM (Memref.isWhole_whole _) bM (Memref.isWhole_whole _) oM (Memref.isWhole_whole _) stM (Memref.isWhole_whole _) sbM (Memref.isWhole_whole _) rvM (Memref.isWhole_whole _) bbM (Memref.isWhole_whole _) bsM (Memref.isWhole_whole _) asM (Memref.isWhole_whole _) cc0_scratch6 cc0_scratch7 cc0_scratch8 cc0_scratch9 cc0_scratch10 cc0_scratch11 cc0_scratch12)
      = .op .deviceId (fun c => chain c) := rfl

end Cert.Kernel.Ring
end
end
-- ==== Proof.KI.Prog.lean ====
/- The kernel's body as a chain of a few kinds of steps: the printed program, read as calls of the definitions below. -/
module

public import proofs.«01_k».proof.Proof.Gen.KernelIdeal
public import proofs.«01_k».proof.Proof.Gen.KernelIdeal.Skeleton

@[expose] public section

noncomputable section

namespace Cert.KernelIdeal.Ring

open Idealize.ShloMosaic Idealize.ShloMosaic.TcCoe
open Idealize.SL.Sem
open Cert.KernelIdeal Cert.KernelIdeal.Gen

/-! ## Shapes and buffers -/

/-- `n` rows of one slab of a three-slab buffer, and the same rows as a matrix. -/
abbrev R3 (n : ℕ) : Shape := ⟨3, ![1, n, 3072]⟩
abbrev R2 (n : ℕ) : Shape := ⟨2, ![n, 3072]⟩

/-- The accumulators, the outgoing and the incoming half-precision slabs, the weights, and the two load buffers. -/
abbrev stM : Memref sig .tc .vmem S3x512x3072 .f32 := Memref.whole cc0_scratch0
abbrev sbM : Memref sig .tc .vmem S3x512x3072 .bf16 := Memref.whole cc0_scratch1
abbrev rvM : Memref sig .tc .vmem S3x512x3072 .bf16 := Memref.whole cc0_scratch2
abbrev bbM : Memref sig .tc .vmem S1536x3072 .bf16 := Memref.whole cc0_scratch3
abbrev bsM : Memref sig .tc .vmem S384x3072 .f32 := Memref.whole cc0_scratch4
abbrev asM : Memref sig .tc .vmem S2x256x1536 .f32 := Memref.whole cc0_scratch5
/-- The two arguments and the result in HBM. -/
abbrev aM : Memref sig .tc .hbm S3072x1536 .f32 := Memref.whole main_arg0
abbrev bM : Memref sig .tc .hbm S1536x3072 .f32 := Memref.whole main_arg1
abbrev oM : Memref sig .tc .hbm S3072x3072 .f32 := Memref.whole main_v1

/-- `o` is the corner of `n` rows of a slab that a packed store may write. -/
structure Good (n : ℕ) (o : Fin 3 → ℕ) : Prop where
  inb : ∀ a, o a + (R3 n).size a ≤ S3x512x3072.size a
  pos : 0 < n
  even : 2 ∣ o 1 ∧ 2 ∣ n

/-- `o` is the corner of `n` rows of the result. -/
abbrev InOut (n : ℕ) (o : Fin 2 → ℕ) : Prop := ∀ a, o a + (R2 n).size a ≤ S3072x3072.size a
abbrev InA (o : Fin 2 → ℕ) : Prop := ∀ a, o a + S256x1536.size a ≤ S3072x1536.size a
abbrev InB (o : Fin 2 → ℕ) : Prop := ∀ a, o a + S384x3072.size a ≤ S1536x3072.size a

theorem R3_numel (n : ℕ) : (R3 n).numel = n * 3072 := by
  simp [Shape.numel, Fin.prod_univ_succ]
theorem R2_numel (n : ℕ) : (R2 n).numel = n * 3072 := by
  simp [Shape.numel, Fin.prod_univ_succ]
theorem R3_pos {n : ℕ} (h : 0 < n) : 0 < (R3 n).numel := by rw [R3_numel]; omega
theorem cast32 (n : ℕ) : (R3 n).ShapeCasts (R2 n) := by
  show _ = _; rw [R3_numel, R2_numel]
theorem cast23 (n : ℕ) : (R2 n).ShapeCasts (R3 n) := by
  show _ = _; rw [R3_numel, R2_numel]
theorem squeezesR (n : ℕ) : (R3 n).Squeezes (R2 n) := by
  unfold Shape.Squeezes
  simp [Shape.dropsOnes, List.ofFn_succ]
theorem castR (n : ℕ) : (R2 n).ShapeCasts (R2 n) := rfl

/-- The rectangle of `n` rows at the corner `o` of a three-slab buffer. -/
abbrev rc (n : ℕ) (o : Fin 3 → ℕ) (h : Good n o) : Rect S3x512x3072 := Rect.unit (s := S3x512x3072) o (R3 n).size h.inb

theorem Good.packed {n : ℕ} {o : Fin 3 → ℕ} (h : Good n o) (p : ℕ) (hp : p ∣ 2) : (rc n o h).PackedRows p :=
  have h2 : 2 ≤ S3x512x3072.rank := by decide
  .inr ⟨h2, rfl, .inl ⟨hp.trans (show 2 ∣ o (S3x512x3072.rowAx h2) from h.even.1), hp.trans (show 2 ∣ (R3 n).size (S3x512x3072.rowAx h2) from h.even.2)⟩⟩

/-- The rows at `o` of a three-slab buffer, as a matrix. -/
abbrev slab {e : EltTy} (m : Memref sig .tc .vmem S3x512x3072 e) (n : ℕ) (o : Fin 3 → ℕ) (h : Good n o) :
    Memref sig .tc .vmem (R2 n) e :=
  (m.slice (rc n o h) (fun _ => rfl)).squeeze (R2 n) (squeezesR n)

abbrev inbSlot (s : Fin 2) : ∀ a, (![(s : ℕ), 0, 0] : Fin 3 → ℕ) a + S1x256x1536.size a ≤ S2x256x1536.size a := by
  revert s; decide
/-- One of the two places a block of the left matrix is loaded to. -/
abbrev slot (s : Fin 2) : Memref sig .tc .vmem S256x1536 .f32 :=
  (asM.slice (Rect.unit (s := S2x256x1536) ![(s : ℕ), 0, 0] S1x256x1536.size (inbSlot s)) (fun _ => rfl)).squeeze S256x1536 squeezes_S1x256x1536_S256x1536
abbrev aBlk (o : Fin 2 → ℕ) (h : InA o) : Memref sig .tc .hbm S256x1536 .f32 :=
  aM.slice (Rect.unit (s := S3072x1536) o S256x1536.size h) (fun _ => rfl)
abbrev bBlk (o : Fin 2 → ℕ) (h : InB o) : Memref sig .tc .hbm S384x3072 .f32 :=
  bM.slice (Rect.unit (s := S1536x3072) o S384x3072.size h) (fun _ => rfl)
abbrev oBlk (n : ℕ) (o : Fin 2 → ℕ) (h : InOut n o) : Memref sig .tc .hbm (R2 n) .f32 :=
  oM.slice (Rect.unit (s := S3072x3072) o (R2 n).size h) (fun _ => rfl)
/-- The first 256 rows of the load buffer, where a slab is widened on its way out. -/
abbrev bsTop : Memref sig .tc .vmem (R2 256) .f32 :=
  bsM.slice (Rect.unit (s := S384x3072) ![0, 0] S256x3072.size inb_S384x3072_S256x3072_0_0) (fun _ => rfl)

theorem store_ok_f32 (n : ℕ) (o : Fin 3 → ℕ) (h : Good n o) : (stM.access (rc n o h)).Stores Finset.univ :=
  View.stores_vmem_bits_univ (R3_pos h.pos) rfl
theorem store_ok_bf16 (m : Memref sig .tc .vmem S3x512x3072 .bf16) (hm : m.IsWhole) (n : ℕ) (o : Fin 3 → ℕ) (h : Good n o) :
    (m.access (rc n o h)).Stores Finset.univ :=
  View.stores_vmem (R3_pos h.pos) (hm.storeExact_slice rfl _ (h.packed _ (by decide))) (fun _ => rfl)
theorem slab_words {e : EltTy} (m : Memref sig .tc .vmem S3x512x3072 e) (hm : m.IsWhole) (he : EltTy.packing e ∣ 2) (n : ℕ) (o : Fin 3 → ℕ) (h : Good n o) :
    (slab m n o h).view.WordExact :=
  (hm.wordExact_slice rfl _ (h.packed _ he).wholeWords).reshape _ _
theorem sb_words (n : ℕ) (o : Fin 3 → ℕ) (h : Good n o) : (slab sbM n o h).view.WordExact :=
  slab_words _ (Memref.isWhole_whole _) (by decide) n o h
theorem rv_words (n : ℕ) (o : Fin 3 → ℕ) (h : Good n o) : (slab rvM n o h).view.WordExact :=
  slab_words _ (Memref.isWhole_whole _) (by decide) n o h

/-! ## Semaphores -/

theorem in34 (j : Fin 3) (k : Fin 4) : ∀ a, (![(j : ℕ), (k : ℕ)] : Fin 2 → ℕ) a + S1x1.size a ≤ S3x4.size a := by revert j k; decide
theorem in33 (j : Fin 3) (k : Fin 3) : ∀ a, (![(j : ℕ), (k : ℕ)] : Fin 2 → ℕ) a + S1x1.size a ≤ S3x3.size a := by revert j k; decide
theorem in35 (j : Fin 3) (k : Fin 5) : ∀ a, (![(j : ℕ), (k : ℕ)] : Fin 2 → ℕ) a + S1x1.size a ≤ S3x5.size a := by revert j k; decide
theorem in4 (j : Fin 4) : ∀ a, (![(j : ℕ)] : Fin 1 → ℕ) a + S1.size a ≤ S4.size a := by revert j; decide
theorem in3 (j : Fin 3) : ∀ a, (![(j : ℕ)] : Fin 1 → ℕ) a + S1.size a ≤ S3.size a := by revert j; decide

/-- The semaphores of the reduction's sends and receives, of the gathering's, of the loads and the stores, and the credits. -/
abbrev rsS (j : Fin 3) (k : Fin 4) : DmaSem sig := ((cc0_scratch6.slice (Rect.unit (s := S3x4) ![(j : ℕ), (k : ℕ)] S1x1.size (in34 j k))).squeeze S_ squeezes_S1x1_S_).sem
abbrev rsR (j : Fin 3) (k : Fin 4) : DmaSem sig := ((cc0_scratch7.slice (Rect.unit (s := S3x4) ![(j : ℕ), (k : ℕ)] S1x1.size (in34 j k))).squeeze S_ squeezes_S1x1_S_).sem
abbrev agS (j : Fin 3) (k : Fin 3) : DmaSem sig := ((cc0_scratch8.slice (Rect.unit (s := S3x3) ![(j : ℕ), (k : ℕ)] S1x1.size (in33 j k))).squeeze S_ squeezes_S1x1_S_).sem
abbrev agR (j : Fin 3) (k : Fin 3) : DmaSem sig := ((cc0_scratch9.slice (Rect.unit (s := S3x3) ![(j : ℕ), (k : ℕ)] S1x1.size (in33 j k))).squeeze S_ squeezes_S1x1_S_).sem
abbrev ldS (j : Fin 4) : DmaSem sig := ((cc0_scratch10.slice (Rect.unit (s := S4) ![(j : ℕ)] S1.size (in4 j))).squeeze S_ squeezes_S1_S_).sem
abbrev stS (j : Fin 3) : DmaSem sig := ((cc0_scratch11.slice (Rect.unit (s := S3) ![(j : ℕ)] S1.size (in3 j))).squeeze S_ squeezes_S1_S_).sem
abbrev crS (j : Fin 3) (k : Fin 5) : Sem sig := ((cc0_scratch12.slice (Rect.unit (s := S3x5) ![(j : ℕ), (k : ℕ)] S1x1.size (in35 j k))).squeeze S_ squeezes_S1x1_S_).sem
abbrev barS : Sem sig := (SemArray.scalar (sig.barrier 0 rfl) : Sems sig S_).sem

/-! ## What is computed between the memory operations -/

variable {F : FTy → Type} [FloatOps F]

/-- A block of the weights narrowed. -/
def narrowW (v : Vec F S384x3072 .f32) : FVec F S384x3072 .bf16 := k0_pay1 v
/-- The product of a block of rows with the weights, kept wide, and narrowed. -/
def dotW (v : Vec F S1x256x1536 .f32) (w : Vec F S1536x3072 .bf16) : FVec F (R3 256) .f32 := k0_pay12 v w
def dotN (v : Vec F S1x256x1536 .f32) (w : Vec F S1536x3072 .bf16) : FVec F (R3 256) .bf16 := k0_pay5 v w
/-- Incoming rows widened and added, -/
def accV (n : ℕ) (x : Vec F (R3 n) .f32) (y : Vec F (R3 n) .bf16) : FVec F (R3 n) .f32 :=
  shapeCast (R3 n) (addf (shapeCast (R2 n) x (cast32 n) : FVec F (R2 n) .f32) (extf .f32 (shapeCast (R2 n) y (cast32 n) : FVec F (R2 n) .bf16) bitsLt_bf16_f32)) (cast23 n)
/-- narrowed, -/
def narrowV (n : ℕ) (x : Vec F (R3 n) .f32) : FVec F (R3 n) .bf16 :=
  shapeCast (R3 n) (truncf .bf16 (shapeCast (R2 n) x (cast32 n) : FVec F (R2 n) .f32) bitsLt_bf16_f32) (cast23 n)
/-- widened, -/
def widenV (n : ℕ) (y : Vec F (R3 n) .bf16) : FVec F (R3 n) .f32 :=
  shapeCast (R3 n) (extf .f32 (shapeCast (R2 n) y (cast32 n) : FVec F (R2 n) .bf16) bitsLt_bf16_f32) (cast23 n)
/-- and widened into a matrix. -/
def widenM (n : ℕ) (y : Vec F (R3 n) .bf16) : FVec F (R2 n) .f32 :=
  shapeCast (R2 n) (extf .f32 (shapeCast (R2 n) y (cast32 n) : FVec F (R2 n) .bf16) bitsLt_bf16_f32) (castR n)

/-! ## The steps -/

/-- A TensorCore's programs. -/
abbrev Pr (F : FTy → Type) := Prog (TpuEff nD τ sig (Elt F) Λ₀ .tc) PUnit

/-- One unit to a semaphore of another device; a wait on an own one. -/
def pSig (d : Dev nD) (s : Sem sig) (k : Pr F) : Pr F := (semSignalWord d s 1#32).bind fun _ => k
def pSemWait (s : Sem sig) (n : BitVec 32) (k : Pr F) : Pr F := (semWaitWord s n).bind fun _ => k

/-- A block of the weights fetched, narrowed and kept. -/
def pLdB (o : Fin 2 → ℕ) (h : InB o) (hp : (bbM.access (Rect.unit (s := S1536x3072) o S384x3072.size h)).Stores Finset.univ) (k : Pr F) : Pr F :=
  .op (.enqueueDma (bBlk o h) (.here bsM) (.dma (ldS 0)) (View.wordExact_bits rfl) (Memref.isWhole_whole _).wordExact ⟨Or.inl rfl, trivial⟩) fun _ =>
  .op (.waitDma2 (ldS 0) (bBlk o h) bsM (View.wordExact_bits rfl) (Memref.isWhole_whole _).wordExact) fun _ =>
  .op (.load bsM (Rect.unit (s := S384x3072) ![0, 0] S384x3072.size inb_S384x3072_S384x3072_0_0).toLoadRect (View.loadsAt_vmem h_S384x3072)) fun v =>
  .op (.load bbM (Rect.unit (s := S1536x3072) o S384x3072.size h).toLoadRect (View.loadsAt_vmem h_S384x3072)) fun _ =>
  .op (.store bbM (Rect.unit (s := S1536x3072) o S384x3072.size h) (narrowW v) Finset.univ hp (.inl rfl)) fun _ => k

/-- A block of rows of the left matrix: its fetch begun, and awaited. -/
def pFetch (s : Fin 2) (o : Fin 2 → ℕ) (h : InA o) (k : Pr F) : Pr F :=
  .op (.enqueueDma (aBlk o h) (.here (slot s)) (.dma (ldS (2 + s.castLE (by decide)))) (View.wordExact_bits rfl) ((View.wordExact_bits rfl).reshape _ _) ⟨Or.inl rfl, trivial⟩) fun _ => k
def pFetched (s : Fin 2) (o : Fin 2 → ℕ) (h : InA o) (k : Pr F) : Pr F :=
  .op (.waitDma2 (ldS (2 + s.castLE (by decide))) (aBlk o h) (slot s) (View.wordExact_bits rfl) ((View.wordExact_bits rfl).reshape _ _)) fun _ => k

/-- The product of the fetched block, narrowed into the outgoing slabs or kept wide in the accumulators. -/
def pDotN (s : Fin 2) (o : Fin 3 → ℕ) (h : Good 256 o) (k : Pr F) : Pr F :=
  .op (.load asM (Rect.unit (s := S2x256x1536) ![(s : ℕ), 0, 0] S1x256x1536.size (inbSlot s)).toLoadRect (View.loadsAt_vmem h_S1x256x1536)) fun v =>
  .op (.load bbM (Rect.unit (s := S1536x3072) ![0, 0] S1536x3072.size inb_S1536x3072_S1536x3072_0_0).toLoadRect (View.loadsAt_vmem h_S1536x3072)) fun w =>
  .op (.load sbM (rc 256 o h).toLoadRect (View.loadsAt_vmem (R3_pos h.pos))) fun _ =>
  .op (.store sbM (rc 256 o h) (dotN v w) Finset.univ (store_ok_bf16 sbM (Memref.isWhole_whole _) 256 o h) (.inl rfl)) fun _ => k
def pDotW (s : Fin 2) (o : Fin 3 → ℕ) (h : Good 256 o) (k : Pr F) : Pr F :=
  .op (.load asM (Rect.unit (s := S2x256x1536) ![(s : ℕ), 0, 0] S1x256x1536.size (inbSlot s)).toLoadRect (View.loadsAt_vmem h_S1x256x1536)) fun v =>
  .op (.load bbM (Rect.unit (s := S1536x3072) ![0, 0] S1536x3072.size inb_S1536x3072_S1536x3072_0_0).toLoadRect (View.loadsAt_vmem h_S1536x3072)) fun w =>
  .op (.load stM (rc 256 o h).toLoadRect (View.loadsAt_vmem (R3_pos h.pos))) fun _ =>
  .op (.store stM (rc 256 o h) (dotW v w) Finset.univ (store_ok_f32 256 o h) (.inl rfl)) fun _ => k

/-- Incoming rows at `o'` added to the rows at `o`. -/
def pAcc (n : ℕ) (o : Fin 3 → ℕ) (h : Good n o) (o' : Fin 3 → ℕ) (h' : Good n o') (k : Pr F) : Pr F :=
  .op (.load stM (rc n o h).toLoadRect (View.loadsAt_vmem (R3_pos h.pos))) fun v =>
  .op (.load rvM (rc n o' h').toLoadRect (View.loadsAt_vmem (R3_pos h.pos))) fun w =>
  .op (.load stM (rc n o h).toLoadRect (View.loadsAt_vmem (R3_pos h.pos))) fun _ =>
  .op (.store stM (rc n o h) (accV n v w) Finset.univ (store_ok_f32 n o h) (.inl rfl)) fun _ => k

/-- Rows at `o` of the accumulators narrowed into the outgoing slabs at `o'`. -/
def pNarrow (n : ℕ) (o : Fin 3 → ℕ) (h : Good n o) (o' : Fin 3 → ℕ) (h' : Good n o') (k : Pr F) : Pr F :=
  .op (.load stM (rc n o h).toLoadRect (View.loadsAt_vmem (R3_pos h.pos))) fun v =>
  .op (.load sbM (rc n o' h').toLoadRect (View.loadsAt_vmem (R3_pos h.pos))) fun _ =>
  .op (.store sbM (rc n o' h') (narrowV n v) Finset.univ (store_ok_bf16 sbM (Memref.isWhole_whole _) n o' h') (.inl rfl)) fun _ => k

/-- Incoming rows at `o'` widened into the accumulators at `o`. -/
def pWiden (n : ℕ) (o' : Fin 3 → ℕ) (h' : Good n o') (o : Fin 3 → ℕ) (h : Good n o) (k : Pr F) : Pr F :=
  .op (.load rvM (rc n o' h').toLoadRect (View.loadsAt_vmem (R3_pos h.pos))) fun v =>
  .op (.load stM (rc n o h).toLoadRect (View.loadsAt_vmem (R3_pos h.pos))) fun _ =>
  .op (.store stM (rc n o h) (widenV n v) Finset.univ (store_ok_f32 n o h) (.inl rfl)) fun _ => k

/-- Rows at `o` of the outgoing slabs sent to the rows at `o'` of the device `d`'s incoming ones. -/
def pSend (n : ℕ) (o : Fin 3 → ℕ) (h : Good n o) (d : Dev nD) (o' : Fin 3 → ℕ) (h' : Good n o') (sS sR : DmaSem sig) (k : Pr F) : Pr F :=
  .op (.enqueueDma (slab sbM n o h) (.remote (Dev.tc d) (slab rvM n o' h') (.dma sS)) (.dma sR) (sb_words n o h) (rv_words n o' h') ⟨⟨rfl, Or.inl rfl⟩, trivial⟩) fun _ => k

/-- A wait for the incoming rows at `o'`, sent from the rows at `o`; and for own rows at `o` to have left. -/
def pWaitR (n : ℕ) (s : DmaSem sig) (o : Fin 3 → ℕ) (h : Good n o) (o' : Fin 3 → ℕ) (h' : Good n o') (k : Pr F) : Pr F :=
  .op (.waitDma2 s (slab sbM n o h) (slab rvM n o' h') (sb_words n o h) (rv_words n o' h')) fun _ => k
def pWaitS (n : ℕ) (s : DmaSem sig) (o' : Fin 3 → ℕ) (h' : Good n o') (o : Fin 3 → ℕ) (h : Good n o) (k : Pr F) : Pr F :=
  .op (.waitDma2 s (slab rvM n o' h') (slab sbM n o h) (rv_words n o' h') (sb_words n o h)) fun _ => k

/-- A whole slab of the accumulators stored to the result, and its arrival awaited. -/
def pStore (j : Fin 3) (o' : Fin 3 → ℕ) (h' : Good 512 o') (o : Fin 2 → ℕ) (h : InOut 512 o) (k : Pr F) : Pr F :=
  .op (.enqueueDma (slab stM 512 o' h') (.here (oBlk 512 o h)) (.dma (stS j)) ((View.wordExact_bits rfl).reshape _ _) (View.wordExact_bits rfl) ⟨Or.inl rfl, trivial⟩) fun _ => k
def pStored (j : Fin 3) (o' : Fin 3 → ℕ) (h' : Good 512 o') (o : Fin 2 → ℕ) (h : InOut 512 o) (k : Pr F) : Pr F :=
  .op (.waitDma2 (stS j) (slab stM 512 o' h') (oBlk 512 o h) ((View.wordExact_bits rfl).reshape _ _) (View.wordExact_bits rfl)) fun _ => k

/-- 256 incoming rows at `o'` widened and stored to the result at `o`. -/
def pOut (o' : Fin 3 → ℕ) (h' : Good 256 o') (o : Fin 2 → ℕ) (h : InOut 256 o) (k : Pr F) : Pr F :=
  .op (.load rvM (rc 256 o' h').toLoadRect (View.loadsAt_vmem (R3_pos h'.pos))) fun v =>
  .op (.load bsM (Rect.unit (s := S384x3072) ![0, 0] S256x3072.size inb_S384x3072_S256x3072_0_0).toLoadRect (View.loadsAt_vmem h_S256x3072)) fun _ =>
  .op (.store bsM (Rect.unit (s := S384x3072) ![0, 0] S256x3072.size inb_S384x3072_S256x3072_0_0) (widenM 256 v) Finset.univ (View.stores_vmem_bits_univ h_S256x3072 rfl) (.inl rfl)) fun _ =>
  .op (.enqueueDma bsTop (.here (oBlk 256 o h)) (.dma (ldS 0)) (View.wordExact_bits rfl) (View.wordExact_bits rfl) ⟨Or.inl rfl, trivial⟩) fun _ =>
  .op (.waitDma2 (ldS 0) bsTop (oBlk 256 o h) (View.wordExact_bits rfl) (View.wordExact_bits rfl)) fun _ => k

end Cert.KernelIdeal.Ring
end
end
-- ==== Proof.KI.Body0.lean ====
/- The kernel's body as a chain of steps, with the tables of the devices and corners each step names. -/
module

public import proofs.«01_k».proof.Proof.KI.Prog

@[expose] public section

noncomputable section

namespace Cert.KernelIdeal.Ring

open Idealize.ShloMosaic Idealize.ShloMosaic.TcCoe
open Idealize.SL.Sem
open Cert.KernelIdeal Cert.KernelIdeal.Gen

/-! ## The tables, as the program computes them -/

/-- The corner of the half `h` of the kept rows of slab `j`: the half passed on (0) and the half kept (1). -/
def oSt : Fin 3 → Fin 2 → Dev nD → Fin 3 → ℕ
  | 0, 0 => k0_off3 | 0, 1 => k0_off6 | 1, 0 => k0_off9 | 1, 1 => k0_off12 | 2, 0 => k0_off15 | 2, 1 => k0_off18
/-- The same corners in the outgoing slabs. -/
def oSb : Fin 3 → Fin 2 → Dev nD → Fin 3 → ℕ
  | 0, 0 => k0_off4 | 0, 1 => k0_off7 | 1, 0 => k0_off10 | 1, 1 => k0_off13 | 2, 0 => k0_off16 | 2, 1 => k0_off19
/-- The block of rows of the left matrix that the product of each step reads. -/
def oA : Fin 12 → Dev nD → Fin 2 → ℕ
  | 0 => k0_off1 | 1 => k0_off2 | 2 => k0_off5 | 3 => k0_off8 | 4 => k0_off11 | 5 => k0_off14
  | 6 => k0_off17 | 7 => k0_off20 | 8 => k0_off21 | 9 => k0_off22 | 10 => k0_off23 | 11 => k0_off24
/-- The kept half, its half passed on, and its half kept. -/
def oK : Fin 3 → Dev nD → Fin 3 → ℕ
  | 0 => k0_off25 | 1 => k0_off27 | 2 => k0_off29
def oKs : Fin 3 → Dev nD → Fin 3 → ℕ
  | 0 => k0_off26 | 1 => k0_off28 | 2 => k0_off30
def oKk : Fin 3 → Dev nD → Fin 3 → ℕ
  | 0 => k0_off31 | 1 => k0_off32 | 2 => k0_off33
/-- The half gathered in the second step, and the whole slab. -/
def oP : Fin 3 → Dev nD → Fin 3 → ℕ
  | 0 => k0_off34 | 1 => k0_off35 | 2 => k0_off36
def oW : Fin 3 → Dev nD → Fin 3 → ℕ
  | 0 => k0_off37 | 1 => k0_off39 | 2 => k0_off41
/-- Where the kept rows of slab `j` go in the result, and the two halves of the gathered ones. -/
def oO : Fin 3 → Dev nD → Fin 2 → ℕ
  | 0 => k0_off38 | 1 => k0_off40 | 2 => k0_off42
def oR : Fin 3 → Dev nD → BitVec 32 → Fin 2 → ℕ
  | 0 => k0_off43 | 1 => k0_off44 | 2 => k0_off45
/-- The rows from `r` of slab `j`. -/
abbrev atR (j : Fin 3) (r : ℕ) : Fin 3 → ℕ := ![(j : ℕ), r, 0]

/-- The devices each step addresses. -/
def dBar : Fin 3 → Dev nD → Dev nD
  | 0, c => ⟨k0_dev1 c, k0_dev1_lt c⟩ | 1, c => ⟨k0_dev2 c, k0_dev2_lt c⟩ | 2, c => ⟨k0_dev3 c, k0_dev3_lt c⟩
def dA : Fin 3 → Fin 2 → Dev nD → Dev nD
  | 0, 0, c => ⟨k0_dev4 c, k0_dev4_lt c⟩ | 0, 1, c => ⟨k0_dev5 c, k0_dev5_lt c⟩
  | 1, 0, c => ⟨k0_dev6 c, k0_dev6_lt c⟩ | 1, 1, c => ⟨k0_dev7 c, k0_dev7_lt c⟩
  | 2, 0, c => ⟨k0_dev8 c, k0_dev8_lt c⟩ | 2, 1, c => ⟨k0_dev9 c, k0_dev9_lt c⟩
def dC0 : Fin 3 → Dev nD → Dev nD
  | 0, c => ⟨k0_dev10 c, k0_dev10_lt c⟩ | 1, c => ⟨k0_dev12 c, k0_dev12_lt c⟩ | 2, c => ⟨k0_dev14 c, k0_dev14_lt c⟩
def dR1 : Fin 3 → Dev nD → Dev nD
  | 0, c => ⟨k0_dev11 c, k0_dev11_lt c⟩ | 1, c => ⟨k0_dev13 c, k0_dev13_lt c⟩ | 2, c => ⟨k0_dev15 c, k0_dev15_lt c⟩
def dC1 : Fin 3 → Dev nD → Dev nD
  | 0, c => ⟨k0_dev16 c, k0_dev16_lt c⟩ | 1, c => ⟨k0_dev18 c, k0_dev18_lt c⟩ | 2, c => ⟨k0_dev20 c, k0_dev20_lt c⟩
def dR2 : Fin 3 → Dev nD → Dev nD
  | 0, c => ⟨k0_dev17 c, k0_dev17_lt c⟩ | 1, c => ⟨k0_dev19 c, k0_dev19_lt c⟩ | 2, c => ⟨k0_dev21 c, k0_dev21_lt c⟩
def dC2 : Fin 3 → Dev nD → Dev nD
  | 0, c => ⟨k0_dev22 c, k0_dev22_lt c⟩ | 1, c => ⟨k0_dev23 c, k0_dev23_lt c⟩ | 2, c => ⟨k0_dev24 c, k0_dev24_lt c⟩
def dG0 : Fin 3 → Dev nD → Dev nD
  | 0, c => ⟨k0_dev25 c, k0_dev25_lt c⟩ | 1, c => ⟨k0_dev26 c, k0_dev26_lt c⟩ | 2, c => ⟨k0_dev27 c, k0_dev27_lt c⟩
def dC3 : Fin 3 → Dev nD → Dev nD
  | 0, c => ⟨k0_dev28 c, k0_dev28_lt c⟩ | 1, c => ⟨k0_dev29 c, k0_dev29_lt c⟩ | 2, c => ⟨k0_dev30 c, k0_dev30_lt c⟩
def dG1 : Fin 3 → Dev nD → Dev nD
  | 0, c => ⟨k0_dev31 c, k0_dev31_lt c⟩ | 1, c => ⟨k0_dev32 c, k0_dev32_lt c⟩ | 2, c => ⟨k0_dev33 c, k0_dev33_lt c⟩
def dC4 : Fin 3 → Dev nD → Dev nD
  | 0, c => ⟨k0_dev34 c, k0_dev34_lt c⟩ | 1, c => ⟨k0_dev35 c, k0_dev35_lt c⟩ | 2, c => ⟨k0_dev36 c, k0_dev36_lt c⟩
def dG2 : Fin 3 → Dev nD → Dev nD
  | 0, c => ⟨k0_dev37 c, k0_dev37_lt c⟩ | 1, c => ⟨k0_dev38 c, k0_dev38_lt c⟩ | 2, c => ⟨k0_dev39 c, k0_dev39_lt c⟩

/-! ## The mesh: three axes of two devices -/

/-- The coordinates of a device: the bit along each axis. -/
def bit (a : Fin 3) (c : Dev nD) : ℕ :=
  (![![0, 1, 1, 0, 0, 1, 1, 0], ![0, 0, 1, 1, 0, 0, 1, 1], ![0, 0, 0, 0, 1, 1, 1, 1]] : Fin 3 → Fin 8 → ℕ) a c
/-- The device across axis `a`. -/
def partner (a : Fin 3) (c : Dev nD) : Dev nD :=
  (![![1, 0, 3, 2, 5, 4, 7, 6], ![3, 2, 1, 0, 7, 6, 5, 4], ![4, 5, 6, 7, 0, 1, 2, 3]] : Fin 3 → Fin 8 → Fin 8) a c

/-- The axis of step `k` of the exchange of slab `j`, the device across it, and the own bit along it. -/
def ax (j : Fin 3) (k : Fin 3) : Fin 3 := j + k
def pt (j : Fin 3) (k : Fin 3) (c : Dev nD) : Dev nD := partner (ax j k) c
def bt (j : Fin 3) (k : Fin 3) (c : Dev nD) : ℕ := bit (ax j k) c

/-- The first row of the own kept half of a slab, of the half passed on, and inside it of the quarters. -/
def kept (j : Fin 3) (c : Dev nD) : ℕ := bt j 0 c * 512
def sent (j : Fin 3) (c : Dev nD) : ℕ := (1 - bt j 0 c) * 512
def oK1 (j : Fin 3) (c : Dev nD) : ℕ := bt j 1 c * 256
def oS1 (j : Fin 3) (c : Dev nD) : ℕ := (1 - bt j 1 c) * 256
def oK2 (j : Fin 3) (c : Dev nD) : ℕ := bt j 1 c * 256 + bt j 2 c * 128
def oS2 (j : Fin 3) (c : Dev nD) : ℕ := bt j 1 c * 256 + (1 - bt j 2 c) * 128
/-- The half `h`: the one passed on first. -/
def oH (j : Fin 3) (h : Fin 2) (c : Dev nD) : ℕ := if h = 0 then oS1 j c else oK1 j c

theorem oSt_eq : ∀ (j : Fin 3) (h : Fin 2) (c : Dev nD), oSt j h c = atR j (oH j h c) := by decide
theorem oSb_eq : ∀ (j : Fin 3) (h : Fin 2) (c : Dev nD), oSb j h c = atR j (oH j h c) := by decide
theorem oK_eq : ∀ (j : Fin 3) (c : Dev nD), oK j c = atR j (oK1 j c) := by decide
theorem oKs_eq : ∀ (j : Fin 3) (c : Dev nD), oKs j c = atR j (oS2 j c) := by decide
theorem oKk_eq : ∀ (j : Fin 3) (c : Dev nD), oKk j c = atR j (oK2 j c) := by decide
theorem oP_eq : ∀ (j : Fin 3) (c : Dev nD), oP j c = atR j (oS1 j c) := by decide
theorem oW_eq : ∀ (j : Fin 3) (c : Dev nD), oW j c = atR j 0 := by decide
theorem oO_eq : ∀ (j : Fin 3) (c : Dev nD), oO j c = ![(j : ℕ) * 1024 + kept j c, 0] := by decide
theorem oR_eq0 : ∀ (j : Fin 3) (c : Dev nD), oR j c 0#32 = ![(j : ℕ) * 1024 + sent j c, 0] := by decide
theorem oR_eq1 : ∀ (j : Fin 3) (c : Dev nD), oR j c 256#32 = ![(j : ℕ) * 1024 + sent j c + 256, 0] := by decide
theorem oA_eq : ∀ (j : Fin 3) (h : Fin 2) (c : Dev nD), oA (2 * j.castLE (by decide) + h.castLE (by decide)) c = ![(j : ℕ) * 1024 + sent j c + oH j h (pt j 0 c), 0] := by decide
theorem oA_eq' : ∀ (j : Fin 3) (h : Fin 2) (c : Dev nD), oA (6 + 2 * j.castLE (by decide) + h.castLE (by decide)) c = ![(j : ℕ) * 1024 + kept j c + oH j h c, 0] := by decide

theorem dBar_eq : ∀ (a : Fin 3) (c : Dev nD), dBar a c = partner a c := by decide
theorem dA_eq : ∀ (j : Fin 3) (h : Fin 2) (c : Dev nD), dA j h c = pt j 0 c := by decide
theorem dC0_eq : ∀ (j : Fin 3) (c : Dev nD), dC0 j c = pt j 1 c := by decide
theorem dR1_eq : ∀ (j : Fin 3) (c : Dev nD), dR1 j c = pt j 1 c := by decide
theorem dC1_eq : ∀ (j : Fin 3) (c : Dev nD), dC1 j c = pt j 2 c := by decide
theorem dR2_eq : ∀ (j : Fin 3) (c : Dev nD), dR2 j c = pt j 2 c := by decide
theorem dC2_eq : ∀ (j : Fin 3) (c : Dev nD), dC2 j c = pt j 2 c := by decide
theorem dG0_eq : ∀ (j : Fin 3) (c : Dev nD), dG0 j c = pt j 2 c := by decide
theorem dC3_eq : ∀ (j : Fin 3) (c : Dev nD), dC3 j c = pt j 1 c := by decide
theorem dG1_eq : ∀ (j : Fin 3) (c : Dev nD), dG1 j c = pt j 1 c := by decide
theorem dC4_eq : ∀ (j : Fin 3) (c : Dev nD), dC4 j c = pt j 0 c := by decide
theorem dG2_eq : ∀ (j : Fin 3) (c : Dev nD), dG2 j c = pt j 0 c := by decide

/-! ## The corners are in range -/

theorem good_at {n r : ℕ} (j : Fin 3) (h : r + n ≤ 512 ∧ 0 < n ∧ 2 ∣ r ∧ 2 ∣ n) : Good n (atR j r) := by
  refine ⟨fun a => ?_, h.2.1, h.2.2⟩
  have hj := j.isLt
  have h1 := h.1
  fin_cases a <;> simp [atR] <;> omega
theorem bt_le (j k : Fin 3) (c : Dev nD) : bt j k c ≤ 1 := by revert j k c; decide

theorem gX (j : Fin 3) (n r : ℕ) (h : r + n ≤ 512 ∧ 0 < n ∧ 2 ∣ r ∧ 2 ∣ n := by decide) : Good n (atR j r) := good_at j h
theorem gH (j : Fin 3) (h : Fin 2) : Good 256 (atR j (h.val * 256)) := by revert j h; exact fun j h => good_at j (by revert h; decide)
theorem gSt (j : Fin 3) (h : Fin 2) (c : Dev nD) : Good 256 (oSt j h c) := by
  rw [oSt_eq]; exact good_at j (by revert j h c; decide)
theorem gSb (j : Fin 3) (h : Fin 2) (c : Dev nD) : Good 256 (oSb j h c) := by
  rw [oSb_eq]; exact good_at j (by revert j h c; decide)
theorem gK (j : Fin 3) (c : Dev nD) : Good 256 (oK j c) := by rw [oK_eq]; exact good_at j (by revert j c; decide)
theorem gKs (j : Fin 3) (c : Dev nD) : Good 128 (oKs j c) := by rw [oKs_eq]; exact good_at j (by revert j c; decide)
theorem gKk (j : Fin 3) (c : Dev nD) : Good 128 (oKk j c) := by rw [oKk_eq]; exact good_at j (by revert j c; decide)
theorem gP (j : Fin 3) (c : Dev nD) : Good 256 (oP j c) := by rw [oP_eq]; exact good_at j (by revert j c; decide)
theorem gW (j : Fin 3) (c : Dev nD) : Good 512 (oW j c) := by rw [oW_eq]; exact good_at j (by decide)
theorem hO (j : Fin 3) (c : Dev nD) : InOut 512 (oO j c) := by revert j c; decide
theorem hR0 (j : Fin 3) (c : Dev nD) : InOut 256 (oR j c 0#32) := by revert j c; decide
theorem hR1 (j : Fin 3) (c : Dev nD) : InOut 256 (oR j c 256#32) := by revert j c; decide
theorem hA (i : Fin 12) (c : Dev nD) : InA (oA i c) := by revert i c; decide
theorem hB (q : Fin 4) : InB ![q.val * 384, 0] := by revert q; decide
theorem hBs (q : Fin 4) : (bbM.access (Rect.unit (s := S1536x3072) ![q.val * 384, 0] S384x3072.size (hB q))).Stores Finset.univ := by
  refine View.stores_vmem h_S384x3072 ((Memref.isWhole_whole _).storeExact_slice rfl _ ?_) (fun _ => rfl)
  revert q; decide

/-! ## The chain -/

variable {F : FTy → Type} [FloatOps F]

/-- Every neighbour told, and every neighbour's word awaited. -/
def gBar (c : Dev nD) (k : Pr F) : Pr F :=
  pSig (dBar 0 c) barS <| pSig (dBar 1 c) barS <| pSig (dBar 2 c) barS <| pSemWait barS 3#32 k
/-- A half of the rows passed on across the first axis: computed and sent. -/
def gA (c : Dev nD) (j : Fin 3) (h : Fin 2) (s : Fin 2) (k : Pr F) : Pr F :=
  pDotN s (oSt j h c) (gSt j h c) <|
  pSend 256 (oSb j h c) (gSb j h c) (dA j h c) (atR j (h.val * 256)) (gH j h) (rsS j (3 * h.castLE (by decide))) (rsR j (3 * h.castLE (by decide))) k
/-- The first half of the kept rows: computed, the incoming ones added, and passed on across the second axis. -/
def gB (c : Dev nD) (j : Fin 3) (s : Fin 2) (k : Pr F) : Pr F :=
  pDotW s (oSt j 0 c) (gSt j 0 c) <|
  pWaitR 256 (rsR j 0) (oSb j 0 c) (gSb j 0 c) (atR j 0) (gX j 256 0) <|
  pAcc 256 (oSt j 0 c) (gSt j 0 c) (atR j 0) (gX j 256 0) <|
  pSig (dC0 j c) (crS j 0) <|
  pWaitS 256 (rsS j 0) (atR j 0) (gX j 256 0) (oSb j 0 c) (gSb j 0 c) <|
  pWaitS 256 (rsS j 3) (atR j 256) (gX j 256 256) (oSb j 1 c) (gSb j 1 c) <|
  pSemWait (crS j 0) 1#32 <|
  pNarrow 256 (oSt j 0 c) (gSt j 0 c) (atR j 0) (gX j 256 0) <|
  pSend 256 (atR j 0) (gX j 256 0) (dR1 j c) (atR j 0) (gX j 256 0) (rsS j 1) (rsR j 1) k
/-- The second half of the kept rows: computed, the incoming ones added. -/
def gC (c : Dev nD) (j : Fin 3) (s : Fin 2) (k : Pr F) : Pr F :=
  pDotW s (oSt j 1 c) (gSt j 1 c) <|
  pWaitR 256 (rsR j 3) (oSb j 1 c) (gSb j 1 c) (atR j 256) (gX j 256 256) <|
  pAcc 256 (oSt j 1 c) (gSt j 1 c) (atR j 256) (gX j 256 256) k
/-- The rows that arrive across the second axis added, and half of them passed on across the third. -/
def gK1 (c : Dev nD) (j : Fin 3) (k : Pr F) : Pr F :=
  pWaitR 256 (rsR j 1) (atR j 0) (gX j 256 0) (atR j 0) (gX j 256 0) <|
  pAcc 256 (oK j c) (gK j c) (atR j 0) (gX j 256 0) <|
  pWaitS 256 (rsS j 1) (atR j 0) (gX j 256 0) (atR j 0) (gX j 256 0) <|
  pSig (dC1 j c) (crS j 1) <|
  pSemWait (crS j 1) 1#32 <|
  pNarrow 128 (oKs j c) (gKs j c) (atR j 0) (gX j 128 0) <|
  pSend 128 (atR j 0) (gX j 128 0) (dR2 j c) (atR j 0) (gX j 128 0) (rsS j 2) (rsR j 2) k
/-- The rows that arrive across the third axis added. -/
def gK2 (c : Dev nD) (j : Fin 3) (k : Pr F) : Pr F :=
  pWaitR 128 (rsR j 2) (atR j 0) (gX j 128 0) (atR j 0) (gX j 128 0) <|
  pAcc 128 (oKk j c) (gKk j c) (atR j 0) (gX j 128 0) <|
  pWaitS 128 (rsS j 2) (atR j 0) (gX j 128 0) (atR j 0) (gX j 128 0) <|
  pSig (dC2 j c) (crS j 2) k
/-- The gathering's three steps: the sums sent back, -/
def gS0 (c : Dev nD) (j : Fin 3) (k : Pr F) : Pr F :=
  pSemWait (crS j 2) 1#32 <|
  pNarrow 128 (oKk j c) (gKk j c) (atR j 0) (gX j 128 0) <|
  pSend 128 (atR j 0) (gX j 128 0) (dG0 j c) (atR j 0) (gX j 128 0) (agS j 0) (agR j 0) k
def gS1 (c : Dev nD) (j : Fin 3) (k : Pr F) : Pr F :=
  pSemWait (crS j 3) 1#32 <|
  pNarrow 256 (oK j c) (gK j c) (atR j 0) (gX j 256 0) <|
  pSend 256 (atR j 0) (gX j 256 0) (dG1 j c) (atR j 0) (gX j 256 0) (agS j 1) (agR j 1) k
def gS2 (c : Dev nD) (j : Fin 3) (k : Pr F) : Pr F :=
  pSemWait (crS j 4) 1#32 <|
  pNarrow 512 (oW j c) (gW j c) (atR j 0) (gX j 512 0) <|
  pSend 512 (atR j 0) (gX j 512 0) (dG2 j c) (atR j 0) (gX j 512 0) (agS j 2) (agR j 2) <|
  pStore j (atR j 0) (gX j 512 0) (oO j c) (hO j c) k
/-- and the partner's received. -/
def gR0 (c : Dev nD) (j : Fin 3) (k : Pr F) : Pr F :=
  pWaitR 128 (agR j 0) (atR j 0) (gX j 128 0) (atR j 0) (gX j 128 0) <|
  pWaitS 128 (agS j 0) (atR j 0) (gX j 128 0) (atR j 0) (gX j 128 0) <|
  pWiden 128 (atR j 0) (gX j 128 0) (oKs j c) (gKs j c) <|
  pSig (dC3 j c) (crS j 3) k
def gR1 (c : Dev nD) (j : Fin 3) (k : Pr F) : Pr F :=
  pWaitR 256 (agR j 1) (atR j 0) (gX j 256 0) (atR j 0) (gX j 256 0) <|
  pWaitS 256 (agS j 1) (atR j 0) (gX j 256 0) (atR j 0) (gX j 256 0) <|
  pWiden 256 (atR j 0) (gX j 256 0) (oP j c) (gP j c) <|
  pSig (dC4 j c) (crS j 4) k
def gR2 (c : Dev nD) (j : Fin 3) (k : Pr F) : Pr F :=
  pWaitR 512 (agR j 2) (atR j 0) (gX j 512 0) (atR j 0) (gX j 512 0) <|
  pWaitS 512 (agS j 2) (atR j 0) (gX j 512 0) (atR j 0) (gX j 512 0) <|
  pOut (atR j 0) (gX j 256 0) (oR j c 0#32) (hR0 j c) <|
  pOut (atR j 256) (gX j 256 256) (oR j c 256#32) (hR1 j c) k
/-- The product of step `i` begins: its block is awaited and the next one's fetch begun. -/
def gN (c : Dev nD) (i i' : Fin 12) (s s' : Fin 2) (k : Pr F) : Pr F :=
  pFetched s (oA i c) (hA i c) <| pFetch s' (oA i' c) (hA i' c) k

def chain (c : Dev nD) : Pr F :=
  gBar c <|
  pLdB ![0 * 384, 0] (hB 0) (hBs 0) <| pLdB ![1 * 384, 0] (hB 1) (hBs 1) <| pLdB ![2 * 384, 0] (hB 2) (hBs 2) <| pLdB ![3 * 384, 0] (hB 3) (hBs 3) <|
  pFetch 0 (oA 0 c) (hA 0 c) <|
  gN c 0 1 0 1 <| gA c 0 0 0 <| gN c 1 2 1 0 <| gA c 0 1 1 <|
  gN c 2 3 0 1 <| gA c 1 0 0 <| gN c 3 4 1 0 <| gA c 1 1 1 <|
  gN c 4 5 0 1 <| gA c 2 0 0 <| gN c 5 6 1 0 <| gA c 2 1 1 <|
  gN c 6 7 0 1 <| gB c 0 0 <| gN c 7 8 1 0 <| gC c 0 1 <|
  gN c 8 9 0 1 <| gB c 1 0 <| gN c 9 10 1 0 <| gC c 1 1 <|
  gN c 10 11 0 1 <| gB c 2 0 <| pFetched 1 (oA 11 c) (hA 11 c) <| gC c 2 1 <|
  gK1 c 0 <| gK1 c 1 <| gK1 c 2 <| gK2 c 0 <| gK2 c 1 <| gK2 c 2 <|
  gS0 c 0 <| gS0 c 1 <| gS0 c 2 <| gR0 c 0 <| gR0 c 1 <| gR0 c 2 <|
  gS1 c 0 <| gS1 c 1 <| gS1 c 2 <| gR1 c 0 <| gR1 c 1 <| gR1 c 2 <|
  gS2 c 0 <| gS2 c 1 <| gS2 c 2 <| gR2 c 0 <| gR2 c 1 <| gR2 c 2 <|
  pStored 0 (atR 0 0) (gX 0 512 0) (oO 0 c) (hO 0 c) <| pStored 1 (atR 1 0) (gX 1 512 0) (oO 1 c) (hO 1 c) <|
  pStored 2 (atR 2 0) (gX 2 512 0) (oO 2 c) (hO 2 c) <| .ret ⟨⟩

end Cert.KernelIdeal.Ring
end
end
-- ==== Proof.KI.Rows.lean ====
/- Rows of the three-slab buffers held with what they contain, and the steps on them. -/
module

public import proofs.«01_k».proof.Proof.Pieces
public import proofs.«01_k».proof.Proof.KI.Body0
public import Idealize.ShloMosaic.Lib.Pipeline.Launch
public import Idealize.ShloMosaic.Lib.Pipeline.Kit

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx
open Cert.KernelIdeal Cert.KernelIdeal.Gen Cert.Pieces

/-- The ghost state: the launch's, the rounds of the cells between devices, and the local transfers' counters. -/
abbrev UU : Type := UR sig nD τ × (URounds (GSem nD τ sig) (Fin 3) × Counters)

variable {F : FTy → Type} [FloatOps F]

local notation "𝕄" => MT nD τ sig Unit (Elt F) ℕ UU ℕ

abbrev 𝒱₀ : Variants := Variants.none

/-- The weakest precondition of a TensorCore's program. -/
abbrev WP (c : Dev nD) (p : Pr F) (Q : PUnit → sProp (MT nD τ sig Unit (Elt F) ℕ UU ℕ)) : sProp (MT nD τ sig Unit (Elt F) ℕ UU ℕ) :=
  wp frame (wpE defs₀ 𝒱₀ (c : Thread nD τ) none) Set.univ p Q

/-! ## What rows contain -/

/-- What is said of the sums over a set of devices: `f` of the wide ones, `h` of the narrowed ones, by row and column of the result;
    and the steps by which the kernel makes them. -/
structure Spec (F : FTy → Type) [FloatOps F] (A : Dev nD → S3072x1536.Idx → F .f32) (B : Dev nD → S1536x3072.Idx → F .f32) where
  f : Finset (Dev nD) → ℕ → ℕ → F .f32 → Prop
  h : Finset (Dev nD) → ℕ → ℕ → F .bf16 → Prop
  trunc : ∀ S r n v, f S r n v → h S r n (FloatOps.truncf .bf16 bitsLt_bf16_f32 v)
  ext : ∀ S r n v, h S r n v → f S r n (FloatOps.extf .f32 bitsLt_bf16_f32 v)
  add : ∀ S T r n v w, Disjoint S T → f S r n v → f T r n w → f (S ∪ T) r n (FloatOps.addf v w)
  dot : ∀ (c : Dev nD) (base : ℕ) (v : Vec F S1x256x1536 .f32) (w : Vec F S1536x3072 .bf16),
    (∀ x y, (y 0).val = base + (x 1).val → (y 1).val = (x 2).val → v x = A c y) →
    (∀ y, w y = FloatOps.truncf .bf16 bitsLt_bf16_f32 (B c y)) →
    ∀ x : (R3 256).Idx, f {c} (base + (x 1).val) (x 2).val (dotW v w x)
  dotN_eq : ∀ (v : Vec F S1x256x1536 .f32) (w : Vec F S1536x3072 .bf16) (x : (R3 256).Idx),
    dotN v w x = FloatOps.truncf .bf16 bitsLt_bf16_f32 (dotW v w x)

theorem re_re (n : ℕ) (x : (R3 n).Idx) : Shape.reshapeEquiv (cast32 n) (Shape.reshapeEquiv (cast23 n) x) = x := by
  rw [Shape.reshapeEquiv_reshapeEquiv, Shape.reshapeEquiv_self]
theorem accV_apply (n : ℕ) (x : Vec F (R3 n) .f32) (y : Vec F (R3 n) .bf16) (z : (R3 n).Idx) :
    accV n x y z = FloatOps.addf (x z) (FloatOps.extf .f32 bitsLt_bf16_f32 (y z)) := by
  show FloatOps.addf (x (Shape.reshapeEquiv (cast32 n) (Shape.reshapeEquiv (cast23 n) z)))
    (FloatOps.extf .f32 bitsLt_bf16_f32 (y (Shape.reshapeEquiv (cast32 n) (Shape.reshapeEquiv (cast23 n) z)))) = _
  rw [re_re]
theorem narrowV_apply (n : ℕ) (x : Vec F (R3 n) .f32) (z : (R3 n).Idx) :
    narrowV n x z = FloatOps.truncf .bf16 bitsLt_bf16_f32 (x z) := by
  show FloatOps.truncf .bf16 bitsLt_bf16_f32 (x (Shape.reshapeEquiv (cast32 n) (Shape.reshapeEquiv (cast23 n) z))) = _
  rw [re_re]
theorem widenV_apply (n : ℕ) (x : Vec F (R3 n) .bf16) (z : (R3 n).Idx) :
    widenV n x z = FloatOps.extf .f32 bitsLt_bf16_f32 (x z) := by
  show FloatOps.extf .f32 bitsLt_bf16_f32 (x (Shape.reshapeEquiv (cast32 n) (Shape.reshapeEquiv (cast23 n) z))) = _
  rw [re_re]

/-- The index of rows of a slab that an index of the same rows as a matrix names. -/
theorem re_coords {n : ℕ} (hs : (R2 n).numel = (R3 n).numel) (j : (R2 n).Idx) :
    ((Shape.reshapeEquiv hs j (1 : Fin 3) : Fin _) : ℕ) = (j (0 : Fin 2)).val ∧ ((Shape.reshapeEquiv hs j (2 : Fin 3) : Fin _) : ℕ) = (j (1 : Fin 2)).val := by
  rw [show Shape.reshapeEquiv hs j = ix3 (⟨0, Nat.one_pos⟩ : Fin 1) (j 0) (j 1) from
    (congrArg _ (eq_ix2 j)).trans (reshapeEquiv_ix2_1ab hs (j 0) (j 1))]
  exact ⟨rfl, rfl⟩
theorem widenM_apply (n : ℕ) (x : Vec F (R3 n) .bf16) (j : (R2 n).Idx) :
    widenM n x j = FloatOps.extf .f32 bitsLt_bf16_f32 (x (Shape.reshapeEquiv (cast32 n) j)) := by
  show FloatOps.extf .f32 bitsLt_bf16_f32 (x (Shape.reshapeEquiv (cast32 n) (Shape.reshapeEquiv (castR n) j))) = _
  rw [Shape.reshapeEquiv_self]

/-! ## Rows of a slab -/

/-- The rows `r ..< r + n` of slab `j`. -/
def rows (j r n : ℕ) : Finset S3x512x3072.Idx :=
  Finset.univ.filter fun i => (i (0 : Fin 3)).val = j ∧ r ≤ (i (1 : Fin 3)).val ∧ (i (1 : Fin 3)).val < r + n

theorem mem_rows {j r n : ℕ} {i : S3x512x3072.Idx} :
    i ∈ rows j r n ↔ (i (0 : Fin 3)).val = j ∧ r ≤ (i (1 : Fin 3)).val ∧ (i (1 : Fin 3)).val < r + n := by simp [rows]

theorem rc_set (j : Fin 3) (r n : ℕ) (h : Good n (atR j r)) : (rc n (atR j r) h).set = rows j r n := by
  ext i
  rw [Rect.mem_set_unit, mem_rows]
  have h2 : (i (2 : Fin 3)).val < 3072 := (i (2 : Fin 3)).isLt
  constructor
  · intro H
    have H0 := H (0 : Fin 3)
    have H1 := H (1 : Fin 3)
    simp [atR] at H0 H1
    omega
  · intro H a
    fin_cases a <;> simp [atR] <;> omega

theorem rows_union (j r n n' : ℕ) : rows j r (n + n') = rows j r n ∪ rows j (r + n) n' := by
  ext i; simp only [Finset.mem_union, mem_rows]; omega
theorem rows_disjoint (j r n n' : ℕ) : Disjoint (rows j r n) (rows j (r + n) n') := by
  rw [Finset.disjoint_left]; intro i; simp only [mem_rows]; omega

/-- Rows `r ..< r + n` of slab `j` of a buffer of device `c`, what they contain said by row (from `r`) and column. -/
def pr {e : EltTy} (c : Dev nD) (m : Memref sig .tc .vmem S3x512x3072 e) (j r n : ℕ) (φ : ℕ → ℕ → Elt F e → Prop) : sProp 𝕄 :=
  pc c m (rows j r n) (fun i v => φ ((i (1 : Fin 3)).val - r) (i (2 : Fin 3)).val v)

instance pr_storable {e : EltTy} (c : Dev nD) (m : Memref sig .tc .vmem S3x512x3072 e) (j r n : ℕ) (φ : ℕ → ℕ → Elt F e → Prop) :
    BI.Storable (upEmb : UEmb _ 𝕄) (pr c m j r n φ) := by unfold pr; infer_instance

/-- Nothing said. -/
abbrev anyV {e : EltTy} : ℕ → ℕ → Elt F e → Prop := fun _ _ _ => True

section Laws
variable {e : EltTy} {c : Dev nD} {m : Memref sig .tc .vmem S3x512x3072 e} {φ ψ : ℕ → ℕ → Elt F e → Prop}

theorem pr_mono (j r n : ℕ) (h : ∀ a b v, a < n → φ a b v → ψ a b v) : (pr c m j r n φ : sProp 𝕄) ⊢ pr c m j r n ψ := by
  unfold pr
  exact pc_mono fun i hi v hv => h _ _ _ (by rw [mem_rows] at hi; omega) hv
theorem pr_any (j r n : ℕ) : (pr c m j r n φ : sProp 𝕄) ⊢ pr c m j r n anyV := pr_mono j r n fun _ _ _ _ _ => trivial

/-- Rows split in two, -/
theorem pr_split (j r n n' : ℕ) :
    (pr c m j r (n + n') φ : sProp 𝕄) ⊢ iprop(pr c m j r n φ ∗ pr c m j (r + n) n' (fun a => φ (n + a))) := by
  unfold pr
  rw [rows_union]
  refine (pc_split (rows_disjoint j r n n')).trans (sep_mono_right (pc_mono fun i hi v hv => ?_))
  rw [mem_rows] at hi
  rw [show n + ((i (1 : Fin 3)).val - (r + n)) = (i (1 : Fin 3)).val - r by omega]
  exact hv
/-- and are joined. -/
theorem pr_join (j r n n' : ℕ) :
    iprop(pr c m j r n φ ∗ pr c m j (r + n) n' ψ) ⊢ (pr c m j r (n + n') (fun a => if a < n then φ a else ψ (a - n)) : sProp 𝕄) := by
  unfold pr
  rw [rows_union]
  refine (BIClass.sep_mono (pc_mono (P' := fun i v => (if (i (1 : Fin 3)).val - r < n then φ ((i (1 : Fin 3)).val - r) else ψ ((i (1 : Fin 3)).val - r - n)) (i (2 : Fin 3)).val v) fun i hi v hv => ?_)
    (pc_mono fun i hi v hv => ?_)).trans (pc_join (rows_disjoint j r n n'))
  · rw [mem_rows] at hi
    rw [if_pos (by omega)]; exact hv
  · rw [mem_rows] at hi
    rw [if_neg (by omega), show (i (1 : Fin 3)).val - r - n = (i (1 : Fin 3)).val - (r + n) by omega]; exact hv

/-- The same rows as a matrix of their own; and back. -/
theorem slab_of_pr {n : ℕ} (j : Fin 3) (r : ℕ) (h : Good n (atR j r)) :
    (pr c m j r n φ : sProp 𝕄) ⊢ pc c (slab m n (atR j r) h) Finset.univ (fun x v => φ (x (0 : Fin 2)).val (x (1 : Fin 2)).val v) := by
  unfold pr
  rw [← rc_set j r n h]
  refine slab_of_pc (rc n (atR j r) h) (fun _ => rfl) (squeezesR n) fun x v hv => ?_
  have hc := re_coords (squeezesR n).numel_eq x
  have e1 : ((rc n (atR j r) h).emb (Shape.reshapeEquiv (squeezesR n).numel_eq x) (1 : Fin 3)).val - r = (x (0 : Fin 2)).val := by
    rw [Rect.emb_apply, hc.1]
    show r + 1 * _ - r = _
    omega
  have e2 : ((rc n (atR j r) h).emb (Shape.reshapeEquiv (squeezesR n).numel_eq x) (2 : Fin 3)).val = (x (1 : Fin 2)).val := by
    rw [Rect.emb_apply, hc.2]
    show 0 + 1 * _ = _
    omega
  rw [← e1, ← e2]; exact hv
theorem pr_of_slab {n : ℕ} (j : Fin 3) (r : ℕ) (h : Good n (atR j r)) :
    (pc c (slab m n (atR j r) h) Finset.univ (fun x v => φ (x (0 : Fin 2)).val (x (1 : Fin 2)).val v) : sProp 𝕄) ⊢ pr c m j r n φ := by
  unfold pr
  rw [← rc_set j r n h]
  refine pc_of_slab (rc n (atR j r) h) (fun _ => rfl) (squeezesR n) fun x v hv => ?_
  have hc := re_coords (squeezesR n).numel_eq x
  have e1 : ((rc n (atR j r) h).emb (Shape.reshapeEquiv (squeezesR n).numel_eq x) (1 : Fin 3)).val - r = (x (0 : Fin 2)).val := by
    rw [Rect.emb_apply, hc.1]
    show r + 1 * _ - r = _
    omega
  have e2 : ((rc n (atR j r) h).emb (Shape.reshapeEquiv (squeezesR n).numel_eq x) (2 : Fin 3)).val = (x (1 : Fin 2)).val := by
    rw [Rect.emb_apply, hc.2]
    show 0 + 1 * _ = _
    omega
  rw [e1, e2]; exact hv

end Laws

section Steps
variable {e : EltTy} {c : Dev nD} {m : Memref sig .tc .vmem S3x512x3072 e} {φ ψ : ℕ → ℕ → Elt F e → Prop}
variable {Q : PUnit → sProp (MT nD τ sig Unit (Elt F) ℕ UU ℕ)}

/-- Rows loaded, -/
theorem wp_loadR {n : ℕ} {j : Fin 3} {r : ℕ} {o : Fin 3 → ℕ} {h : Good n o} (ho : o = atR j r) {hl : m.view.LoadsAt (rc n o h).toLoadRect}
    {k : ((R3 n).Idx → Elt F e) → Pr F} :
    (pr c m j r n φ : sProp 𝕄) ⊢ iprop((∀ w : (R3 n).Idx → Elt F e, ⌜∀ x, φ (x (1 : Fin 3)).val (x (2 : Fin 3)).val (w x)⌝ -∗ pr c m j r n φ -∗ WP c (k w) Q)
      -∗ WP c (.op (.load m (rc n o h).toLoadRect hl) k) Q) := by
  subst ho
  unfold pr
  iintro H Hk
  iapply (pc_load 𝒱₀ none (r := rc n (atR j r) h) (by rw [rc_set])) $$ H
  iintro %w %hw H
  iapply Hk $$ [] [H]
  · ipureintro
    intro x
    have := hw x
    rw [Rect.emb_apply, Rect.emb_apply] at this
    convert this using 1
    · show _ = r + 1 * _ - r
      omega
    · show _ = 0 + 1 * _
      omega
  · iexact H
/-- and stored. -/
theorem wp_storeR {n : ℕ} {j : Fin 3} {r : ℕ} {o : Fin 3 → ℕ} {h : Good n o} (ho : o = atR j r) {w : (R3 n).Idx → Elt F e}
    {hx : (m.access (rc n o h)).Stores Finset.univ} {hm : (Finset.univ : Finset (R3 n).Idx) = Finset.univ ∨ ∀ a, (rc n o h).stride a = 1}
    {k : PUnit → Pr F} (hw : ∀ x, ψ (x (1 : Fin 3)).val (x (2 : Fin 3)).val (w x)) :
    (pr c m j r n φ : sProp 𝕄) ⊢ iprop((pr c m j r n ψ -∗ WP c (k ⟨⟩) Q)
      -∗ WP c (.op (.store m (rc n o h) w Finset.univ hx hm) k) Q) := by
  subst ho
  unfold pr
  rw [← rc_set j r n h]
  iintro H Hk
  iapply (pc_store 𝒱₀ none (r := rc n (atR j r) h) (P' := fun i v => ψ ((i (1 : Fin 3)).val - r) (i (2 : Fin 3)).val v) ?_) $$ H
  · intro x
    have := hw x
    rw [Rect.emb_apply, Rect.emb_apply]
    convert this using 1
    · show r + 1 * _ - r = _
      omega
    · show 0 + 1 * _ = _
      omega
  iexact Hk

end Steps

end Cert.KernelIdeal.Ring
end
end
-- ==== Proof.KI.Keys.lean ====
/- The semaphores the devices tell one another with, and the order in which a device pays into its partners'. -/
module

public import proofs.«01_k».proof.Proof.KI.Rows
public import Mathlib.Tactic.DeriveFintype
public import Mathlib.Algebra.BigOperators.Intervals

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx
open Cert.KernelIdeal Cert.KernelIdeal.Gen Cert.Pieces

/-- The semaphores of one device that another one credits, or that a send of its own does: the barrier's, the credits', the sends' and receives'. -/
inductive Key : Type
  | bar | cr (j : Fin 3) (k : Fin 5) | rsS (j : Fin 3) (k : Fin 4) | rsR (j : Fin 3) (k : Fin 4) | agS (j : Fin 3) (k : Fin 3) | agR (j : Fin 3) (k : Fin 3)
  deriving DecidableEq, Fintype

def loc : Key → SemLoc sig
  | .bar => .reg barS | .cr j k => .reg (crS j k) | .rsS j k => .dma (Ring.rsS j k) | .rsR j k => .dma (Ring.rsR j k)
  | .agS j k => .dma (Ring.agS j k) | .agR j k => .dma (Ring.agR j k)

theorem barS_val : barS.val = 15 := by decide
theorem crS_val : ∀ j k, (crS j k).val = 5 * j.val + k.val := by decide
theorem rsS_val : ∀ j k, (rsS j k).val = 4 * j.val + k.val := by decide
theorem rsR_val : ∀ j k, (rsR j k).val = 12 + 4 * j.val + k.val := by decide
theorem agS_val : ∀ j k, (agS j k).val = 24 + 3 * j.val + k.val := by decide
theorem agR_val : ∀ j k, (agR j k).val = 33 + 3 * j.val + k.val := by decide
theorem ldS_val : ∀ j, (ldS j).val = 42 + j.val := by decide
theorem stS_val : ∀ j, (stS j).val = 46 + j.val := by decide

/-- A semaphore's place among all of them. -/
def code : SemLoc sig → ℕ
  | .reg s => s.val | .dma s => 16 + s.val
/-- A key's. -/
def kcode : Key → ℕ
  | .bar => 15 | .cr j k => 5 * j.val + k.val | .rsS j k => 16 + (4 * j.val + k.val) | .rsR j k => 16 + (12 + 4 * j.val + k.val)
  | .agS j k => 16 + (24 + 3 * j.val + k.val) | .agR j k => 16 + (33 + 3 * j.val + k.val)
theorem code_loc (x : Key) : code (loc x) = kcode x := by
  cases x with
  | bar => exact barS_val
  | cr j k => exact crS_val j k
  | rsS j k => exact congrArg (16 + ·) (rsS_val j k)
  | rsR j k => exact congrArg (16 + ·) (rsR_val j k)
  | agS j k => exact congrArg (16 + ·) (agS_val j k)
  | agR j k => exact congrArg (16 + ·) (agR_val j k)
theorem kcode_inj : Function.Injective kcode := by
  intro x y h
  cases x <;> cases y <;> simp only [kcode] at h <;>
    first
      | rfl
      | (exfalso; omega)
      | (rename_i j k j' k'
         have ej : j = j' := Fin.ext (by omega)
         have ek : k = k' := Fin.ext (by omega)
         subst ej; subst ek; rfl)
theorem loc_inj : Function.Injective loc := fun x y h => kcode_inj (by rw [← code_loc, ← code_loc, h])

open Classical in
/-- The key of a semaphore, if it has one. -/
def key? (l : SemLoc sig) : Option Key := if h : ∃ x, loc x = l then some h.choose else none
theorem key?_loc (x : Key) : key? (loc x) = some x := by
  have h : ∃ y, loc y = loc x := ⟨x, rfl⟩
  rw [key?, dif_pos h]; exact congrArg some (loc_inj h.choose_spec)
theorem key?_none {l : SemLoc sig} (h : ∀ x, loc x ≠ l) : key? l = none := by
  rw [key?, dif_neg (fun ⟨x, hx⟩ => h x hx)]

/-- The cell of a key on a device. -/
abbrev cell (c : Dev nD) (x : Key) : GSem nD τ sig := ((c : Thread nD τ), loc x)

/-- What a transfer of `n` rows credits. -/
def N (n : ℕ) : ℕ := RefSig.tileCredit (R2 n) .bf16
theorem N_sb (n : ℕ) (o : Fin 3 → ℕ) (h : Good n o) : (slab sbM n o h).view.dmaCredit = N n := rfl
theorem N_rv (n : ℕ) (o : Fin 3 → ℕ) (h : Good n o) : (slab rvM n o h).view.dmaCredit = N n := rfl

/-- How many rows the transfer of step `k` moves in the reduction and in the gathering. -/
def rsN : Fin 4 → ℕ := ![256, 256, 128, 256]
def agN : Fin 3 → ℕ := ![128, 256, 512]

/-- The units of one duty of a key, the duties, and all their units. -/
def amt : Key → ℕ
  | .bar => 1 | .cr _ _ => 1 | .rsS _ k => N (rsN k) | .rsR _ k => N (rsN k) | .agS _ k => N (agN k) | .agR _ k => N (agN k)
def dty : Key → Finset (Fin 3)
  | .bar => Finset.univ | _ => {0}
def total : Key → ℕ
  | .bar => 3 | x => amt x
theorem N_pos : ∀ n ∈ [128, 256, 512], 0 < N n := by decide
theorem rsN_mem : ∀ k, rsN k ∈ [128, 256, 512] := by decide
theorem agN_mem : ∀ k, agN k ∈ [128, 256, 512] := by decide
theorem amt_pos (x : Key) : 0 < amt x := by
  cases x with
  | bar => exact Nat.one_pos
  | cr j k => exact Nat.one_pos
  | rsS j k => exact N_pos _ (rsN_mem k)
  | rsR j k => exact N_pos _ (rsN_mem k)
  | agS j k => exact N_pos _ (agN_mem k)
  | agR j k => exact N_pos _ (agN_mem k)
theorem sum_amt (x : Key) : ∑ d ∈ dty x, amt x = total x := by
  cases x <;> simp [dty, amt, total]

/-! ## What a device pays, in order -/

/-- The key, the axis across which, and the duty of each payment. -/
def pays : List (Key × Fin 3 × Fin 3) :=
  [(.bar, 0, 0), (.bar, 1, 1), (.bar, 2, 2),
   (.rsR 0 0, 0, 0), (.rsR 0 3, 0, 0), (.rsR 1 0, 1, 0), (.rsR 1 3, 1, 0), (.rsR 2 0, 2, 0), (.rsR 2 3, 2, 0),
   (.cr 0 0, 1, 0), (.rsR 0 1, 1, 0), (.cr 1 0, 2, 0), (.rsR 1 1, 2, 0), (.cr 2 0, 0, 0), (.rsR 2 1, 0, 0),
   (.cr 0 1, 2, 0), (.rsR 0 2, 2, 0), (.cr 1 1, 0, 0), (.rsR 1 2, 0, 0), (.cr 2 1, 1, 0), (.rsR 2 2, 1, 0),
   (.cr 0 2, 2, 0), (.cr 1 2, 0, 0), (.cr 2 2, 1, 0),
   (.agR 0 0, 2, 0), (.agR 1 0, 0, 0), (.agR 2 0, 1, 0),
   (.cr 0 3, 1, 0), (.cr 1 3, 2, 0), (.cr 2 3, 0, 0),
   (.agR 0 1, 1, 0), (.agR 1 1, 2, 0), (.agR 2 1, 0, 0),
   (.cr 0 4, 0, 0), (.cr 1 4, 1, 0), (.cr 2 4, 2, 0),
   (.agR 0 2, 0, 0), (.agR 1 2, 1, 0), (.agR 2 2, 2, 0)]
def pk (t : ℕ) : Key := (pays.getD t (.bar, 0, 0)).1
def px (t : ℕ) : Fin 3 := (pays.getD t (.bar, 0, 0)).2.1
def pd (t : ℕ) : Fin 3 := (pays.getD t (.bar, 0, 0)).2.2
/-- How many there are. -/
abbrev T : ℕ := 39

theorem pd_mem : ∀ t < T, pd t ∈ dty (pk t) := by decide

/-- The level of a key: later the later it is paid. -/
def lev (x : Key) : ℕ := match pays.findIdx? (fun p => p.1 = x) with
  | some t => t + 1 | none => 0

/-- The cell of payment `t` of device `c`. -/
def tgt (c : Dev nD) (t : ℕ) : GSem nD τ sig := cell (partner (px t) c) (pk t)

/-- What is still owed from payment `t` on. -/
def owedFrom (c : Dev nD) (t : ℕ) : CellTallies nD τ sig Unit := ∑ i ∈ Finset.Ico t T, tallyAt (tgt c i) () (amt (pk i))
theorem owedFrom_succ (c : Dev nD) {t : ℕ} (h : t < T) : owedFrom c t = owedFrom c (t + 1) + tallyAt (tgt c t) () (amt (pk t)) := by
  unfold owedFrom
  rw [Finset.sum_eq_sum_Ico_succ_bot h, add_comm]
theorem owedFrom_last (c : Dev nD) : owedFrom c T = 0 := by
  unfold owedFrom; rw [Finset.Ico_self, Finset.sum_empty]
theorem owedFrom_pos {c : Dev nD} {t : ℕ} {g : GSem nD τ sig} {u : Unit} (h : 0 < owedFrom c t g u) :
    ∃ i, t ≤ i ∧ i < T ∧ g = tgt c i := by
  by_contra hn
  have h0 : owedFrom c t g u = 0 := by
    unfold owedFrom
    rw [Finset.sum_apply, Finsupp.finset_sum_apply]
    refine Finset.sum_eq_zero fun i hi => ?_
    rw [Finset.mem_Ico] at hi
    rw [tallyAt_apply, if_neg (fun h' => hn ⟨i, hi.1, hi.2, h'.1⟩)]
  omega

/-- Every TensorCore's cells are in play, at their key's level; the local transfers' at the lowest. -/
def L (g : GSem nD τ sig) : Finset Unit := if g.1.2 = .tc then {()} else ∅
def lv (g : GSem nD τ sig) (_ : Unit) : ℕ := match key? g.2 with
  | some x => lev x | none => 0
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Key) : lv (cell c x) () = lev x := by
  unfold lv; rw [show (cell c x).2 = loc x from rfl, key?_loc]

/-- Every payment still owed at `t` is at a level above `b`. -/
abbrev Above (b t : ℕ) : Prop := ∀ i, t ≤ i → i < T → b < lev (pk i)
theorem above_zero (t : ℕ) : Above 0 t := by
  have h : ∀ i < T, 0 < lev (pk i) := by decide
  exact fun i _ hi => h i hi

variable {F : FTy → Type} [FloatOps F]
local notation "𝕄" => MT nD τ sig Unit (Elt F) ℕ UU ℕ

omit [FloatOps F] in
theorem mayWait (c : Dev nD) (sm : SemLoc sig) (t : ℕ) (h : Above (lv ((c : Thread nD τ), sm) ()) t) :
    (levAts L lv : sProp 𝕄) ⊢ MayWait (c : Thread nD τ) sm () (owedFrom c t) :=
  MayOwe.of_cut (L := L) (lev := lv) (lv ((c : Thread nD τ), sm) ())
    (fun p hp => by rw [Finset.mem_singleton.mp hp, L_tc]; exact Finset.mem_singleton_self _)
    (fun g u hg => by
      obtain ⟨i, -, -, rfl⟩ := owedFrom_pos hg
      unfold tgt; rw [L_tc]; exact Finset.mem_singleton_self _)
    (fun p hp => by rw [Finset.mem_singleton.mp hp])
    (fun g u hg => by
      obtain ⟨i, h1, h2, rfl⟩ := owedFrom_pos hg
      unfold tgt; rw [show u = () from rfl, lv_cell]; exact h i h1 h2)

end Cert.KernelIdeal.Ring
end
end
-- ==== Proof.KI.Sched.lean ====
/- What each credit of a semaphore hands over, and the steps by which devices tell one another. -/
module

public import proofs.«01_k».proof.Proof.KI.Keys

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx
open Cert.KernelIdeal Cert.KernelIdeal.Gen Cert.Pieces

variable {F : FTy → Type} [FloatOps F]
local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) :=
  (Emb.inl : Emb (URounds (GSem nD τ sig) (Fin 3)) (URounds (GSem nD τ sig) (Fin 3) × Counters)).trans embR
abbrev EC : UEmb Counters (MT nD τ sig Unit (Elt F) ℕ UU ℕ) := countersEmb

variable {A : Dev nD → S3072x1536.Idx → F .f32} {B : Dev nD → S1536x3072.Idx → F .f32} (X : Spec F A B)

/-! ## The payloads -/

/-- The two devices, and the four, whose products a device has summed after the first and the second exchange. -/
def D1 (j : Fin 3) (c : Dev nD) : Finset (Dev nD) := {c, pt j 0 c}
def D2 (j : Fin 3) (c : Dev nD) : Finset (Dev nD) := {c, pt j 0 c, pt j 1 c, pt j 0 (pt j 1 c)}
/-- The first row of the result of the own kept half of slab `j`, and of the half passed on. -/
def kb (j : Fin 3) (c : Dev nD) : ℕ := j.val * 1024 + kept j c
def sb (j : Fin 3) (c : Dev nD) : ℕ := j.val * 1024 + sent j c

/-- What the values say: narrowed and wide sums over `S` of the rows from `g`. -/
abbrev hv (S : Finset (Dev nD)) (g : ℕ) : ℕ → ℕ → Elt F .bf16 → Prop := fun a b v => X.h S (g + a) b v
abbrev fv (S : Finset (Dev nD)) (g : ℕ) : ℕ → ℕ → Elt F .f32 → Prop := fun a b v => X.f S (g + a) b v

/-- What duty `d` of key `x` hands to device `c`: a partner's incoming rows to write, own incoming rows written, or own rows that have left. -/
def Pay (x : Key) (d : Fin 3) (c : Dev nD) : sProp 𝕄 := match x with
  | .bar => pr (partner d c) rvM d 0 512 anyV
  | .cr j k => match k with
    | 0 => pr (pt j 1 c) rvM j 0 256 anyV
    | 1 => pr (pt j 2 c) rvM j 0 128 anyV
    | 2 => pr (pt j 2 c) rvM j 0 128 anyV
    | 3 => pr (pt j 1 c) rvM j 0 256 anyV
    | 4 => pr (pt j 0 c) rvM j 0 512 anyV
  | .rsS j k => match k with
    | 0 => pr c sbM j (oS1 j c) 256 anyV
    | 1 => pr c sbM j 0 256 anyV
    | 2 => pr c sbM j 0 128 anyV
    | 3 => pr c sbM j (oK1 j c) 256 anyV
  | .rsR j k => match k with
    | 0 => pr c rvM j 0 256 (hv X {pt j 0 c} (kb j c + oS1 j c))
    | 1 => pr c rvM j 0 256 (hv X (D1 j (pt j 1 c)) (kb j c + oK1 j c))
    | 2 => pr c rvM j 0 128 (hv X (D2 j (pt j 2 c)) (kb j c + oK2 j c))
    | 3 => pr c rvM j 256 256 (hv X {pt j 0 c} (kb j c + oK1 j c))
  | .agS j k => match k with
    | 0 => pr c sbM j 0 128 anyV
    | 1 => pr c sbM j 0 256 anyV
    | 2 => pr c sbM j 0 512 anyV
  | .agR j k => match k with
    | 0 => pr c rvM j 0 128 (hv X Finset.univ (kb j c + oS2 j c))
    | 1 => pr c rvM j 0 256 (hv X Finset.univ (kb j c + oS1 j c))
    | 2 => pr c rvM j 0 512 (hv X Finset.univ (sb j c))

instance Pay_storable (x : Key) (d : Fin 3) (c : Dev nD) : BI.Storable (upEmb : UEmb _ 𝕄) (Pay X x d c) := by
  cases x with
  | bar => exact pr_storable _ _ _ _ _ _
  | cr j k => fin_cases k <;> exact pr_storable _ _ _ _ _ _
  | rsS j k => fin_cases k <;> exact pr_storable _ _ _ _ _ _
  | rsR j k => fin_cases k <;> exact pr_storable _ _ _ _ _ _
  | agS j k => fin_cases k <;> exact pr_storable _ _ _ _ _ _
  | agR j k => fin_cases k <;> exact pr_storable _ _ _ _ _ _

/-- The schedule: one round of every key's cell. -/
def Rd : Schedule (GSem nD τ sig) (Fin 3) 𝕄 where
  duties g r := match key? g.2 with
    | some x => if r = 0 ∧ g.1.2 = Proc.tc then dty x else ∅
    | none => ∅
  unitless _ := False
  amount g _ _ := match key? g.2 with
    | some x => amt x | none => 1
  payload g _ d := match key? g.2 with
    | some x => Pay X x d g.1.1 | none => iprop(emp)
  amount_pos g _ _ _ := by
    cases key? g.2 with
    | some x => exact amt_pos x
    | none => exact Nat.one_pos

instance Rd_storable (g : GSem nD τ sig) (r : ℕ) (d : Fin 3) : BI.Storable (upEmb : UEmb _ 𝕄) ((Rd X).payload g r d) := by
  show BI.Storable upEmb (match key? g.2 with
    | some x => Pay X x d g.1.1 | none => iprop(emp))
  cases key? g.2 with
  | some x => exact Pay_storable X x d _
  | none => show BI.Storable upEmb (iprop(emp) : sProp 𝕄); infer_instance

theorem duties_cell (c : Dev nD) (x : Key) : (Rd X).duties (cell c x) 0 = dty x := by
  show (match key? (loc x) with
    | some x => if 0 = 0 ∧ (c : Thread nD τ).2 = Proc.tc then dty x else ∅
    | none => ∅) = _
  rw [key?_loc]; exact if_pos ⟨rfl, rfl⟩
theorem duties_later (g : GSem nD τ sig) : ∀ r, 1 ≤ r → (Rd X).duties g r = ∅ := by
  intro r hr
  show (match key? g.2 with
    | some x => if r = 0 ∧ g.1.2 = Proc.tc then dty x else ∅
    | none => ∅) = _
  cases key? g.2 with
  | some x => exact if_neg (by omega)
  | none => rfl
theorem amount_cell (c : Dev nD) (x : Key) (r : ℕ) (d : Fin 3) : (Rd X).amount (cell c x) r d = amt x := by
  show (match key? (loc x) with
    | some x => amt x | none => 1) = _
  rw [key?_loc]
theorem payload_cell (c : Dev nD) (x : Key) (r : ℕ) (d : Fin 3) : (Rd X).payload (cell c x) r d = Pay X x d c := by
  show (match key? (loc x) with
    | some x => Pay X x d c | none => iprop(emp)) = _
  rw [key?_loc]
theorem expect_cell (c : Dev nD) (x : Key) : (Rd X).expect (cell c x) 0 = total x := by
  unfold Schedule.expect Schedule.amountOf
  rw [duties_cell, ← sum_amt]
  exact Finset.sum_congr rfl fun d _ => amount_cell X c x 0 d

/-! ## What a device holds of the schedule -/

/-- What every device knows: each cell's invariant, that its round is open, and the levels. -/
def ctx : sProp 𝕄 :=
  iprop(bigSep (Finset.univ : Finset (Dev nD × Key)) (fun p => iprop((∃ κ, cellInv ER (Rd X) κ (cell p.1 p.2)) ∗ reached ER (cell p.1 p.2) 0)) ∗ levAts L lv)

instance ctx_persistent : BI.Persistent (ctx X) := by unfold ctx; infer_instance

theorem ctx_cell (c : Dev nD) (x : Key) : ctx X ⊢ iprop((∃ κ, cellInv ER (Rd X) κ (cell c x)) ∗ reached ER (cell c x) 0) := by
  unfold ctx
  iintro ⟨H, -⟩
  have h := bigSep_elim (Finset.mem_univ (c, x)) (Φ := fun p : Dev nD × Key => iprop((∃ κ, cellInv ER (Rd X) κ (cell p.1 p.2)) ∗ reached ER (cell p.1 p.2) 0))
  change _ ⊢ iprop((∃ κ, cellInv ER (Rd X) κ (cell c x)) ∗ reached ER (cell c x) 0) at h
  iapply h $$ H
theorem ctx_lev : ctx X ⊢ (levAts L lv : sProp 𝕄) := by
  unfold ctx
  iintro ⟨-, H⟩
  iexact H

/-- The tokens of the payments from `t` on, and what is owed with them. -/
def toks (c : Dev nD) (t : ℕ) : sProp 𝕄 := bigSep (Finset.Ico t T) (fun i => dutyTok ER (tgt c i) 0 (pd i))
def owing (c : Dev nD) (t : ℕ) : sProp 𝕄 := iprop(∃ W, owes (c : Thread nD τ) (owedFrom c t) W ∗ toks c t)

omit [FloatOps F] in
theorem toks_succ (c : Dev nD) {t : ℕ} (h : t < T) :
    (toks c t : sProp 𝕄) = iprop(dutyTok ER (tgt c t) 0 (pd t) ∗ toks c (t + 1)) := by
  unfold toks
  rw [← Finset.insert_Ico_add_one_left_eq_Ico h, bigSep_insert (by simp)]
  rfl

/-- A cell about to be waited for; an own cell a send is about to credit; a cell done with. -/
def ready (c : Dev nD) (x : Key) : sProp 𝕄 := iprop(atPos ER (cell c x) 0 ∅ 0 ∗ cred (tallyAt (cell c x) () (total x)))
def fresh (c : Dev nD) (x : Key) : sProp 𝕄 := iprop(atPos ER (cell c x) 0 ∅ 0 ∗ dutyTok ER (cell c x) 0 0)
abbrev done (c : Dev nD) (x : Key) : sProp 𝕄 := semVal (cell c x) 0

section Steps
variable {c : Dev nD} {Q : PUnit → sProp (MT nD τ sig Unit (Elt F) ℕ UU ℕ)}

/-- A unit to a partner's cell: the next payment. -/
theorem wp_sig (t : ℕ) (ht : t < T) {d : Dev nD} {s : Sem sig} (hd : d = partner (px t) c) (hs : loc (pk t) = .reg s) (ha : amt (pk t) = 1) {k : Pr F} :
    iprop(ctx X ∗ owing c t ∗ Pay X (pk t) (pd t) (partner (px t) c)) ⊢ iprop((owing c (t + 1) -∗ WP c k Q) -∗ WP c (pSig d s k) Q) := by
  subst hd
  iintro ⟨#Hc, HW, HP⟩ Hk
  unfold owing
  icases HW with ⟨%W, HO, Ht⟩
  ihave Hcc := (ctx_cell X (partner (px t) c) (pk t)) $$ Hc
  icases Hcc with ⟨⟨%κ, #Hinv⟩, #Hr⟩
  ihave Ht := (Entails.of_eq (toks_succ c ht)) $$ Ht
  icases Ht with ⟨Htok, Ht⟩
  rw [owedFrom_succ c ht]
  simp only [pSig, semSignalWord, Prog.bind_op, Prog.bind_ret]
  have e1 : tgt c t = ((partner (px t) c : Thread nD τ), SemLoc.reg s) := by unfold tgt; rw [← hs]
  have e4 : owedFrom c (t + 1) + tallyAt (tgt c t) () (amt (pk t)) = owedFrom c (t + 1) + tallyAt ((partner (px t) c : Thread nD τ), SemLoc.reg s) () (1#32).toNat := by rw [e1, ha]; rfl
  iapply (Rounds.wp_signal 𝒱₀ ER (Rd X) (c : Thread nD τ) none (dst := (partner (px t) c : Thread nD τ)) (r := 0) (d := pd t) (κ := κ)
      (by rw [← hs]; rw [duties_cell]; exact pd_mem t ht)
      (by rw [← hs]; exact (amount_cell X _ _ _ _).trans (ha.trans (by decide))) () (owedFrom c (t + 1)) e4) $$ [HO Htok HP]
  · rw [← hs]
    isplitr; · iexact Hinv
    isplitl [HO]; · iexact HO
    isplitl [Htok]; · iexact Htok
    isplitl [HP]
    · rw [payload_cell]; iexact HP
    · iexact Hr
  iintro HO
  iapply Hk
  iexists W
  isplitl [HO] <;> iassumption

/-- The end of a wait for all a cell's units. -/
theorem wp_rest (x : Key) (t : ℕ) (hlev : Above (lev x) t) {w : TpuEff nD τ sig (Elt F) Λ₀ .tc PUnit} {k : PUnit → Pr F} {n : ℕ} (hn : n = total x)
    (hw : ∀ K : PUnit → sProp 𝕄, wpE defs₀ 𝒱₀ (c : Thread nD τ) none Set.univ w K = waitSpec (c : Thread nD τ) Set.univ (loc x) n K) :
    iprop(ctx X ∗ owing c t ∗ ready c x) ⊢ iprop((iprop(owing c t ∗ done c x ∗ bigSep (dty x) (fun d => Pay X x d c)) -∗ WP c (k ⟨⟩) Q)
      -∗ WP c (.op w k) Q) := by
  subst hn
  unfold ready
  iintro ⟨#Hc, HW, Hat, Hcr⟩ Hk
  unfold owing
  icases HW with ⟨%W, HO, Ht⟩
  ihave Hcc := (ctx_cell X c x) $$ Hc
  icases Hcc with ⟨⟨%κ, #Hinv⟩, #Hr⟩
  iapply (Rounds.wp_wait_rest_token 𝒱₀ ER (Rd X) (c : Thread nD τ) none (κ := κ) hw (Set.mem_univ _) () (O := owedFrom c t) (W := W) (R := 0) (m := 0) (T := ∅)
      (by rw [Nat.zero_add]; exact (expect_cell X c x).symm)) $$ [Hcr HO Hat]
  · isplitr; · iexact Hinv
    isplitl [Hcr]; · iexact Hcr
    isplitl [HO]; · iexact HO
    isplitr
    · iapply (mayWait c (loc x) t (by rw [show lv ((c : Thread nD τ), loc x) () = lev x from lv_cell c x]; exact hlev))
      iapply (ctx_lev X); iexact Hc
    iexact Hat
  iintro ⟨HO, Hat, -, HP⟩
  imod (Rounds.cell_close ER (Rd X) (Set.mem_univ κ) (fun h => h) (R := 0 + 1) (duties_later X (cell c x))) $$ [Hat] with Hz
  · isplitr; · iexact Hinv
    iexact Hat
  iapply Hk
  isplitl [HO Ht]
  · iexists (insert (loc x, ()) W)
    isplitl [HO] <;> iassumption
  isplitl [Hz]; · iexact Hz
  have e1 : bigSep ((Rd X).duties (cell c x) 0 \ ∅) (fun d => (Rd X).payload (cell c x) 0 d) = bigSep (dty x) (fun d => Pay X x d c) := by
    rw [Finset.sdiff_empty, duties_cell]
    exact bigSep_congr fun d _ => payload_cell X c x 0 d
  rw [← e1]
  iexact HP

/-- A wait for a credit, -/
theorem wp_credit (x : Key) (t : ℕ) (hlev : Above (lev x) t) {s : Sem sig} (hs : loc x = .reg s) {n : BitVec 32} (hn : n.toInt = total x) {k : Pr F} :
    iprop(ctx X ∗ owing c t ∗ ready c x) ⊢ iprop((iprop(owing c t ∗ done c x ∗ bigSep (dty x) (fun d => Pay X x d c)) -∗ WP c k Q)
      -∗ WP c (pSemWait s n k) Q) := by
  simp only [pSemWait, semWaitWord, Prog.bind_op, Prog.bind_ret]
  refine wp_rest X x t hlev (k := fun _ => k) rfl ?_
  rw [hs, hn]
  exact wpE_semWait_eq 𝒱₀ (c : Thread nD τ) none Set.univ
/-- and for a transfer. -/
theorem wp_arrived (x : Key) (t : ℕ) (hlev : Above (lev x) t) {s : DmaSem sig} (hs : loc x = .dma s) {s₁ s₂ : Shape} {e₁ e₂ : EltTy} {sp₁ sp₂ : Space}
    {src : Memref sig .tc sp₁ s₁ e₁} {dst : Memref sig .tc sp₂ s₂ e₂} {h₁ : src.view.WordExact} {h₂ : dst.view.WordExact} (hn : dst.view.dmaCredit = total x) (hx : dty x = {0}) (R : sProp (MT nD τ sig Unit (Elt F) ℕ UU ℕ)) (hR : Pay X x 0 c ⊢ R) {k : PUnit → Pr F} :
    iprop(ctx X ∗ owing c t ∗ ready c x) ⊢ iprop((iprop(owing c t ∗ done c x ∗ R) -∗ WP c (k ⟨⟩) Q)
      -∗ WP c (.op (.waitDma2 s src dst h₁ h₂) k) Q) := by
  have := wp_rest (c := c) (Q := Q) X x t hlev (w := .waitDma2 s src dst h₁ h₂) (k := k) hn (by
    rw [hs]; exact wpE_waitDma2_eq 𝒱₀ (c : Thread nD τ) none Set.univ)
  rw [hx, bigSep_singleton] at this
  refine this.trans (wand_mono (wand_mono ?_ BIBase.Entails.rfl) BIBase.Entails.rfl)
  exact sep_mono_right (sep_mono_right hR)

/-- Rows sent to a partner: the next payment. -/
theorem wp_send (t : ℕ) (ht : t < T) (xs : Key) {n : ℕ} {j : Fin 3} {r r' : ℕ} {o o' : Fin 3 → ℕ} {h : Good n o} {h' : Good n o'} (ho : o = atR j r) (ho' : o' = atR j r')
    {d : Dev nD} {sS sR : DmaSem sig} (hd : d = partner (px t) c) (hS : loc xs = .dma sS) (hR : loc (pk t) = .dma sR)
    (hnS : amt xs = N n) (hnT : total xs = N n) (hnR : amt (pk t) = N n) (hx : dty xs = {0}) {φ : ℕ → ℕ → Elt F .bf16 → Prop}
    (hpS : pr c sbM j r n φ ⊢ Pay X xs 0 c) (hpR : pr (partner (px t) c) rvM j r' n φ ⊢ Pay X (pk t) (pd t) (partner (px t) c)) {k : Pr F} :
    iprop(ctx X ∗ owing c t ∗ fresh c xs ∗ pr c sbM j r n φ ∗ pr (partner (px t) c) rvM j r' n anyV)
      ⊢ iprop((iprop(owing c (t + 1) ∗ ready c xs) -∗ WP c k Q) -∗ WP c (pSend n o h d o' h' sS sR k) Q) := by
  subst hd ho ho'
  unfold fresh
  iintro ⟨#Hc, HW, ⟨Hat, HtS⟩, Hs, Hd⟩ Hk
  unfold owing
  icases HW with ⟨%W, HO, Ht⟩
  ihave Hcc := (ctx_cell X (partner (px t) c) (pk t)) $$ Hc
  icases Hcc with ⟨⟨%κ, #Hinv⟩, #Hr⟩
  ihave Hcc := (ctx_cell X c xs) $$ Hc
  icases Hcc with ⟨⟨%κs, #Hinvs⟩, #Hrs⟩
  ihave Ht := (Entails.of_eq (toks_succ c ht)) $$ Ht
  icases Ht with ⟨Htok, Ht⟩
  ihave Hs := (slab_of_pr j r h) $$ Hs
  ihave Hd := (slab_of_pr j r' h') $$ Hd
  unfold pc
  icases Hs with ⟨%fs, %hfs, Hs⟩
  icases Hd with ⟨%fd, -, Hd⟩
  rw [owedFrom_succ c ht]
  have e1 : tgt c t = ((partner (px t) c : Thread nD τ), SemLoc.dma sR) := by unfold tgt; rw [← hR]
  have e2 : (((c : Dev nD) : Thread nD τ), loc xs) = ((c : Thread nD τ), SemLoc.dma sS) := by rw [hS]
  have e3 : (((partner (px t) c : Dev nD) : Thread nD τ), loc (pk t)) = ((partner (px t) c : Thread nD τ), SemLoc.dma sR) := by rw [hR]
  have e4 : owedFrom c (t + 1) + tallyAt (tgt c t) () (amt (pk t)) = owedFrom c (t + 1) + tallyAt ((partner (px t) c : Thread nD τ), SemLoc.dma sR) () (N n) := by rw [e1, hnR]
  simp only [pSend]
  iapply (Rounds.wp_send_pointsTo 𝒱₀ ER (Rd X) (c : Thread nD τ) none (κ₁ := κs) (κ₂ := κ) (r₁ := 0) (r₂ := 0) (d₁ := 0) (d₂ := pd t) (fs := fs) (fd := fd)
      (by rw [← e2, duties_cell, hx]; exact Finset.mem_singleton_self _) (by rw [← e3, duties_cell]; exact pd_mem t ht) () () (N n) rfl
      (by rw [← e2]; exact (amount_cell X _ _ _ _).trans hnS) (by rw [← e3]; exact (amount_cell X _ _ _ _).trans hnR)
      (owedFrom c (t + 1)) e4 (W := W) ?_ ?_) $$ [HO HtS Htok Hs Hd]
  · rw [← e2, payload_cell]
    refine BIBase.Entails.trans ?_ hpS
    refine BIBase.Entails.trans ?_ (pr_of_slab j r h)
    exact pc_of_pointsTo (S := Finset.univ) hfs
  · rw [← e3, payload_cell]
    refine BIBase.Entails.trans ?_ hpR
    refine BIBase.Entails.trans ?_ (pr_of_slab j r' h')
    refine pc_of_pointsTo (S := Finset.univ) fun i hi => ?_
    rw [View.read_write_univ]
    exact hfs i hi
  · isplitr; · rw [← e2]; iexact Hinvs
    isplitr; · rw [← e3]; iexact Hinv
    isplitl [Hs]; · iexact Hs
    isplitl [Hd]; · iexact Hd
    isplitl [HO]; · iexact HO
    isplitl [HtS]; · rw [← e2]; iexact HtS
    isplitr; · rw [← e2]; iexact Hrs
    isplitl [Htok]; · rw [← e1]; iexact Htok
    rw [← e3]; iexact Hr
  iintro ⟨Hcr, HO⟩
  iapply Hk
  isplitl [HO Ht]
  · iexists W
    isplitl [HO] <;> iassumption
  unfold ready
  isplitl [Hat]; · iexact Hat
  rw [hnT, show cell c xs = ((c : Thread nD τ), SemLoc.dma sS) from e2]
  iexact Hcr

end Steps

end Cert.KernelIdeal.Ring
end
end
-- ==== Proof.KI.Local.lean ====
/- The steps of one device: loads and stores, local transfers, and what is computed on rows. -/
module

public import proofs.«01_k».proof.Proof.KI.Sched

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx
open Cert.KernelIdeal Cert.KernelIdeal.Gen Cert.Pieces

variable {F : FTy → Type} [FloatOps F]
local notation "𝕄" => MT nD τ sig Unit (Elt F) ℕ UU ℕ
variable {A : Dev nD → S3072x1536.Idx → F .f32} {B : Dev nD → S1536x3072.Idx → F .f32} (X : Spec F A B)

/-! ## Laws of pieces -/

/-- A part of a piece taken out, to be put back changed. -/
theorem pc_focus {sp : Space} {s : Shape} {e : EltTy} {c : Dev nD} {m : Memref sig .tc sp s e} {r S : Finset s.Idx} {P P' P'' : s.Idx → Elt F e → Prop}
    (h : r ⊆ S) (h1 : ∀ i ∈ r, ∀ v, P' i v → P'' i v) (h2 : ∀ i ∈ S \ r, ∀ v, P i v → P'' i v) :
    (pc c m S P : sProp 𝕄) ⊢ iprop(pc c m r P ∗ (pc c m r P' -∗ pc c m S P'')) := by
  have e1 : S = r ∪ (S \ r) := by rw [Finset.union_sdiff_of_subset h]
  iintro H
  ihave H := (Entails.of_eq (congrArg (fun S => pc c m S P) e1)) $$ H
  ihave H := (pc_split (Finset.disjoint_sdiff)) $$ H
  icases H with ⟨H1, H2⟩
  isplitl [H1]; · iexact H1
  iintro H1
  iapply (Entails.of_eq (congrArg (fun S => (pc c m S P'' : sProp 𝕄)) e1.symm))
  iapply (pc_join (Finset.disjoint_sdiff))
  isplitl [H1]
  · iapply (pc_mono h1) $$ H1
  · iapply (pc_mono h2) $$ H2

/-- The same of a buffer of known contents, read only, with a rectangle of it taken as a memref of its own. -/
theorem known_focus {sp : Space} {s : Shape} {e : EltTy} {c : Dev nD} {m : Memref sig .tc sp s e} (V : s.Idx → Elt F e) (r : Rect s) (h : ∀ a, r.stride a = 1) :
    (pc c m Finset.univ (fun i v => v = V i) : sProp 𝕄) ⊢ iprop(pc c (m.slice r h) Finset.univ (fun x v => v = V (r.emb x))
      ∗ (pc c (m.slice r h) Finset.univ (fun x v => v = V (r.emb x)) -∗ pc c m Finset.univ (fun i v => v = V i))) := by
  iintro H
  have hf : (pc c m Finset.univ (fun i v => v = V i) : sProp 𝕄) ⊢ iprop(pc c m r.set (fun i v => v = V i) ∗ (pc c m r.set (fun i v => v = V i) -∗ pc c m Finset.univ (fun i v => v = V i))) :=
    pc_focus (Finset.subset_univ _) (fun _ _ _ hv => hv) (fun _ _ _ hv => hv)
  ihave H := hf $$ H
  icases H with ⟨H, Hk⟩
  isplitl [H]
  · iapply (slice_of_pc r h (P := fun i v => v = V i) (R := fun x v => v = V (r.emb x)) (fun _ _ hv => hv)) $$ H
  · iintro H
    iapply Hk
    iapply (pc_of_slice r h (P := fun i v => v = V i) (R := fun x v => v = V (r.emb x)) (fun _ _ hv => hv)) $$ H

/-- Two runs of rows joined under one claim. -/
theorem pr_join' {e : EltTy} {c : Dev nD} {m : Memref sig .tc .vmem S3x512x3072 e} {φ ψ χ : ℕ → ℕ → Elt F e → Prop} (j r n n' : ℕ)
    (h1 : ∀ a b v, a < n → φ a b v → χ a b v) (h2 : ∀ a b v, a < n' → ψ a b v → χ (n + a) b v) :
    iprop(pr c m j r n φ ∗ pr c m j (r + n) n' ψ) ⊢ (pr c m j r (n + n') χ : sProp 𝕄) := by
  refine (pr_join j r n n').trans (pr_mono j r (n + n') fun a b v ha hv => ?_)
  by_cases h : a < n
  · rw [if_pos h] at hv; exact h1 a b v h hv
  · rw [if_neg h] at hv
    have := h2 (a - n) b v (by omega) hv
    rwa [show n + (a - n) = a by omega] at this

/-- Rows split in two halves, the first named first by the bit `b`; and joined. -/
theorem pr_halve {e : EltTy} {c : Dev nD} {m : Memref sig .tc .vmem S3x512x3072 e} {φ : ℕ → ℕ → Elt F e → Prop} (j r n : ℕ) {b : ℕ} (hb : b ≤ 1) :
    (pr c m j r (n + n) φ : sProp 𝕄) ⊢ iprop(pr c m j (r + (1 - b) * n) n (fun a => φ ((1 - b) * n + a)) ∗ pr c m j (r + b * n) n (fun a => φ (b * n + a))) := by
  rcases (by omega : b = 0 ∨ b = 1) with rfl | rfl
  · simp only [Nat.sub_zero, Nat.one_mul, Nat.zero_mul, Nat.add_zero, Nat.zero_add]
    iintro H
    ihave H := (pr_split j r n n) $$ H
    icases H with ⟨H1, H2⟩
    iframe
  · simp only [Nat.sub_self, Nat.one_mul, Nat.zero_mul, Nat.add_zero, Nat.zero_add]
    iintro H
    ihave H := (pr_split j r n n) $$ H
    icases H with ⟨H1, H2⟩
    iframe
theorem pr_unhalve {e : EltTy} {c : Dev nD} {m : Memref sig .tc .vmem S3x512x3072 e} {φ ψ χ : ℕ → ℕ → Elt F e → Prop} (j r n : ℕ) {b : ℕ} (hb : b ≤ 1)
    (h1 : ∀ a v' v, a < n → φ a v' v → χ ((1 - b) * n + a) v' v) (h2 : ∀ a v' v, a < n → ψ a v' v → χ (b * n + a) v' v) :
    iprop(pr c m j (r + (1 - b) * n) n φ ∗ pr c m j (r + b * n) n ψ) ⊢ (pr c m j r (n + n) χ : sProp 𝕄) := by
  rcases (by omega : b = 0 ∨ b = 1) with rfl | rfl
  · simp only [Nat.sub_zero, Nat.one_mul, Nat.zero_mul, Nat.add_zero, Nat.zero_add] at h1 h2 ⊢
    iintro ⟨H1, H2⟩
    iapply (pr_join' j r n n h2 h1)
    iframe
  · simp only [Nat.sub_self, Nat.one_mul, Nat.zero_mul, Nat.add_zero, Nat.zero_add] at h1 h2 ⊢
    iintro ⟨H1, H2⟩
    iapply (pr_join' j r n n h1 h2)
    iframe

/-! ## Local transfers -/

abbrev idle (c : Dev nD) (s : DmaSem sig) : sProp 𝕄 := semVal ((c : Thread nD τ), .dma s) 0

section Steps
variable {c : Dev nD} {Q : PUnit → sProp (MT nD τ sig Unit (Elt F) ℕ UU ℕ)}

/-- A transfer between two buffers of one device, begun -/
theorem wp_copy {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) (τ := τ) (p := Proc.tc) sp (.dma sm) (.here dst)} {k : PUnit → Pr F}
    {P P' : s.Idx → Elt F e → Prop} {D : sProp (MT nD τ sig Unit (Elt F) ℕ UU ℕ)} (h0 : 0 < s.numel) (hD : iprop(pc c dst Finset.univ P ∗ pc c src Finset.univ P) ⊢ D) :
    iprop(pc c src Finset.univ P ∗ pc c dst Finset.univ P' ∗ idle c sm)
      ⊢ iprop((Flight EC (c : Thread nD τ) (.dma sm) () (dst.view.dmaCredit) D -∗ WP c (k ⟨⟩) Q)
        -∗ WP c (.op (.enqueueDma src (.here dst) (.dma sm) hsrc hdst hsem) k) Q) := by
  unfold pc
  iintro ⟨⟨%fs, %hfs, Hs⟩, ⟨%fd, -, Hd⟩, Hi⟩ Hk
  iapply (wp_dmaLocal EC 𝒱₀ (c : Thread nD τ) none (src := src) (dst := dst) (sm := .dma sm) (Sd := dst.view.set) (fs := fs) (fd := fd) (via := .same) () (dst.view.dmaCredit)
    rfl (View.dmaCredit_pos _ h0) (Finset.Subset.refl _)) $$ [Hs Hd Hi]
  · isplitl [Hs]; · iexact Hs
    isplitl [Hd]; · iexact Hd
    iexact Hi
  iintro HF
  iapply Hk
  iapply (Flight_mono EC ?_) $$ HF
  refine BIBase.Entails.trans (BIClass.sep_mono ?_ ?_) hD
  · refine pc_of_pointsTo (S := Finset.univ) fun i hi => ?_
    rw [View.read_write_univ]
    exact hfs i hi
  · exact pc_of_pointsTo (S := Finset.univ) hfs

/-- and awaited. -/
theorem wp_copied {sp sp' : Space} {s : Shape} {e : EltTy} {src : Memref sig .tc sp s e} {dst : Memref sig .tc sp' s e} {sm : DmaSem sig} {n : ℕ}
    {hsrc : src.view.WordExact} {hdst : dst.view.WordExact} {k : PUnit → Pr F} {D : sProp (MT nD τ sig Unit (Elt F) ℕ UU ℕ)} (t : ℕ)
    (hl : key? (.dma sm) = none) (hn : dst.view.dmaCredit = n) :
    iprop(ctx X ∗ owing c t ∗ Flight EC (c : Thread nD τ) (.dma sm) () n D)
      ⊢ iprop((iprop(owing c t ∗ idle c sm ∗ D) -∗ WP c (k ⟨⟩) Q) -∗ WP c (.op (.waitDma2 sm src dst hsrc hdst) k) Q) := by
  unfold owing
  iintro ⟨#Hc, ⟨%W, HO, Ht⟩, HF⟩ Hk
  iapply (wp_waitLocalO EC 𝒱₀ (c : Thread nD τ) none () (O := owedFrom c t) (W := W) hn) $$ [HF HO]
  · isplitl [HF]; · iexact HF
    isplitl [HO]; · iexact HO
    iapply (mayWait c (.dma sm) t (by unfold lv; rw [hl]; exact above_zero t))
    iapply (ctx_lev X); iexact Hc
  iintro ⟨HD, Hi, HO⟩
  iapply Hk
  isplitl [HO Ht]
  · iexists (insert (SemLoc.dma sm, ()) W)
    iframe
  iframe

theorem key?_ld (i : Fin 4) : key? (.dma (ldS i)) = none := by
  refine key?_none fun x h => ?_
  have h1 := congrArg code h
  rw [code_loc] at h1
  have h2 : code (.dma (ldS i)) = 16 + (42 + i.val) := congrArg (16 + ·) (ldS_val i)
  rw [h2] at h1
  cases x <;> simp only [kcode] at h1 <;> omega
theorem key?_st (i : Fin 3) : key? (.dma (stS i)) = none := by
  refine key?_none fun x h => ?_
  have h1 := congrArg code h
  rw [code_loc] at h1
  have h2 : code (.dma (stS i)) = 16 + (46 + i.val) := congrArg (16 + ·) (stS_val i)
  rw [h2] at h1
  cases x <;> simp only [kcode] at h1 <;> omega

/-! ## The operands -/

/-- The left operand and the weights, as the device was given them; -/
def argA (A : Dev nD → S3072x1536.Idx → F .f32) (c : Dev nD) : sProp 𝕄 := pc c aM Finset.univ (fun i v => v = A c i)
def argB (B : Dev nD → S1536x3072.Idx → F .f32) (c : Dev nD) : sProp 𝕄 := pc c bM Finset.univ (fun i v => v = B c i)
/-- the load buffer; the first `n` rows of the weights narrowed; -/
def ldb (c : Dev nD) : sProp 𝕄 := pc c bsM Finset.univ (fun _ _ => True)
def wts (B : Dev nD → S1536x3072.Idx → F .f32) (c : Dev nD) (n : ℕ) : sProp 𝕄 :=
  pc c bbM Finset.univ (fun i v => (i (0 : Fin 2)).val < n → v = FloatOps.truncf .bf16 bitsLt_bf16_f32 (B c i))
/-- a place for a block of the left operand, and the place holding the block of rows from `g`. -/
abbrev slotR (s : Fin 2) : Rect S2x256x1536 := Rect.unit (s := S2x256x1536) ![(s : ℕ), 0, 0] S1x256x1536.size (inbSlot s)
def free (c : Dev nD) (s : Fin 2) : sProp 𝕄 := pc c asM (slotR s).set (fun _ _ => True)
def holds (A : Dev nD → S3072x1536.Idx → F .f32) (c : Dev nD) (s : Fin 2) (g : ℕ) : sProp 𝕄 :=
  pc c asM (slotR s).set (fun i v => ∀ y : S3072x1536.Idx, (y (0 : Fin 2)).val = g + (i (1 : Fin 3)).val → (y (1 : Fin 2)).val = (i (2 : Fin 3)).val → v = A c y)
/-- The fetch of the block of rows from `g` under way. -/
abbrev ldA (s : Fin 2) : DmaSem sig := ldS (2 + s.castLE (by decide))
def blkS (g : ℕ) : Finset S3072x1536.Idx := Finset.univ.filter fun i => g ≤ (i (0 : Fin 2)).val ∧ (i (0 : Fin 2)).val < g + 256
def blkA (A : Dev nD → S3072x1536.Idx → F .f32) (c : Dev nD) (g : ℕ) : sProp 𝕄 := pc c aM (blkS g) (fun i v => v = A c i)
def fetching (A : Dev nD → S3072x1536.Idx → F .f32) (c : Dev nD) (s : Fin 2) (g : ℕ) : sProp 𝕄 :=
  iprop(Flight EC (c : Thread nD τ) (.dma (ldA s)) () ((slot s).view.dmaCredit) iprop(holds A c s g ∗ blkA A c g) ∗ (blkA A c g -∗ argA A c))

theorem blk_set (g : ℕ) (h : InA ![g, 0]) : (Rect.unit (s := S3072x1536) ![g, 0] S256x1536.size h).set = blkS g := by
  ext i
  rw [Rect.mem_set_unit]
  simp only [blkS, Finset.mem_filter, Finset.mem_univ, true_and]
  have h1 : (i (1 : Fin 2)).val < 1536 := (i (1 : Fin 2)).isLt
  constructor
  · intro H
    have H0 := H (0 : Fin 2)
    simp at H0
    omega
  · intro H a
    fin_cases a <;> simp <;> omega

omit [FloatOps F] in
theorem free_of_holds (s : Fin 2) (g : ℕ) : holds A c s g ⊢ (free c s : sProp 𝕄) := by
  unfold holds free
  exact pc_mono fun _ _ _ _ => trivial

theorem slot_emb (s : Fin 2) (x : (slotR s).shape.Idx) :
    ((slotR s).emb x (1 : Fin 3)).val = (x (1 : Fin 3)).val ∧ ((slotR s).emb x (2 : Fin 3)).val = (x (2 : Fin 3)).val := by
  rw [Rect.emb_apply, Rect.emb_apply]
  constructor
  · show 0 + 1 * _ = _
    omega
  · show 0 + 1 * _ = _
    omega

/-- The index of a block in its place that an index of the block as a matrix names. -/
theorem re_coords' (j : S256x1536.Idx) :
    ((Shape.reshapeEquiv squeezes_S1x256x1536_S256x1536.numel_eq j (1 : Fin 3) : Fin _) : ℕ) = (j (0 : Fin 2)).val
      ∧ ((Shape.reshapeEquiv squeezes_S1x256x1536_S256x1536.numel_eq j (2 : Fin 3) : Fin _) : ℕ) = (j (1 : Fin 2)).val := by
  rw [show Shape.reshapeEquiv squeezes_S1x256x1536_S256x1536.numel_eq j = ix3 (⟨0, Nat.one_pos⟩ : Fin 1) (j 0) (j 1) from
    (congrArg _ (eq_ix2 j)).trans (reshapeEquiv_ix2_1ab squeezes_S1x256x1536_S256x1536.numel_eq (j 0) (j 1))]
  exact ⟨rfl, rfl⟩

/-- A block's fetch begun, -/
theorem wp_pFetch (s : Fin 2) (g : ℕ) {o : Fin 2 → ℕ} {h : InA o} (ho : o = ![g, 0]) {k : Pr F} :
    iprop(argA A c ∗ free c s ∗ idle c (ldA s)) ⊢ iprop((fetching A c s g -∗ WP c k Q) -∗ WP c (pFetch s o h k) Q) := by
  subst ho
  unfold argA free fetching pFetch
  iintro ⟨HA, Hf, Hi⟩ Hk
  have hf : (pc c aM Finset.univ (fun i v => v = A c i) : sProp 𝕄) ⊢ iprop(blkA A c g ∗ (blkA A c g -∗ argA A c)) :=
    pc_focus (Finset.subset_univ _) (fun _ _ _ hv => hv) (fun _ _ _ hv => hv)
  ihave HA := hf $$ HA
  icases HA with ⟨HA, HAk⟩
  have hs : blkA A c g ⊢ (pc c (aBlk ![g, 0] h) Finset.univ (fun x v => v = A c ((Rect.unit (s := S3072x1536) ![g, 0] S256x1536.size h).emb x)) : sProp 𝕄) := by
    unfold blkA
    rw [← blk_set g h]
    exact slice_of_pc _ (fun _ => rfl) (fun _ _ hv => hv)
  have hs' : (pc c (aBlk ![g, 0] h) Finset.univ (fun x v => v = A c ((Rect.unit (s := S3072x1536) ![g, 0] S256x1536.size h).emb x)) : sProp 𝕄) ⊢ blkA A c g := by
    unfold blkA
    rw [← blk_set g h]
    exact pc_of_slice _ (fun _ => rfl) (fun _ _ hv => hv)
  have hh : (pc c (slot s) Finset.univ (fun x v => v = A c ((Rect.unit (s := S3072x1536) ![g, 0] S256x1536.size h).emb x)) : sProp 𝕄) ⊢ holds A c s g := by
    unfold holds
    refine pc_of_slab (slotR s) (fun _ => rfl) squeezes_S1x256x1536_S256x1536 fun x v hv y h1 h2 => hv.trans (congrArg (A c) (funext fun a => Fin.ext ?_))
    rw [(slot_emb s _).1] at h1
    rw [(slot_emb s _).2] at h2
    have e1 := re_coords' x
    rw [Rect.emb_apply]
    fin_cases a
    · show g + 1 * (x (0 : Fin 2)).val = (y (0 : Fin 2)).val
      rw [h1, e1.1]; omega
    · show 0 + 1 * (x (1 : Fin 2)).val = (y (1 : Fin 2)).val
      rw [h2, e1.2]; omega
  ihave HA := hs $$ HA
  ihave Hf := (slab_of_pc (slotR s) (fun _ => rfl) squeezes_S1x256x1536_S256x1536 (R := fun _ _ => True) (fun _ _ _ => trivial)) $$ Hf
  iapply (wp_copy (src := aBlk ![g, 0] h) (dst := slot s) (sm := ldA s) (k := fun _ => k) (by decide) (BIClass.sep_mono hh hs')) $$ [HA Hf Hi]
  · iframe
  iintro HF
  iapply Hk
  iframe

/-- and awaited. -/
theorem wp_pFetched (t : ℕ) (s : Fin 2) (g : ℕ) {o : Fin 2 → ℕ} {h : InA o} {k : Pr F} :
    iprop(ctx X ∗ owing c t ∗ fetching A c s g) ⊢ iprop((iprop(owing c t ∗ idle c (ldA s) ∗ holds A c s g ∗ argA A c) -∗ WP c k Q) -∗ WP c (pFetched s o h k) Q) := by
  unfold fetching pFetched
  iintro ⟨#Hc, HO, HF, HAk⟩ Hk
  iapply (wp_copied X (c := c) (Q := Q) (sm := ldA s) (dst := slot s) (k := fun _ => k) t (key?_ld _) rfl) $$ [HO HF]
  · iframe Hc HO HF
  iintro ⟨HO, Hi, Hh, HA⟩
  ihave HA := HAk $$ HA
  iapply Hk
  iframe

/-- A block of the weights fetched, narrowed and kept. -/
theorem wp_pLdB (t : ℕ) (q : Fin 4) {o : Fin 2 → ℕ} {h : InB o} {hp : (bbM.access (Rect.unit (s := S1536x3072) o S384x3072.size h)).Stores Finset.univ}
    (ho : o = ![q.val * 384, 0]) {k : Pr F} :
    iprop(ctx X ∗ owing c t ∗ argB B c ∗ ldb c ∗ wts B c (q.val * 384) ∗ idle c (ldS 0))
      ⊢ iprop((iprop(owing c t ∗ argB B c ∗ ldb c ∗ wts B c ((q.val + 1) * 384) ∗ idle c (ldS 0)) -∗ WP c k Q) -∗ WP c (pLdB o h hp k) Q) := by
  subst ho
  unfold argB ldb wts pLdB
  iintro ⟨#Hc, HO, HB, Hb, Hw, Hi⟩ Hk
  ihave HB := (known_focus (B c) (Rect.unit (s := S1536x3072) ![q.val * 384, 0] S384x3072.size h) (fun _ => rfl)) $$ HB
  icases HB with ⟨HB, HBk⟩
  iapply (wp_copy (src := bBlk ![q.val * 384, 0] h) (dst := bsM) (sm := ldS 0) (by decide) BIBase.Entails.refl) $$ [HB Hb Hi]
  · iframe
  iintro HF
  iapply (wp_copied X (sm := ldS 0) (dst := bsM) t (key?_ld _) rfl) $$ [HO HF]
  · iframe Hc HO HF
  iintro ⟨HO, Hi, Hb, HB⟩
  ihave HB := HBk $$ HB
  iapply (pc_load 𝒱₀ none (Finset.subset_univ _)) $$ Hb
  iintro %v %hv Hb
  iapply (pc_load 𝒱₀ none (Finset.subset_univ _)) $$ Hw
  iintro %w - Hw
  have hf : (pc c bbM Finset.univ (fun i v => (i (0 : Fin 2)).val < q.val * 384 → v = FloatOps.truncf .bf16 bitsLt_bf16_f32 (B c i)) : sProp 𝕄)
      ⊢ iprop(pc c bbM (Rect.unit (s := S1536x3072) ![q.val * 384, 0] S384x3072.size h).set (fun i v => (i (0 : Fin 2)).val < q.val * 384 → v = FloatOps.truncf .bf16 bitsLt_bf16_f32 (B c i))
        ∗ (pc c bbM (Rect.unit (s := S1536x3072) ![q.val * 384, 0] S384x3072.size h).set (fun i v => v = FloatOps.truncf .bf16 bitsLt_bf16_f32 (B c i))
          -∗ pc c bbM Finset.univ (fun i v => (i (0 : Fin 2)).val < (q.val + 1) * 384 → v = FloatOps.truncf .bf16 bitsLt_bf16_f32 (B c i)))) := by
    refine pc_focus (Finset.subset_univ _) (fun _ _ _ hv _ => hv) fun i hi x hx hlt => hx ?_
    rw [Finset.mem_sdiff, Rect.mem_set_unit] at hi
    by_contra hge
    refine hi.2 fun a => ?_
    have h1 : (i (1 : Fin 2)).val < 3072 := (i (1 : Fin 2)).isLt
    fin_cases a <;> simp <;> omega
  ihave Hw := hf $$ Hw
  icases Hw with ⟨Hw, Hwk⟩
  iapply (pc_store 𝒱₀ none (P' := fun i v => v = FloatOps.truncf .bf16 bitsLt_bf16_f32 (B c i)) ?_) $$ Hw
  · intro x
    have e1 : narrowW v x = FloatOps.truncf .bf16 bitsLt_bf16_f32 (v x) := by
      show FloatOps.truncf .bf16 bitsLt_bf16_f32 (v (Shape.reshapeEquiv shapeCasts_S384x3072_S384x3072 x)) = _
      rw [Shape.reshapeEquiv_self]
    rw [e1, hv x]
    congr 3
    funext a
    refine Fin.ext ?_
    rw [Rect.emb_apply]
    fin_cases a
    · show 0 + 1 * _ = _
      omega
    · show 0 + 1 * _ = _
      omega
  iintro Hw
  ihave Hw := Hwk $$ Hw
  iapply Hk
  ihave Hb := (pc_mono (P' := fun _ _ => True) fun _ _ _ _ => trivial) $$ Hb
  iframe

/-! ## The products -/

theorem dot_block (s : Fin 2) (g : ℕ) {v : (slotR s).shape.Idx → Elt F .f32} {w : S1536x3072.Idx → Elt F .bf16}
    (hv : ∀ x, ∀ y : S3072x1536.Idx, (y (0 : Fin 2)).val = g + ((slotR s).emb x (1 : Fin 3)).val → (y (1 : Fin 2)).val = ((slotR s).emb x (2 : Fin 3)).val → v x = A c y)
    (hw : ∀ y : S1536x3072.Idx, (((Rect.unit (s := S1536x3072) ![0, 0] S1536x3072.size inb_S1536x3072_S1536x3072_0_0).emb y) (0 : Fin 2)).val < 1536 →
      w y = FloatOps.truncf .bf16 bitsLt_bf16_f32 (B c ((Rect.unit (s := S1536x3072) ![0, 0] S1536x3072.size inb_S1536x3072_S1536x3072_0_0).emb y)))
    (x : (R3 256).Idx) : X.f {c} (g + (x (1 : Fin 3)).val) (x (2 : Fin 3)).val (dotW v w x) := by
  refine X.dot c g v w (fun x y h1 h2 => hv x y ?_ ?_) (fun y => ?_) x
  · rw [(slot_emb s x).1]; exact h1
  · rw [(slot_emb s x).2]; exact h2
  · have e1 : (Rect.unit (s := S1536x3072) ![0, 0] S1536x3072.size inb_S1536x3072_S1536x3072_0_0).emb y = y := by
      funext a
      refine Fin.ext ?_
      rw [Rect.emb_apply]
      fin_cases a
      · show 0 + 1 * _ = _
        omega
      · show 0 + 1 * _ = _
        omega
    have := hw y
    rw [e1] at this
    exact this (y (0 : Fin 2)).isLt

theorem wp_pDotN (s : Fin 2) (g : ℕ) {j : Fin 3} {r : ℕ} {o : Fin 3 → ℕ} {h : Good 256 o} (ho : o = atR j r) {k : Pr F} :
    iprop(holds A c s g ∗ wts B c 1536 ∗ pr c sbM j r 256 anyV)
      ⊢ iprop((iprop(holds A c s g ∗ wts B c 1536 ∗ pr c sbM j r 256 (hv X {c} g)) -∗ WP c k Q) -∗ WP c (pDotN s o h k) Q) := by
  unfold holds wts pDotN
  iintro ⟨HA, HB, Hs⟩ Hk
  iapply (pc_load 𝒱₀ none (Finset.Subset.refl _)) $$ HA
  iintro %v %hv HA
  iapply (pc_load 𝒱₀ none (Finset.subset_univ _)) $$ HB
  iintro %w %hw HB
  iapply (wp_loadR ho) $$ Hs
  iintro %z - Hs
  iapply (wp_storeR ho (ψ := Ring.hv X {c} g) ?_) $$ Hs
  · intro x
    rw [X.dotN_eq]
    exact X.trunc _ _ _ _ (dot_block X s g hv hw x)
  iintro Hs
  iapply Hk
  iframe
theorem wp_pDotW (s : Fin 2) (g : ℕ) {j : Fin 3} {r : ℕ} {o : Fin 3 → ℕ} {h : Good 256 o} (ho : o = atR j r) {k : Pr F} :
    iprop(holds A c s g ∗ wts B c 1536 ∗ pr c stM j r 256 anyV)
      ⊢ iprop((iprop(holds A c s g ∗ wts B c 1536 ∗ pr c stM j r 256 (fv X {c} g)) -∗ WP c k Q) -∗ WP c (pDotW s o h k) Q) := by
  unfold holds wts pDotW
  iintro ⟨HA, HB, Hs⟩ Hk
  iapply (pc_load 𝒱₀ none (Finset.Subset.refl _)) $$ HA
  iintro %v %hv HA
  iapply (pc_load 𝒱₀ none (Finset.subset_univ _)) $$ HB
  iintro %w %hw HB
  iapply (wp_loadR ho) $$ Hs
  iintro %z - Hs
  iapply (wp_storeR ho (ψ := Ring.fv X {c} g) ?_) $$ Hs
  · intro x
    exact dot_block X s g hv hw x
  iintro Hs
  iapply Hk
  iframe

/-! ## Rows added, narrowed, widened -/

theorem wp_pAcc {S S' : Finset (Dev nD)} (hd : Disjoint S S') (g : ℕ) {n : ℕ} {j : Fin 3} {r r' : ℕ} {o o' : Fin 3 → ℕ} {h : Good n o} {h' : Good n o'}
    (ho : o = atR j r) (ho' : o' = atR j r') {k : Pr F} :
    iprop(pr c stM j r n (fv X S g) ∗ pr c rvM j r' n (hv X S' g))
      ⊢ iprop((iprop(pr c stM j r n (fv X (S ∪ S') g) ∗ pr c rvM j r' n (hv X S' g)) -∗ WP c k Q) -∗ WP c (pAcc n o h o' h' k) Q) := by
  unfold pAcc
  iintro ⟨Hs, Hr⟩ Hk
  iapply (wp_loadR ho) $$ Hs
  iintro %v %hv Hs
  iapply (wp_loadR ho') $$ Hr
  iintro %w %hw Hr
  iapply (wp_loadR ho) $$ Hs
  iintro %z - Hs
  iapply (wp_storeR ho (ψ := Ring.fv X (S ∪ S') g) ?_) $$ Hs
  · intro x
    rw [accV_apply]
    exact X.add _ _ _ _ _ _ hd (hv x) (X.ext _ _ _ _ (hw x))
  iintro Hs
  iapply Hk
  iframe

theorem wp_pNarrow {S : Finset (Dev nD)} (g : ℕ) {n : ℕ} {j : Fin 3} {r r' : ℕ} {o o' : Fin 3 → ℕ} {h : Good n o} {h' : Good n o'}
    (ho : o = atR j r) (ho' : o' = atR j r') {k : Pr F} :
    iprop(pr c stM j r n (fv X S g) ∗ pr c sbM j r' n anyV)
      ⊢ iprop((iprop(pr c stM j r n (fv X S g) ∗ pr c sbM j r' n (hv X S g)) -∗ WP c k Q) -∗ WP c (pNarrow n o h o' h' k) Q) := by
  unfold pNarrow
  iintro ⟨Hs, Hr⟩ Hk
  iapply (wp_loadR ho) $$ Hs
  iintro %v %hv Hs
  iapply (wp_loadR ho') $$ Hr
  iintro %w - Hr
  iapply (wp_storeR ho' (ψ := Ring.hv X S g) ?_) $$ Hr
  · intro x
    rw [narrowV_apply]
    exact X.trunc _ _ _ _ (hv x)
  iintro Hr
  iapply Hk
  iframe

theorem wp_pWiden {S : Finset (Dev nD)} (g : ℕ) {n : ℕ} {j : Fin 3} {r r' : ℕ} {o o' : Fin 3 → ℕ} {h : Good n o} {h' : Good n o'}
    (ho : o = atR j r) (ho' : o' = atR j r') {k : Pr F} :
    iprop(pr c rvM j r' n (hv X S g) ∗ pr c stM j r n anyV)
      ⊢ iprop((iprop(pr c rvM j r' n (hv X S g) ∗ pr c stM j r n (fv X S g)) -∗ WP c k Q) -∗ WP c (pWiden n o' h' o h k) Q) := by
  unfold pWiden
  iintro ⟨Hr, Hs⟩ Hk
  iapply (wp_loadR ho') $$ Hr
  iintro %v %hv Hr
  iapply (wp_loadR ho) $$ Hs
  iintro %w - Hs
  iapply (wp_storeR ho (ψ := Ring.fv X S g) ?_) $$ Hs
  · intro x
    rw [widenV_apply]
    exact X.ext _ _ _ _ (hv x)
  iintro Hs
  iapply Hk
  iframe

/-! ## The result -/

/-- The rows of the result from `g` on, and such rows holding the sums over all devices. -/
def outS (g n : ℕ) : Finset S3072x3072.Idx := Finset.univ.filter fun i => g ≤ (i (0 : Fin 2)).val ∧ (i (0 : Fin 2)).val < g + n
def outAny (c : Dev nD) (g n : ℕ) : sProp 𝕄 := pc c oM (outS g n) (fun _ _ => True)
def outF (c : Dev nD) (g n : ℕ) : sProp 𝕄 := pc c oM (outS g n) (fun i v => X.f Finset.univ (i (0 : Fin 2)).val (i (1 : Fin 2)).val v)

theorem out_set (g n : ℕ) (h : InOut n ![g, 0]) : (Rect.unit (s := S3072x3072) ![g, 0] (R2 n).size h).set = outS g n := by
  ext i
  rw [Rect.mem_set_unit]
  simp only [outS, Finset.mem_filter, Finset.mem_univ, true_and]
  have h1 : (i (1 : Fin 2)).val < 3072 := (i (1 : Fin 2)).isLt
  constructor
  · intro H
    have H0 := H (0 : Fin 2)
    simp at H0
    omega
  · intro H a
    fin_cases a <;> simp <;> omega

theorem outAny_slice (g n : ℕ) (h : InOut n ![g, 0]) : outAny c g n ⊢ (pc c (oBlk n ![g, 0] h) Finset.univ (fun _ _ => True) : sProp 𝕄) := by
  unfold outAny
  rw [← out_set g n h]
  exact slice_of_pc _ (fun _ => rfl) (fun _ _ hv => trivial)
theorem outF_slice (g n : ℕ) (h : InOut n ![g, 0]) :
    (pc c (oBlk n ![g, 0] h) Finset.univ (fun x v => fv X Finset.univ g (x (0 : Fin 2)).val (x (1 : Fin 2)).val v) : sProp 𝕄) ⊢ outF X c g n := by
  unfold outF
  rw [← out_set g n h]
  refine pc_of_slice _ (fun _ => rfl) (fun x v hv => ?_)
  rw [Rect.emb_apply, Rect.emb_apply]
  have e1 : (![g, 0] : Fin 2 → ℕ) 0 + 1 * (x (0 : Fin 2)).val = g + (x (0 : Fin 2)).val := by
    show g + 1 * _ = _
    omega
  have e2 : (![g, 0] : Fin 2 → ℕ) 1 + 1 * (x (1 : Fin 2)).val = (x (1 : Fin 2)).val := by
    show 0 + 1 * _ = _
    omega
  show X.f Finset.univ ((![g, 0] : Fin 2 → ℕ) 0 + 1 * (x (0 : Fin 2)).val) ((![g, 0] : Fin 2 → ℕ) 1 + 1 * (x (1 : Fin 2)).val) v
  rw [e1, e2]
  exact hv

/-- The store of slab `j` to the rows from `g` of the result under way. -/
def storing (c : Dev nD) (j : Fin 3) (g : ℕ) (n : ℕ) : sProp 𝕄 :=
  Flight EC (c : Thread nD τ) (.dma (stS j)) () n iprop(outF X c g 512 ∗ pr c stM j 0 512 anyV)

/-- The store begun, -/
theorem wp_pStore (g : ℕ) {j : Fin 3} {o' : Fin 3 → ℕ} {h' : Good 512 o'} {o : Fin 2 → ℕ} {h : InOut 512 o} (ho' : o' = atR j 0) (ho : o = ![g, 0]) {k : Pr F} :
    iprop(pr c stM j 0 512 (fv X Finset.univ g) ∗ outAny c g 512 ∗ idle c (stS j))
      ⊢ iprop((storing X c j g (RefSig.tileCredit (R2 512) .f32) -∗ WP c k Q) -∗ WP c (pStore j o' h' o h k) Q) := by
  subst ho ho'
  unfold storing pStore
  iintro ⟨Hs, Ho, Hi⟩ Hk
  ihave Hs := (slab_of_pr j 0 h') $$ Hs
  ihave Ho := (outAny_slice g 512 h) $$ Ho
  iapply (wp_copy (src := slab stM 512 (atR j 0) h') (dst := oBlk 512 ![g, 0] h) (sm := stS j) (k := fun _ => k) (by decide)
    (BIClass.sep_mono (outF_slice X g 512 h) ((pr_of_slab (φ := fv X Finset.univ g) j 0 h').trans (pr_any j 0 512)))) $$ [Hs Ho Hi]
  · iframe
  iintro HF
  iapply Hk
  iexact HF

/-- and awaited. -/
theorem wp_pStored (t : ℕ) (g : ℕ) {j : Fin 3} {o' : Fin 3 → ℕ} {h' : Good 512 o'} {o : Fin 2 → ℕ} {h : InOut 512 o} {k : Pr F} :
    iprop(ctx X ∗ owing c t ∗ storing X c j g (RefSig.tileCredit (R2 512) .f32))
      ⊢ iprop((iprop(owing c t ∗ idle c (stS j) ∗ outF X c g 512 ∗ pr c stM j 0 512 anyV) -∗ WP c k Q) -∗ WP c (pStored j o' h' o h k) Q) := by
  unfold storing pStored
  exact wp_copied X (c := c) (Q := Q) (sm := stS j) (dst := oBlk 512 o h) (k := fun _ => k) t (key?_st _) rfl

/-- The top of the load buffer. -/
abbrev topR : Rect S384x3072 := Rect.unit (s := S384x3072) ![0, 0] S256x3072.size inb_S384x3072_S256x3072_0_0

/-- Incoming rows widened and stored to the result. -/
theorem wp_pOut (t : ℕ) (g : ℕ) {j : Fin 3} {r : ℕ} {o' : Fin 3 → ℕ} {h' : Good 256 o'} {o : Fin 2 → ℕ} {h : InOut 256 o} (ho' : o' = atR j r) (ho : o = ![g, 0]) {k : Pr F} :
    iprop(ctx X ∗ owing c t ∗ pr c rvM j r 256 (hv X Finset.univ g) ∗ ldb c ∗ outAny c g 256 ∗ idle c (ldS 0))
      ⊢ iprop((iprop(owing c t ∗ pr c rvM j r 256 (hv X Finset.univ g) ∗ ldb c ∗ outF X c g 256 ∗ idle c (ldS 0)) -∗ WP c k Q) -∗ WP c (pOut o' h' o h k) Q) := by
  subst ho
  unfold ldb pOut
  iintro ⟨#Hc, HO, Hr, Hb, Ho, Hi⟩ Hk
  iapply (wp_loadR ho') $$ Hr
  iintro %v %hv Hr
  have hf : (pc c bsM Finset.univ (fun _ _ => True) : sProp 𝕄) ⊢ iprop(pc c bsM topR.set (fun _ _ => True) ∗ (pc c bsM topR.set (fun _ _ => True) -∗ pc c bsM Finset.univ (fun _ _ => True))) :=
    pc_focus (Finset.subset_univ _) (fun _ _ _ hv => hv) (fun _ _ _ hv => hv)
  ihave Hb := hf $$ Hb
  icases Hb with ⟨Hb, Hbk⟩
  iapply (pc_load 𝒱₀ none (Finset.Subset.refl _)) $$ Hb
  iintro %z - Hb
  iapply (pc_store 𝒱₀ none (P' := fun i v => fv X Finset.univ g (i (0 : Fin 2)).val (i (1 : Fin 2)).val v) ?_) $$ Hb
  · intro x
    show fv X Finset.univ g (topR.emb x (0 : Fin 2)).val (topR.emb x (1 : Fin 2)).val (widenM 256 v x)
    have hc := re_coords (cast32 256) x
    have e0 : (topR.emb x (0 : Fin 2)).val = (x (0 : Fin 2)).val := by
      rw [Rect.emb_apply]
      show 0 + 1 * _ = _
      omega
    have e1 : (topR.emb x (1 : Fin 2)).val = (x (1 : Fin 2)).val := by
      rw [Rect.emb_apply]
      show 0 + 1 * _ = _
      omega
    rw [e0, e1, ← hc.1, ← hc.2, widenM_apply]
    exact X.ext _ _ _ _ (hv _)
  iintro Hb
  ihave Hb := (slice_of_pc topR (fun _ => rfl) (R := fun x v => fv X Finset.univ g (x (0 : Fin 2)).val (x (1 : Fin 2)).val v) ?_) $$ Hb
  · intro x v hx
    have e0 : (topR.emb x (0 : Fin 2)).val = (x (0 : Fin 2)).val := by
      rw [Rect.emb_apply]
      show 0 + 1 * _ = _
      omega
    have e1 : (topR.emb x (1 : Fin 2)).val = (x (1 : Fin 2)).val := by
      rw [Rect.emb_apply]
      show 0 + 1 * _ = _
      omega
    rw [e0, e1] at hx
    exact hx
  ihave Ho := (outAny_slice g 256 h) $$ Ho
  have hb : (pc c bsTop Finset.univ (fun x v => fv X Finset.univ g (x (0 : Fin 2)).val (x (1 : Fin 2)).val v) : sProp 𝕄) ⊢ pc c bsM topR.set (fun _ _ => True) :=
    pc_of_slice topR (fun _ => rfl) (fun _ _ _ => trivial)
  iapply (wp_copy (src := bsTop) (dst := oBlk 256 ![g, 0] h) (sm := ldS 0) (by decide) (BIClass.sep_mono (outF_slice X g 256 h) hb)) $$ [Hb Ho Hi]
  · isplitl [Hb]; · iexact Hb
    iframe
  iintro HF
  iapply (wp_copied X (sm := ldS 0) (dst := oBlk 256 ![g, 0] h) t (key?_ld _) rfl) $$ [HO HF]
  · iframe Hc HO HF
  iintro ⟨HO, Hi, Ho, Hb⟩
  ihave Hb := Hbk $$ Hb
  iapply Hk
  iframe

end Steps

end Cert.KernelIdeal.Ring
end
end
-- ==== Proof.KI.Phases.lean ====
/- The steps of the exchange of one slab, and what a device holds of the slab between them. -/
module

public import proofs.«01_k».proof.Proof.KI.Local

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx
open Cert.KernelIdeal Cert.KernelIdeal.Gen Cert.Pieces

variable {F : FTy → Type} [FloatOps F]
local notation "𝕄" => MT nD τ sig Unit (Elt F) ℕ UU ℕ
variable {A : Dev nD → S3072x1536.Idx → F .f32} {B : Dev nD → S1536x3072.Idx → F .f32} (X : Spec F A B)

/-! ## Facts of the mesh -/

theorem pt_pt : ∀ (j k : Fin 3) (c : Dev nD), pt j k (pt j k c) = c := by decide
theorem kept_p0 : ∀ (j : Fin 3) (c : Dev nD), kept j (pt j 0 c) = sent j c := by decide
theorem sent_p0 : ∀ (j : Fin 3) (c : Dev nD), sent j (pt j 0 c) = kept j c := by decide
theorem kept_p1 : ∀ (j : Fin 3) (c : Dev nD), kept j (pt j 1 c) = kept j c := by decide
theorem kept_p2 : ∀ (j : Fin 3) (c : Dev nD), kept j (pt j 2 c) = kept j c := by decide
theorem oH_p0 : ∀ (j : Fin 3) (h : Fin 2) (c : Dev nD), oH j h (pt j 0 c) = oH j h c := by decide
theorem oK1_p1 : ∀ (j : Fin 3) (c : Dev nD), oK1 j (pt j 1 c) = oS1 j c := by decide
theorem oS1_p1 : ∀ (j : Fin 3) (c : Dev nD), oS1 j (pt j 1 c) = oK1 j c := by decide
theorem oK2_p2 : ∀ (j : Fin 3) (c : Dev nD), oK2 j (pt j 2 c) = oS2 j c := by decide
theorem oS2_p2 : ∀ (j : Fin 3) (c : Dev nD), oS2 j (pt j 2 c) = oK2 j c := by decide
theorem kb_p0 (j : Fin 3) (c : Dev nD) : kb j (pt j 0 c) = sb j c := by unfold kb sb; rw [kept_p0]
theorem sb_p0 (j : Fin 3) (c : Dev nD) : sb j (pt j 0 c) = kb j c := by unfold kb sb; rw [sent_p0]
theorem kb_p1 (j : Fin 3) (c : Dev nD) : kb j (pt j 1 c) = kb j c := by unfold kb; rw [kept_p1]
theorem kb_p2 (j : Fin 3) (c : Dev nD) : kb j (pt j 2 c) = kb j c := by unfold kb; rw [kept_p2]
theorem D0_disj : ∀ (j : Fin 3) (c : Dev nD), Disjoint ({c} : Finset (Dev nD)) {pt j 0 c} := by decide
theorem D1_eq : ∀ (j : Fin 3) (c : Dev nD), ({c} : Finset (Dev nD)) ∪ {pt j 0 c} = D1 j c := by decide
theorem D1_disj : ∀ (j : Fin 3) (c : Dev nD), Disjoint (D1 j c) (D1 j (pt j 1 c)) := by decide
theorem D2_eq : ∀ (j : Fin 3) (c : Dev nD), D1 j c ∪ D1 j (pt j 1 c) = D2 j c := by decide
theorem D2_disj : ∀ (j : Fin 3) (c : Dev nD), Disjoint (D2 j c) (D2 j (pt j 2 c)) := by decide
theorem D3_eq : ∀ (j : Fin 3) (c : Dev nD), D2 j c ∪ D2 j (pt j 2 c) = Finset.univ := by decide
theorem oA_s : ∀ (j : Fin 3) (h : Fin 2) (c : Dev nD), oA (2 * j.castLE (by decide) + h.castLE (by decide)) c = ![sb j c + oH j h c, 0] := by decide
theorem oA_k : ∀ (j : Fin 3) (h : Fin 2) (c : Dev nD), oA (6 + 2 * j.castLE (by decide) + h.castLE (by decide)) c = ![kb j c + oH j h c, 0] := by decide

/-! ## The payments, and the levels of what is awaited -/

theorem pay_A0 : ∀ j : Fin 3, (pk (3 + 2 * j.val), px (3 + 2 * j.val), pd (3 + 2 * j.val)) = (Key.rsR j 0, ax j 0, (0 : Fin 3)) := by decide
theorem pay_A1 : ∀ j : Fin 3, (pk (4 + 2 * j.val), px (4 + 2 * j.val), pd (4 + 2 * j.val)) = (Key.rsR j 3, ax j 0, (0 : Fin 3)) := by decide
theorem pay_C0 : ∀ j : Fin 3, (pk (9 + 2 * j.val), px (9 + 2 * j.val), pd (9 + 2 * j.val)) = (Key.cr j 0, ax j 1, (0 : Fin 3)) := by decide
theorem pay_R1 : ∀ j : Fin 3, (pk (10 + 2 * j.val), px (10 + 2 * j.val), pd (10 + 2 * j.val)) = (Key.rsR j 1, ax j 1, (0 : Fin 3)) := by decide
theorem pay_C1 : ∀ j : Fin 3, (pk (15 + 2 * j.val), px (15 + 2 * j.val), pd (15 + 2 * j.val)) = (Key.cr j 1, ax j 2, (0 : Fin 3)) := by decide
theorem pay_R2 : ∀ j : Fin 3, (pk (16 + 2 * j.val), px (16 + 2 * j.val), pd (16 + 2 * j.val)) = (Key.rsR j 2, ax j 2, (0 : Fin 3)) := by decide
theorem pay_C2 : ∀ j : Fin 3, (pk (21 + j.val), px (21 + j.val), pd (21 + j.val)) = (Key.cr j 2, ax j 2, (0 : Fin 3)) := by decide
theorem pay_G0 : ∀ j : Fin 3, (pk (24 + j.val), px (24 + j.val), pd (24 + j.val)) = (Key.agR j 0, ax j 2, (0 : Fin 3)) := by decide
theorem pay_C3 : ∀ j : Fin 3, (pk (27 + j.val), px (27 + j.val), pd (27 + j.val)) = (Key.cr j 3, ax j 1, (0 : Fin 3)) := by decide
theorem pay_G1 : ∀ j : Fin 3, (pk (30 + j.val), px (30 + j.val), pd (30 + j.val)) = (Key.agR j 1, ax j 1, (0 : Fin 3)) := by decide
theorem pay_C4 : ∀ j : Fin 3, (pk (33 + j.val), px (33 + j.val), pd (33 + j.val)) = (Key.cr j 4, ax j 0, (0 : Fin 3)) := by decide
theorem pay_G2 : ∀ j : Fin 3, (pk (36 + j.val), px (36 + j.val), pd (36 + j.val)) = (Key.agR j 2, ax j 0, (0 : Fin 3)) := by decide

theorem lev_rsS : ∀ (j : Fin 3) (k : Fin 4), lev (.rsS j k) = 0 := by decide
theorem lev_agS : ∀ (j : Fin 3) (k : Fin 3), lev (.agS j k) = 0 := by decide
theorem above_rsS (j : Fin 3) (k : Fin 4) (t : ℕ) : Above (lev (.rsS j k)) t := by rw [lev_rsS]; exact above_zero t
theorem above_agS (j : Fin 3) (k : Fin 3) (t : ℕ) : Above (lev (.agS j k)) t := by rw [lev_agS]; exact above_zero t
theorem ab_R0 : ∀ j : Fin 3, Above (lev (.rsR j 0)) (9 + 2 * j.val) := by decide
theorem ab_C0 : ∀ j : Fin 3, Above (lev (.cr j 0)) (10 + 2 * j.val) := by decide
theorem ab_R3 : ∀ j : Fin 3, Above (lev (.rsR j 3)) (11 + 2 * j.val) := by decide
theorem ab_R1 : ∀ j : Fin 3, Above (lev (.rsR j 1)) (15 + 2 * j.val) := by decide
theorem ab_C1 : ∀ j : Fin 3, Above (lev (.cr j 1)) (16 + 2 * j.val) := by decide
theorem ab_R2 : ∀ j : Fin 3, Above (lev (.rsR j 2)) (21 + j.val) := by decide
theorem ab_C2 : ∀ j : Fin 3, Above (lev (.cr j 2)) (24 + j.val) := by decide
theorem ab_G0 : ∀ j : Fin 3, Above (lev (.agR j 0)) (27 + j.val) := by decide
theorem ab_C3 : ∀ j : Fin 3, Above (lev (.cr j 3)) (30 + j.val) := by decide
theorem ab_G1 : ∀ j : Fin 3, Above (lev (.agR j 1)) (33 + j.val) := by decide
theorem ab_C4 : ∀ j : Fin 3, Above (lev (.cr j 4)) (36 + j.val) := by decide
theorem ab_G2 : ∀ j : Fin 3, Above (lev (.agR j 2)) 39 := by decide

section Steps
variable {c : Dev nD} {Q : PUnit → sProp (MT nD τ sig Unit (Elt F) ℕ UU ℕ)}

/-- A credit given to the device across an axis. -/
theorem wp_give {t t' : ℕ} {x : Key} {j i : Fin 3} (hp : (pk t, px t, pd t) = (x, ax j i, (0 : Fin 3))) (ht : t < T ∧ t' = t + 1) {d : Dev nD} {s : Sem sig}
    (hd : d = pt j i c) (hs : loc x = .reg s) (ha : amt x = 1) {R : sProp (MT nD τ sig Unit (Elt F) ℕ UU ℕ)} (hR : R ⊢ Pay X x 0 (pt j i c)) {k : Pr F} :
    iprop(ctx X ∗ owing c t ∗ R) ⊢ iprop((owing c t' -∗ WP c k Q) -∗ WP c (pSig d s k) Q) := by
  obtain ⟨ht, rfl⟩ := ht
  obtain ⟨rfl, h2⟩ := Prod.mk.inj hp
  obtain ⟨h2, h3⟩ := Prod.mk.inj h2
  have := wp_sig (c := c) (Q := Q) X t ht (d := d) (s := s) (by rw [h2]; exact hd) hs ha (k := k)
  rw [h2, h3] at this
  exact (sep_mono_right (sep_mono_right hR)).trans this

/-- A credit awaited: what it hands over. -/
theorem wp_take {t : ℕ} {j : Fin 3} {i : Fin 5} (hlev : Above (lev (.cr j i)) t) (R : sProp (MT nD τ sig Unit (Elt F) ℕ UU ℕ)) (hR : Pay X (.cr j i) 0 c ⊢ R) {k : Pr F} :
    iprop(ctx X ∗ owing c t ∗ ready c (.cr j i)) ⊢ iprop((iprop(owing c t ∗ done c (.cr j i) ∗ R) -∗ WP c k Q) -∗ WP c (pSemWait (crS j i) 1#32 k) Q) := by
  have := wp_credit (c := c) (Q := Q) X (.cr j i) t hlev (s := crS j i) (n := 1#32) rfl (by show (1#32).toInt = ((1 : ℕ) : ℤ); decide) (k := k)
  rw [show dty (.cr j i) = {0} from rfl, bigSep_singleton] at this
  refine this.trans (wand_mono (wand_mono ?_ BIBase.Entails.rfl) BIBase.Entails.rfl)
  exact sep_mono_right (sep_mono_right hR)

/-- Rows sent across an axis. -/
theorem wp_pass {t t' : ℕ} {x : Key} {a : Fin 3} {i : Fin 3} (hp : (pk t, px t, pd t) = (x, ax a i, (0 : Fin 3))) (ht : t < T ∧ t' = t + 1) (xs : Key) {n : ℕ} {j : Fin 3} {r r' : ℕ}
    {o o' : Fin 3 → ℕ} {h : Good n o} {h' : Good n o'} (ho : o = atR j r) (ho' : o' = atR j r')
    {d : Dev nD} {sS sR : DmaSem sig} (hd : d = pt a i c) (hS : loc xs = .dma sS) (hR : loc x = .dma sR)
    (hnS : amt xs = N n) (hnT : total xs = N n) (hnR : amt x = N n) (hx : dty xs = {0}) {φ : ℕ → ℕ → Elt F .bf16 → Prop}
    (hpS : pr c sbM j r n φ ⊢ Pay X xs 0 c) (hpR : pr (pt a i c) rvM j r' n φ ⊢ Pay X x 0 (pt a i c)) {k : Pr F} :
    iprop(ctx X ∗ owing c t ∗ fresh c xs ∗ pr c sbM j r n φ ∗ pr (pt a i c) rvM j r' n anyV)
      ⊢ iprop((iprop(owing c t' ∗ ready c xs) -∗ WP c k Q) -∗ WP c (pSend n o h d o' h' sS sR k) Q) := by
  obtain ⟨ht, rfl⟩ := ht
  obtain ⟨rfl, h2⟩ := Prod.mk.inj hp
  obtain ⟨h2, h3⟩ := Prod.mk.inj h2
  have := wp_send (c := c) (Q := Q) X t ht xs (h := h) (h' := h') ho ho' (d := d) (sS := sS) (sR := sR) (by rw [h2]; exact hd) hS hR hnS hnT hnR hx (φ := φ) hpS
    (by rw [h2, h3]; exact hpR) (k := k)
  rw [h2] at this
  exact this

/-- The halves of a slab: the half passed on and the half kept; and the quarters of the kept half. -/
theorem halves {e : EltTy} {m : Memref sig .tc .vmem S3x512x3072 e} {φ : ℕ → ℕ → Elt F e → Prop} (j : Fin 3) :
    (pr c m j 0 512 φ : sProp 𝕄) ⊢ iprop(pr c m j (oS1 j c) 256 (fun a => φ (oS1 j c + a)) ∗ pr c m j (oK1 j c) 256 (fun a => φ (oK1 j c + a))) := by
  have := pr_halve (c := c) (m := m) (φ := φ) j 0 256 (bt_le j 1 c)
  rw [Nat.zero_add, Nat.zero_add] at this
  exact this
theorem unhalves {e : EltTy} {m : Memref sig .tc .vmem S3x512x3072 e} {φ ψ χ : ℕ → ℕ → Elt F e → Prop} (j : Fin 3)
    (h1 : ∀ a b v, φ a b v → χ (oS1 j c + a) b v) (h2 : ∀ a b v, ψ a b v → χ (oK1 j c + a) b v) :
    iprop(pr c m j (oS1 j c) 256 φ ∗ pr c m j (oK1 j c) 256 ψ) ⊢ (pr c m j 0 512 χ : sProp 𝕄) := by
  have := pr_unhalve (c := c) (m := m) (φ := φ) (ψ := ψ) (χ := χ) j 0 256 (bt_le j 1 c) (fun a b v _ => h1 a b v) (fun a b v _ => h2 a b v)
  rw [Nat.zero_add, Nat.zero_add] at this
  exact this
theorem quarters {e : EltTy} {m : Memref sig .tc .vmem S3x512x3072 e} {φ : ℕ → ℕ → Elt F e → Prop} (j : Fin 3) :
    (pr c m j (oK1 j c) 256 φ : sProp 𝕄) ⊢ iprop(pr c m j (oS2 j c) 128 (fun a => φ ((1 - bt j 2 c) * 128 + a)) ∗ pr c m j (oK2 j c) 128 (fun a => φ (bt j 2 c * 128 + a))) :=
  pr_halve (c := c) (m := m) (φ := φ) j (oK1 j c) 128 (bt_le j 2 c)
theorem unquarters {e : EltTy} {m : Memref sig .tc .vmem S3x512x3072 e} {φ ψ χ : ℕ → ℕ → Elt F e → Prop} (j : Fin 3)
    (h1 : ∀ a b v, φ a b v → χ ((1 - bt j 2 c) * 128 + a) b v) (h2 : ∀ a b v, ψ a b v → χ (bt j 2 c * 128 + a) b v) :
    iprop(pr c m j (oS2 j c) 128 φ ∗ pr c m j (oK2 j c) 128 ψ) ⊢ (pr c m j (oK1 j c) 256 χ : sProp 𝕄) :=
  pr_unhalve (c := c) (m := m) (φ := φ) (ψ := ψ) (χ := χ) j (oK1 j c) 128 (bt_le j 2 c) (fun a b v _ => h1 a b v) (fun a b v _ => h2 a b v)

/-! ## The cells of a slab still to come, and those done with -/

variable (c)
def N2 (j : Fin 3) : sProp 𝕄 := iprop(ready c (.cr j 4) ∗ fresh c (.agS j 2) ∗ ready c (.agR j 2)
  ∗ outAny c (kb j c) 512 ∗ outAny c (sb j c) 256 ∗ outAny c (sb j c + 256) 256 ∗ idle c (stS j))
def N1 (j : Fin 3) : sProp 𝕄 := iprop(ready c (.cr j 3) ∗ fresh c (.agS j 1) ∗ ready c (.agR j 1) ∗ N2 c j)
def N0 (j : Fin 3) : sProp 𝕄 := iprop(ready c (.cr j 2) ∗ fresh c (.agS j 0) ∗ ready c (.agR j 0) ∗ N1 c j)
def NK2 (j : Fin 3) : sProp 𝕄 := iprop(ready c (.rsR j 2) ∗ N0 c j)
def NK1 (j : Fin 3) : sProp 𝕄 := iprop(ready c (.rsR j 1) ∗ ready c (.cr j 1) ∗ fresh c (.rsS j 2) ∗ NK2 c j)
def NC (j : Fin 3) : sProp 𝕄 := iprop(ready c (.rsR j 3) ∗ NK1 c j)
def NB (j : Fin 3) : sProp 𝕄 := iprop(ready c (.rsR j 0) ∗ ready c (.cr j 0) ∗ fresh c (.rsS j 1) ∗ NC c j)
def NA (j : Fin 3) : sProp 𝕄 := iprop(fresh c (.rsS j 0) ∗ fresh c (.rsS j 3) ∗ NB c j)

def DB (j : Fin 3) : sProp 𝕄 := iprop(done c (.rsR j 0) ∗ done c (.rsS j 0) ∗ done c (.rsS j 3) ∗ done c (.cr j 0))
def DC (j : Fin 3) : sProp 𝕄 := iprop(done c (.rsR j 3) ∗ DB c j)
def DK1 (j : Fin 3) : sProp 𝕄 := iprop(done c (.rsR j 1) ∗ done c (.rsS j 1) ∗ done c (.cr j 1) ∗ DC c j)
def DK2 (j : Fin 3) : sProp 𝕄 := iprop(done c (.rsR j 2) ∗ done c (.rsS j 2) ∗ DK1 c j)
def DS0 (j : Fin 3) : sProp 𝕄 := iprop(done c (.cr j 2) ∗ DK2 c j)
def DR0 (j : Fin 3) : sProp 𝕄 := iprop(done c (.agR j 0) ∗ done c (.agS j 0) ∗ DS0 c j)
def DS1 (j : Fin 3) : sProp 𝕄 := iprop(done c (.cr j 3) ∗ DR0 c j)
def DR1 (j : Fin 3) : sProp 𝕄 := iprop(done c (.agR j 1) ∗ done c (.agS j 1) ∗ DS1 c j)
def DS2 (j : Fin 3) : sProp 𝕄 := iprop(done c (.cr j 4) ∗ DR1 c j)
def DR2 (j : Fin 3) : sProp 𝕄 := iprop(done c (.agR j 2) ∗ done c (.agS j 2) ∗ DS2 c j)

/-! ## What is held of a slab before each step -/

/-- Before the first half is passed on across the first axis, -/
def stA (j : Fin 3) : sProp 𝕄 := iprop(pr c stM j (oS1 j c) 256 anyV ∗ pr c stM j (oK1 j c) 256 anyV ∗ pr c sbM j (oS1 j c) 256 anyV ∗ pr c sbM j (oK1 j c) 256 anyV
  ∗ pr (pt j 0 c) rvM j 0 256 anyV ∗ pr (pt j 0 c) rvM j 256 256 anyV ∗ NA c j)
/-- and the second; -/
def stA' (j : Fin 3) : sProp 𝕄 := iprop(pr c stM j (oS1 j c) 256 anyV ∗ pr c stM j (oK1 j c) 256 anyV ∗ pr c sbM j (oK1 j c) 256 anyV
  ∗ pr (pt j 0 c) rvM j 256 256 anyV ∗ ready c (.rsS j 0) ∗ fresh c (.rsS j 3) ∗ NB c j)
/-- before the halves of the kept rows are computed; -/
def stB (j : Fin 3) : sProp 𝕄 := iprop(pr c stM j (oS1 j c) 256 anyV ∗ pr c stM j (oK1 j c) 256 anyV ∗ ready c (.rsS j 0) ∗ ready c (.rsS j 3) ∗ NB c j)
def stC (j : Fin 3) : sProp 𝕄 := iprop(pr c stM j (oS1 j c) 256 anyV ∗ pr c stM j (oK1 j c) 256 anyV ∗ pr c sbM j 256 256 anyV ∗ ready c (.rsS j 1) ∗ NC c j ∗ DB c j)
/-- before what arrives across the second axis, and the third, is added; -/
def stK1 (j : Fin 3) : sProp 𝕄 := iprop(pr c stM j (oS1 j c) 256 anyV ∗ pr c stM j (oK1 j c) 256 (fv X (D1 j c) (kb j c + oK1 j c)) ∗ pr c rvM j 256 256 anyV
  ∗ pr c sbM j 256 256 anyV ∗ ready c (.rsS j 1) ∗ NK1 c j ∗ DC c j)
def stK2 (j : Fin 3) : sProp 𝕄 := iprop(pr c stM j (oS1 j c) 256 anyV ∗ pr c stM j (oS2 j c) 128 anyV ∗ pr c stM j (oK2 j c) 128 (fv X (D2 j c) (kb j c + oK2 j c))
  ∗ pr c rvM j 256 256 anyV ∗ pr c rvM j 128 128 anyV ∗ pr c sbM j 256 256 anyV ∗ pr c sbM j 128 128 anyV ∗ ready c (.rsS j 2) ∗ NK2 c j ∗ DK1 c j)
/-- before each send of the gathering, and each receive; -/
def stS0 (j : Fin 3) : sProp 𝕄 := iprop(pr c stM j (oS1 j c) 256 anyV ∗ pr c stM j (oS2 j c) 128 anyV ∗ pr c stM j (oK2 j c) 128 (fv X Finset.univ (kb j c + oK2 j c))
  ∗ pr c rvM j 256 256 anyV ∗ pr c rvM j 128 128 anyV ∗ pr c sbM j 256 256 anyV ∗ pr c sbM j 128 128 anyV ∗ pr c sbM j 0 128 anyV ∗ N0 c j ∗ DK2 c j)
def stR0 (j : Fin 3) : sProp 𝕄 := iprop(pr c stM j (oS1 j c) 256 anyV ∗ pr c stM j (oS2 j c) 128 anyV ∗ pr c stM j (oK2 j c) 128 (fv X Finset.univ (kb j c + oK2 j c))
  ∗ pr c rvM j 256 256 anyV ∗ pr c rvM j 128 128 anyV ∗ pr c sbM j 256 256 anyV ∗ pr c sbM j 128 128 anyV ∗ ready c (.agS j 0) ∗ ready c (.agR j 0) ∗ N1 c j ∗ DS0 c j)
def stS1 (j : Fin 3) : sProp 𝕄 := iprop(pr c stM j (oS1 j c) 256 anyV ∗ pr c stM j (oK1 j c) 256 (fv X Finset.univ (kb j c + oK1 j c))
  ∗ pr c rvM j 256 256 anyV ∗ pr c sbM j 256 256 anyV ∗ pr c sbM j 0 256 anyV ∗ N1 c j ∗ DR0 c j)
def stR1 (j : Fin 3) : sProp 𝕄 := iprop(pr c stM j (oS1 j c) 256 anyV ∗ pr c stM j (oK1 j c) 256 (fv X Finset.univ (kb j c + oK1 j c))
  ∗ pr c rvM j 256 256 anyV ∗ pr c sbM j 256 256 anyV ∗ ready c (.agS j 1) ∗ ready c (.agR j 1) ∗ N2 c j ∗ DS1 c j)
def stS2 (j : Fin 3) : sProp 𝕄 := iprop(pr c stM j 0 512 (fv X Finset.univ (kb j c)) ∗ pr c sbM j 0 512 anyV ∗ N2 c j ∗ DR1 c j)
def stR2 (j : Fin 3) : sProp 𝕄 := iprop(storing X c j (kb j c) (RefSig.tileCredit (R2 512) .f32) ∗ ready c (.agS j 2) ∗ ready c (.agR j 2)
  ∗ outAny c (sb j c) 256 ∗ outAny c (sb j c + 256) 256 ∗ DS2 c j)
/-- and after the last. -/
def stE (j : Fin 3) : sProp 𝕄 := iprop(storing X c j (kb j c) (RefSig.tileCredit (R2 512) .f32) ∗ pr c sbM j 0 512 anyV ∗ pr c rvM j 0 512 anyV
  ∗ outF X c (sb j c) 256 ∗ outF X c (sb j c + 256) 256 ∗ DR2 c j)
variable {c}

/-! ## The steps -/

/-- What a fetched block and the weights are to a step. -/
abbrev tools (A : Dev nD → S3072x1536.Idx → F .f32) (B : Dev nD → S1536x3072.Idx → F .f32) (c : Dev nD) (s : Fin 2) (g : ℕ) : sProp 𝕄 :=
  iprop(holds A c s g ∗ wts B c 1536)

theorem wp_gA0 (j : Fin 3) (s : Fin 2) {k : Pr F} :
    iprop(ctx X ∗ owing c (3 + 2 * j.val) ∗ tools A B c s (sb j c + oH j 0 c) ∗ stA c j)
      ⊢ iprop((iprop(owing c (4 + 2 * j.val) ∗ tools A B c s (sb j c + oH j 0 c) ∗ stA' c j) -∗ WP c k Q) -∗ WP c (gA c j 0 s k) Q) := by
  have hj := j.isLt
  unfold tools stA stA' NA gA
  iintro ⟨#Hc, HO, ⟨HA, HB⟩, Hs1, Hs2, Hb1, Hb2, Hr1, Hr2, Hf1, Hf2, HN⟩ Hk
  iapply (wp_pDotN X s (sb j c + oH j 0 c) (r := oS1 j c) (oSt_eq j 0 c)) $$ [HA HB Hb1]
  · iframe
  iintro ⟨HA, HB, Hb1⟩
  iapply (wp_pass X (t' := 4 + 2 * j.val) (pay_A0 j) (by simp only [T]; omega) (.rsS j 0) (r := oS1 j c) (r' := 0) (oSb_eq j 0 c) rfl (dA_eq j 0 c) rfl rfl rfl rfl rfl rfl
    (φ := hv X {c} (sb j c + oH j 0 c)) (pr_any _ _ _) (Entails.of_eq ?_)) $$ [HO Hf1 Hb1 Hr1]
  · show pr _ rvM j 0 256 _ = pr _ rvM j 0 256 (hv X {pt j 0 (pt j 0 c)} (kb j (pt j 0 c) + oS1 j (pt j 0 c)))
    rw [pt_pt, kb_p0, show oS1 j (pt j 0 c) = oS1 j c from oH_p0 j 0 c]
    rfl
  · iframe Hc HO Hf1 Hb1 Hr1
  iintro ⟨HO, Hf1⟩
  iapply Hk
  iframe

theorem wp_gA1 (j : Fin 3) (s : Fin 2) {k : Pr F} :
    iprop(ctx X ∗ owing c (4 + 2 * j.val) ∗ tools A B c s (sb j c + oH j 1 c) ∗ stA' c j)
      ⊢ iprop((iprop(owing c (5 + 2 * j.val) ∗ tools A B c s (sb j c + oH j 1 c) ∗ stB c j) -∗ WP c k Q) -∗ WP c (gA c j 1 s k) Q) := by
  have hj := j.isLt
  unfold tools stA' stB gA
  iintro ⟨#Hc, HO, ⟨HA, HB⟩, Hs1, Hs2, Hb2, Hr2, Hf1, Hf2, HN⟩ Hk
  iapply (wp_pDotN X s (sb j c + oH j 1 c) (r := oK1 j c) (oSt_eq j 1 c)) $$ [HA HB Hb2]
  · iframe
  iintro ⟨HA, HB, Hb2⟩
  iapply (wp_pass X (t' := 5 + 2 * j.val) (pay_A1 j) (by simp only [T]; omega) (.rsS j 3) (r := oK1 j c) (r' := 256) (oSb_eq j 1 c) rfl (dA_eq j 1 c) rfl rfl rfl rfl rfl rfl
    (φ := hv X {c} (sb j c + oH j 1 c)) (pr_any _ _ _) (Entails.of_eq ?_)) $$ [HO Hf2 Hb2 Hr2]
  · show pr _ rvM j 256 256 _ = pr _ rvM j 256 256 (hv X {pt j 0 (pt j 0 c)} (kb j (pt j 0 c) + oK1 j (pt j 0 c)))
    rw [pt_pt, kb_p0, show oK1 j (pt j 0 c) = oK1 j c from oH_p0 j 1 c]
    rfl
  · iframe Hc HO Hf2 Hb2 Hr2
  iintro ⟨HO, Hf2⟩
  iapply Hk
  iframe

theorem wp_gB (j : Fin 3) (s : Fin 2) {k : Pr F} :
    iprop(ctx X ∗ owing c (9 + 2 * j.val) ∗ tools A B c s (kb j c + oH j 0 c) ∗ stB c j)
      ⊢ iprop((iprop(owing c (11 + 2 * j.val) ∗ tools A B c s (kb j c + oH j 0 c) ∗ stC c j) -∗ WP c k Q) -∗ WP c (gB c j s k) Q) := by
  have hj := j.isLt
  unfold tools stB stC NB DB gB
  iintro ⟨#Hc, HO, ⟨HA, HB⟩, Hs1, Hs2, Hw0, Hw3, Hr, Hcr, Hf, HN⟩ Hk
  iapply (wp_pDotW X s (kb j c + oH j 0 c) (r := oS1 j c) (oSt_eq j 0 c)) $$ [HA HB Hs1]
  · iframe
  iintro ⟨HA, HB, Hs1⟩
  iapply (wp_arrived X (.rsR j 0) _ (ab_R0 j) (s := rsR j 0) (k := fun _ => _) rfl rfl rfl (pr c rvM j 0 256 (hv X {pt j 0 c} (kb j c + oH j 0 c))) .rfl) $$ [HO Hr]
  · iframe Hc HO Hr
  iintro ⟨HO, Hd0, Hr⟩
  iapply (wp_pAcc X (D0_disj j c) (kb j c + oH j 0 c) (r := oS1 j c) (r' := 0) (oSt_eq j 0 c) rfl) $$ [Hs1 Hr]
  · isplitl [Hs1]; · iexact Hs1
    iexact Hr
  iintro ⟨Hs1, Hr⟩
  ihave Hr := (pr_any _ _ _) $$ Hr
  iapply (wp_give X (t' := 10 + 2 * j.val) (pay_C0 j) (by simp only [T]; omega) (s := crS j 0) (dC0_eq j c) rfl rfl (R := pr c rvM j 0 256 anyV) ?_) $$ [HO Hr]
  · show _ ⊢ pr (pt j 1 (pt j 1 c)) rvM j 0 256 anyV
    rw [pt_pt]
  · iframe Hc HO Hr
  iintro HO
  iapply (wp_arrived X (.rsS j 0) _ (above_rsS j 0 _) (s := rsS j 0) (k := fun _ => _) rfl rfl rfl (pr c sbM j (oS1 j c) 256 anyV) .rfl) $$ [HO Hw0]
  · iframe Hc HO Hw0
  iintro ⟨HO, Hd1, Hb1⟩
  iapply (wp_arrived X (.rsS j 3) _ (above_rsS j 3 _) (s := rsS j 3) (k := fun _ => _) rfl rfl rfl (pr c sbM j (oK1 j c) 256 anyV) .rfl) $$ [HO Hw3]
  · iframe Hc HO Hw3
  iintro ⟨HO, Hd2, Hb2⟩
  ihave Hb : pr c sbM j 0 512 anyV $$ [Hb1 Hb2]
  · iapply (unhalves (φ := anyV) (ψ := anyV) j (fun _ _ _ _ => trivial) (fun _ _ _ _ => trivial))
    isplitl [Hb1]; · iexact Hb1
    iexact Hb2
  ihave Hb := (pr_split j 0 256 256) $$ Hb
  icases Hb with ⟨Hb1, Hb2⟩
  iapply (wp_take X (ab_C0 j) (pr (pt j 1 c) rvM j 0 256 anyV) .rfl) $$ [HO Hcr]
  · iframe Hc HO Hcr
  iintro ⟨HO, Hd3, Hr⟩
  rw [D1_eq]
  iapply (wp_pNarrow X (kb j c + oH j 0 c) (r := oS1 j c) (r' := 0) (oSt_eq j 0 c) rfl) $$ [Hs1 Hb1]
  · isplitl [Hs1]; · iexact Hs1
    iexact Hb1
  iintro ⟨Hs1, Hb1⟩
  iapply (wp_pass X (t' := 11 + 2 * j.val) (pay_R1 j) (by simp only [T]; omega) (.rsS j 1) (r := 0) (r' := 0) rfl rfl (dR1_eq j c) rfl rfl rfl rfl rfl rfl
    (φ := hv X (D1 j c) (kb j c + oH j 0 c)) (pr_any _ _ _) (Entails.of_eq ?_)) $$ [HO Hf Hb1 Hr]
  · show pr _ rvM j 0 256 _ = pr _ rvM j 0 256 (hv X (D1 j (pt j 1 (pt j 1 c))) (kb j (pt j 1 c) + oK1 j (pt j 1 c)))
    rw [pt_pt, kb_p1, oK1_p1]
    rfl
  · isplitr; · iexact Hc
    isplitl [HO]; · iexact HO
    isplitl [Hf]; · iexact Hf
    isplitl [Hb1]; · iexact Hb1
    iexact Hr
  iintro ⟨HO, Hf⟩
  iapply Hk
  ihave Hs1 := (pr_any _ _ _) $$ Hs1
  iframe

theorem wp_gC (j : Fin 3) (s : Fin 2) {k : Pr F} :
    iprop(ctx X ∗ owing c (11 + 2 * j.val) ∗ tools A B c s (kb j c + oH j 1 c) ∗ stC c j)
      ⊢ iprop((iprop(owing c (11 + 2 * j.val) ∗ tools A B c s (kb j c + oH j 1 c) ∗ stK1 X c j) -∗ WP c k Q) -∗ WP c (gC c j s k) Q) := by
  unfold tools stC stK1 NC DC gC
  iintro ⟨#Hc, HO, ⟨HA, HB⟩, Hs1, Hs2, Hb, Hf, ⟨Hr, HN⟩, HD⟩ Hk
  iapply (wp_pDotW X s (kb j c + oH j 1 c) (r := oK1 j c) (oSt_eq j 1 c)) $$ [HA HB Hs2]
  · iframe
  iintro ⟨HA, HB, Hs2⟩
  iapply (wp_arrived X (.rsR j 3) _ (ab_R3 j) (s := rsR j 3) (k := fun _ => _) rfl rfl rfl (pr c rvM j 256 256 (hv X {pt j 0 c} (kb j c + oH j 1 c))) .rfl) $$ [HO Hr]
  · iframe Hc HO Hr
  iintro ⟨HO, Hd0, Hr⟩
  iapply (wp_pAcc X (D0_disj j c) (kb j c + oH j 1 c) (r := oK1 j c) (r' := 256) (oSt_eq j 1 c) rfl) $$ [Hs2 Hr]
  · iframe
  iintro ⟨Hs2, Hr⟩
  rw [D1_eq]
  ihave Hr := (pr_any _ _ _) $$ Hr
  ihave Hs2 := (Entails.of_eq (show pr c stM j (oK1 j c) 256 (fv X (D1 j c) (kb j c + oH j 1 c)) = pr c stM j (oK1 j c) 256 (fv X (D1 j c) (kb j c + oK1 j c)) from rfl)) $$ Hs2
  iapply Hk
  iframe

theorem wp_gK1 (j : Fin 3) {k : Pr F} :
    iprop(ctx X ∗ owing c (15 + 2 * j.val) ∗ stK1 X c j)
      ⊢ iprop((iprop(owing c (17 + 2 * j.val) ∗ stK2 X c j) -∗ WP c k Q) -∗ WP c (gK1 c j k) Q) := by
  have hj := j.isLt
  unfold stK1 stK2 NK1 DK1 gK1
  iintro ⟨#Hc, HO, Hs1, Hs2, Hrk, Hbk, Hw, ⟨Hr, Hcr, Hf, HN⟩, HD⟩ Hk
  iapply (wp_arrived X (.rsR j 1) _ (ab_R1 j) (s := rsR j 1) (k := fun _ => _) rfl rfl rfl (pr c rvM j 0 256 (hv X (D1 j (pt j 1 c)) (kb j c + oK1 j c))) .rfl) $$ [HO Hr]
  · iframe Hc HO Hr
  iintro ⟨HO, Hd0, Hr⟩
  iapply (wp_pAcc X (D1_disj j c) (kb j c + oK1 j c) (r := oK1 j c) (r' := 0) (oK_eq j c) rfl) $$ [Hs2 Hr]
  · iframe
  iintro ⟨Hs2, Hr⟩
  rw [D2_eq]
  iapply (wp_arrived X (.rsS j 1) _ (above_rsS j 1 _) (s := rsS j 1) (k := fun _ => _) rfl rfl rfl (pr c sbM j 0 256 anyV) .rfl) $$ [HO Hw]
  · iframe Hc HO Hw
  iintro ⟨HO, Hd1, Hb⟩
  ihave Hr := (pr_any _ _ _) $$ Hr
  ihave Hr := (pr_split j 0 128 128) $$ Hr
  icases Hr with ⟨Hr, Hr2⟩
  iapply (wp_give X (t' := 16 + 2 * j.val) (pay_C1 j) (by simp only [T]; omega) (s := crS j 1) (dC1_eq j c) rfl rfl (R := pr c rvM j 0 128 anyV) ?_) $$ [HO Hr]
  · show _ ⊢ pr (pt j 2 (pt j 2 c)) rvM j 0 128 anyV
    rw [pt_pt]
  · iframe Hc HO Hr
  iintro HO
  iapply (wp_take X (ab_C1 j) (pr (pt j 2 c) rvM j 0 128 anyV) .rfl) $$ [HO Hcr]
  · iframe Hc HO Hcr
  iintro ⟨HO, Hd2, Hr⟩
  ihave Hs2 := (quarters j) $$ Hs2
  icases Hs2 with ⟨Hs2, Hs3⟩
  ihave Hb := (pr_split j 0 128 128) $$ Hb
  icases Hb with ⟨Hb, Hb2⟩
  have e1 : (fun a => fv X (D2 j c) (kb j c + oK1 j c) ((1 - bt j 2 c) * 128 + a)) = fv X (D2 j c) (kb j c + oS2 j c) := by
    funext a b v; show X.f _ (_ + (_ + a)) b v = X.f _ (_ + (_ + _) + a) b v; rw [← Nat.add_assoc, ← Nat.add_assoc]; rfl
  have e2 : (fun a => fv X (D2 j c) (kb j c + oK1 j c) (bt j 2 c * 128 + a)) = fv X (D2 j c) (kb j c + oK2 j c) := by
    funext a b v; show X.f _ (_ + (_ + a)) b v = X.f _ (_ + (_ + _) + a) b v; rw [← Nat.add_assoc, ← Nat.add_assoc]; rfl
  rw [e1, e2]
  iapply (wp_pNarrow X (kb j c + oS2 j c) (r := oS2 j c) (r' := 0) (oKs_eq j c) rfl) $$ [Hs2 Hb]
  · iframe
  iintro ⟨Hs2, Hb⟩
  iapply (wp_pass X (t' := 17 + 2 * j.val) (pay_R2 j) (by simp only [T]; omega) (.rsS j 2) (r := 0) (r' := 0) rfl rfl (dR2_eq j c) rfl rfl rfl rfl rfl rfl
    (φ := hv X (D2 j c) (kb j c + oS2 j c)) (pr_any _ _ _) (Entails.of_eq ?_)) $$ [HO Hf Hb Hr]
  · show pr _ rvM j 0 128 _ = pr _ rvM j 0 128 (hv X (D2 j (pt j 2 (pt j 2 c))) (kb j (pt j 2 c) + oK2 j (pt j 2 c)))
    rw [pt_pt, kb_p2, oK2_p2]
  · isplitr; · iexact Hc
    isplitl [HO]; · iexact HO
    isplitl [Hf]; · iexact Hf
    isplitl [Hb]; · iexact Hb
    iexact Hr
  iintro ⟨HO, Hf⟩
  ihave Hs2 := (pr_any _ _ _) $$ Hs2
  iapply Hk
  iframe

theorem wp_gK2 (j : Fin 3) {k : Pr F} :
    iprop(ctx X ∗ owing c (21 + j.val) ∗ stK2 X c j)
      ⊢ iprop((iprop(owing c (22 + j.val) ∗ stS0 X c j) -∗ WP c k Q) -∗ WP c (gK2 c j k) Q) := by
  have hj := j.isLt
  unfold stK2 stS0 NK2 DK2 gK2
  iintro ⟨#Hc, HO, Hs1, Hs2, Hs3, Hrk, Hrk2, Hbk, Hbk2, Hw, ⟨Hr, HN⟩, HD⟩ Hk
  iapply (wp_arrived X (.rsR j 2) _ (ab_R2 j) (s := rsR j 2) (k := fun _ => _) rfl rfl rfl (pr c rvM j 0 128 (hv X (D2 j (pt j 2 c)) (kb j c + oK2 j c))) .rfl) $$ [HO Hr]
  · iframe Hc HO Hr
  iintro ⟨HO, Hd0, Hr⟩
  iapply (wp_pAcc X (D2_disj j c) (kb j c + oK2 j c) (r := oK2 j c) (r' := 0) (oKk_eq j c) rfl) $$ [Hs3 Hr]
  · iframe
  iintro ⟨Hs3, Hr⟩
  rw [D3_eq]
  iapply (wp_arrived X (.rsS j 2) _ (above_rsS j 2 _) (s := rsS j 2) (k := fun _ => _) rfl rfl rfl (pr c sbM j 0 128 anyV) .rfl) $$ [HO Hw]
  · iframe Hc HO Hw
  iintro ⟨HO, Hd1, Hb⟩
  ihave Hr := (pr_any _ _ _) $$ Hr
  iapply (wp_give X (t' := 22 + j.val) (pay_C2 j) (by simp only [T]; omega) (s := crS j 2) (dC2_eq j c) rfl rfl (R := pr c rvM j 0 128 anyV) ?_) $$ [HO Hr]
  · show _ ⊢ pr (pt j 2 (pt j 2 c)) rvM j 0 128 anyV
    rw [pt_pt]
  · iframe Hc HO Hr
  iintro HO
  iapply Hk
  iframe

theorem wp_gS0 (j : Fin 3) {k : Pr F} :
    iprop(ctx X ∗ owing c (24 + j.val) ∗ stS0 X c j)
      ⊢ iprop((iprop(owing c (25 + j.val) ∗ stR0 X c j) -∗ WP c k Q) -∗ WP c (gS0 c j k) Q) := by
  have hj := j.isLt
  unfold stS0 stR0 N0 DS0 gS0
  iintro ⟨#Hc, HO, Hs1, Hs2, Hs3, Hrk, Hrk2, Hbk, Hbk2, Hb, ⟨Hcr, Hf, Hg, HN⟩, HD⟩ Hk
  iapply (wp_take X (ab_C2 j) (pr (pt j 2 c) rvM j 0 128 anyV) .rfl) $$ [HO Hcr]
  · iframe Hc HO Hcr
  iintro ⟨HO, Hd0, Hr⟩
  iapply (wp_pNarrow X (kb j c + oK2 j c) (r := oK2 j c) (r' := 0) (oKk_eq j c) rfl) $$ [Hs3 Hb]
  · iframe
  iintro ⟨Hs3, Hb⟩
  iapply (wp_pass X (t' := 25 + j.val) (pay_G0 j) (by simp only [T]; omega) (.agS j 0) (r := 0) (r' := 0) rfl rfl (dG0_eq j c) rfl rfl rfl rfl rfl rfl
    (φ := hv X Finset.univ (kb j c + oK2 j c)) (pr_any _ _ _) (Entails.of_eq ?_)) $$ [HO Hf Hb Hr]
  · show pr _ rvM j 0 128 _ = pr _ rvM j 0 128 (hv X Finset.univ (kb j (pt j 2 c) + oS2 j (pt j 2 c)))
    rw [kb_p2, oS2_p2]
  · isplitr; · iexact Hc
    isplitl [HO]; · iexact HO
    isplitl [Hf]; · iexact Hf
    isplitl [Hb]; · iexact Hb
    iexact Hr
  iintro ⟨HO, Hf⟩
  iapply Hk
  iframe

theorem wp_gR0 (j : Fin 3) {k : Pr F} :
    iprop(ctx X ∗ owing c (27 + j.val) ∗ stR0 X c j)
      ⊢ iprop((iprop(owing c (28 + j.val) ∗ stS1 X c j) -∗ WP c k Q) -∗ WP c (gR0 c j k) Q) := by
  have hj := j.isLt
  unfold stR0 stS1 DR0 gR0
  iintro ⟨#Hc, HO, Hs1, Hs2, Hs3, Hrk, Hrk2, Hbk, Hbk2, Hw, Hr, HN, HD⟩ Hk
  iapply (wp_arrived X (.agR j 0) _ (ab_G0 j) (s := agR j 0) (k := fun _ => _) rfl rfl rfl (pr c rvM j 0 128 (hv X Finset.univ (kb j c + oS2 j c))) .rfl) $$ [HO Hr]
  · iframe Hc HO Hr
  iintro ⟨HO, Hd0, Hr⟩
  iapply (wp_arrived X (.agS j 0) _ (above_agS j 0 _) (s := agS j 0) (k := fun _ => _) rfl rfl rfl (pr c sbM j 0 128 anyV) .rfl) $$ [HO Hw]
  · iframe Hc HO Hw
  iintro ⟨HO, Hd1, Hb⟩
  iapply (wp_pWiden X (kb j c + oS2 j c) (r := oS2 j c) (r' := 0) (oKs_eq j c) rfl) $$ [Hs2 Hr]
  · iframe
  iintro ⟨Hr, Hs2⟩
  ihave Hr : pr c rvM j 0 256 anyV $$ [Hr Hrk2]
  · iapply (pr_join' j 0 128 128 (fun _ _ _ _ _ => trivial) (fun _ _ _ _ _ => trivial))
    isplitl [Hr]; · iexact Hr
    iexact Hrk2
  iapply (wp_give X (t' := 28 + j.val) (pay_C3 j) (by simp only [T]; omega) (s := crS j 3) (dC3_eq j c) rfl rfl (R := pr c rvM j 0 256 anyV) ?_) $$ [HO Hr]
  · show _ ⊢ pr (pt j 1 (pt j 1 c)) rvM j 0 256 anyV
    rw [pt_pt]
  · iframe Hc HO Hr
  iintro HO
  ihave Hb : pr c sbM j 0 256 anyV $$ [Hb Hbk2]
  · iapply (pr_join' j 0 128 128 (fun _ _ _ _ _ => trivial) (fun _ _ _ _ _ => trivial))
    isplitl [Hb]; · iexact Hb
    iexact Hbk2
  ihave Hs2 : pr c stM j (oK1 j c) 256 (fv X Finset.univ (kb j c + oK1 j c)) $$ [Hs2 Hs3]
  · iapply (unquarters j ?_ ?_)
    rotate_left 2
    · isplitl [Hs2]; · iexact Hs2
      iexact Hs3
    · intro a b v h
      show X.f _ (_ + (_ + a)) b v
      rw [← Nat.add_assoc, Nat.add_assoc (kb j c)]; exact h
    · intro a b v h
      show X.f _ (_ + (_ + a)) b v
      rw [← Nat.add_assoc, Nat.add_assoc (kb j c)]; exact h
  iapply Hk
  iframe

theorem wp_gS1 (j : Fin 3) {k : Pr F} :
    iprop(ctx X ∗ owing c (30 + j.val) ∗ stS1 X c j)
      ⊢ iprop((iprop(owing c (31 + j.val) ∗ stR1 X c j) -∗ WP c k Q) -∗ WP c (gS1 c j k) Q) := by
  have hj := j.isLt
  unfold stS1 stR1 N1 DS1 gS1
  iintro ⟨#Hc, HO, Hs1, Hs2, Hrk, Hbk, Hb, ⟨Hcr, Hf, Hg, HN⟩, HD⟩ Hk
  iapply (wp_take X (ab_C3 j) (pr (pt j 1 c) rvM j 0 256 anyV) .rfl) $$ [HO Hcr]
  · iframe Hc HO Hcr
  iintro ⟨HO, Hd0, Hr⟩
  iapply (wp_pNarrow X (kb j c + oK1 j c) (r := oK1 j c) (r' := 0) (oK_eq j c) rfl) $$ [Hs2 Hb]
  · iframe
  iintro ⟨Hs2, Hb⟩
  iapply (wp_pass X (t' := 31 + j.val) (pay_G1 j) (by simp only [T]; omega) (.agS j 1) (r := 0) (r' := 0) rfl rfl (dG1_eq j c) rfl rfl rfl rfl rfl rfl
    (φ := hv X Finset.univ (kb j c + oK1 j c)) (pr_any _ _ _) (Entails.of_eq ?_)) $$ [HO Hf Hb Hr]
  · show pr _ rvM j 0 256 _ = pr _ rvM j 0 256 (hv X Finset.univ (kb j (pt j 1 c) + oS1 j (pt j 1 c)))
    rw [kb_p1, oS1_p1]
  · isplitr; · iexact Hc
    isplitl [HO]; · iexact HO
    isplitl [Hf]; · iexact Hf
    isplitl [Hb]; · iexact Hb
    iexact Hr
  iintro ⟨HO, Hf⟩
  iapply Hk
  iframe

theorem wp_gR1 (j : Fin 3) {k : Pr F} :
    iprop(ctx X ∗ owing c (33 + j.val) ∗ stR1 X c j)
      ⊢ iprop((iprop(owing c (34 + j.val) ∗ stS2 X c j) -∗ WP c k Q) -∗ WP c (gR1 c j k) Q) := by
  have hj := j.isLt
  unfold stR1 stS2 DR1 gR1
  iintro ⟨#Hc, HO, Hs1, Hs2, Hrk, Hbk, Hw, Hr, HN, HD⟩ Hk
  iapply (wp_arrived X (.agR j 1) _ (ab_G1 j) (s := agR j 1) (k := fun _ => _) rfl rfl rfl (pr c rvM j 0 256 (hv X Finset.univ (kb j c + oS1 j c))) .rfl) $$ [HO Hr]
  · iframe Hc HO Hr
  iintro ⟨HO, Hd0, Hr⟩
  iapply (wp_arrived X (.agS j 1) _ (above_agS j 1 _) (s := agS j 1) (k := fun _ => _) rfl rfl rfl (pr c sbM j 0 256 anyV) .rfl) $$ [HO Hw]
  · iframe Hc HO Hw
  iintro ⟨HO, Hd1, Hb⟩
  iapply (wp_pWiden X (kb j c + oS1 j c) (r := oS1 j c) (r' := 0) (oP_eq j c) rfl) $$ [Hs1 Hr]
  · iframe
  iintro ⟨Hr, Hs1⟩
  ihave Hr : pr c rvM j 0 512 anyV $$ [Hr Hrk]
  · iapply (pr_join' j 0 256 256 (fun _ _ _ _ _ => trivial) (fun _ _ _ _ _ => trivial))
    isplitl [Hr]; · iexact Hr
    iexact Hrk
  iapply (wp_give X (t' := 34 + j.val) (pay_C4 j) (by simp only [T]; omega) (s := crS j 4) (dC4_eq j c) rfl rfl (R := pr c rvM j 0 512 anyV) ?_) $$ [HO Hr]
  · show _ ⊢ pr (pt j 0 (pt j 0 c)) rvM j 0 512 anyV
    rw [pt_pt]
  · iframe Hc HO Hr
  iintro HO
  ihave Hb : pr c sbM j 0 512 anyV $$ [Hb Hbk]
  · iapply (pr_join' j 0 256 256 (fun _ _ _ _ _ => trivial) (fun _ _ _ _ _ => trivial))
    isplitl [Hb]; · iexact Hb
    iexact Hbk
  ihave Hs : pr c stM j 0 512 (fv X Finset.univ (kb j c)) $$ [Hs1 Hs2]
  · iapply (unhalves j ?_ ?_)
    rotate_left 2
    · isplitl [Hs1]; · iexact Hs1
      iexact Hs2
    · intro a b v h
      show X.f _ (_ + (_ + a)) b v
      rw [← Nat.add_assoc]; exact h
    · intro a b v h
      show X.f _ (_ + (_ + a)) b v
      rw [← Nat.add_assoc]; exact h
  iapply Hk
  iframe

theorem wp_gS2 (j : Fin 3) {k : Pr F} :
    iprop(ctx X ∗ owing c (36 + j.val) ∗ stS2 X c j)
      ⊢ iprop((iprop(owing c (37 + j.val) ∗ stR2 X c j) -∗ WP c k Q) -∗ WP c (gS2 c j k) Q) := by
  have hj := j.isLt
  unfold stS2 stR2 N2 DS2 gS2
  iintro ⟨#Hc, HO, Hs, Hb, ⟨Hcr, Hf, Hg, Ho, Ho1, Ho2, Hi⟩, HD⟩ Hk
  iapply (wp_take X (ab_C4 j) (pr (pt j 0 c) rvM j 0 512 anyV) .rfl) $$ [HO Hcr]
  · iframe Hc HO Hcr
  iintro ⟨HO, Hd0, Hr⟩
  iapply (wp_pNarrow X (kb j c) (r := 0) (r' := 0) (oW_eq j c) rfl) $$ [Hs Hb]
  · iframe
  iintro ⟨Hs, Hb⟩
  iapply (wp_pass X (t' := 37 + j.val) (pay_G2 j) (by simp only [T]; omega) (.agS j 2) (r := 0) (r' := 0) rfl rfl (dG2_eq j c) rfl rfl rfl rfl rfl rfl
    (φ := hv X Finset.univ (kb j c)) (pr_any _ _ _) (Entails.of_eq ?_)) $$ [HO Hf Hb Hr]
  · show pr _ rvM j 0 512 _ = pr _ rvM j 0 512 (hv X Finset.univ (sb j (pt j 0 c)))
    rw [sb_p0]
  · isplitr; · iexact Hc
    isplitl [HO]; · iexact HO
    isplitl [Hf]; · iexact Hf
    isplitl [Hb]; · iexact Hb
    iexact Hr
  iintro ⟨HO, Hf⟩
  iapply (wp_pStore X (kb j c) (h' := gX j 512 0) (h := hO j c) rfl (oO_eq j c)) $$ [Hs Ho Hi]
  · iframe
  iintro Hst
  iapply Hk
  iframe

theorem wp_gR2 (j : Fin 3) {k : Pr F} :
    iprop(ctx X ∗ owing c 39 ∗ stR2 X c j ∗ ldb c ∗ idle c (ldS 0))
      ⊢ iprop((iprop(owing c 39 ∗ stE X c j ∗ ldb c ∗ idle c (ldS 0)) -∗ WP c k Q) -∗ WP c (gR2 c j k) Q) := by
  have hj := j.isLt
  unfold stR2 stE DR2 gR2
  iintro ⟨#Hc, HO, ⟨Hst, Hw, Hr, Ho1, Ho2, HD⟩, Hl, Hi⟩ Hk
  iapply (wp_arrived X (.agR j 2) _ (ab_G2 j) (s := agR j 2) (k := fun _ => _) rfl rfl rfl (pr c rvM j 0 512 (hv X Finset.univ (sb j c))) .rfl) $$ [HO Hr]
  · iframe Hc HO Hr
  iintro ⟨HO, Hd0, Hr⟩
  iapply (wp_arrived X (.agS j 2) _ (above_agS j 2 _) (s := agS j 2) (k := fun _ => _) rfl rfl rfl (pr c sbM j 0 512 anyV) .rfl) $$ [HO Hw]
  · iframe Hc HO Hw
  iintro ⟨HO, Hd1, Hb⟩
  ihave Hr := (pr_split j 0 256 256) $$ Hr
  icases Hr with ⟨Hr1, Hr2⟩
  iapply (wp_pOut X 39 (sb j c) (r := 0) rfl (oR_eq0 j c)) $$ [HO Hr1 Hl Ho1 Hi]
  · iframe Hc HO Hr1 Hl Ho1 Hi
  iintro ⟨HO, Hr1, Hl, Ho1, Hi⟩
  have e1 : (fun a => hv X Finset.univ (sb j c) (256 + a)) = hv X Finset.univ (sb j c + 256) := by
    funext a b v; show X.h _ (_ + (_ + a)) b v = _; rw [← Nat.add_assoc]
  rw [e1]
  iapply (wp_pOut X 39 (sb j c + 256) (r := 256) rfl (oR_eq1 j c)) $$ [HO Hr2 Hl Ho2 Hi]
  · iframe Hc HO Hl Ho2 Hi
    iexact Hr2
  iintro ⟨HO, Hr2, Hl, Ho2, Hi⟩
  ihave Hr : pr c rvM j 0 512 anyV $$ [Hr1 Hr2]
  · iapply (pr_join' j 0 256 256 (fun _ _ _ _ _ => trivial) (fun _ _ _ _ _ => trivial))
    isplitl [Hr1]; · iexact Hr1
    iexact Hr2
  iapply Hk
  iframe

end Steps

end Cert.KernelIdeal.Ring
end
end
-- ==== Proof.KI.Body.lean ====
/- The whole body: from what a device starts with to what it ends with. -/
module

public import proofs.«01_k».proof.Proof.KI.Phases

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx
open Cert.KernelIdeal Cert.KernelIdeal.Gen Cert.Pieces

variable {F : FTy → Type} [FloatOps F]
local notation "𝕄" => MT nD τ sig Unit (Elt F) ℕ UU ℕ
variable {A : Dev nD → S3072x1536.Idx → F .f32} {B : Dev nD → S1536x3072.Idx → F .f32} (X : Spec F A B)
theorem three {Φ : Fin 3 → sProp (MT nD τ sig Unit (Elt F) ℕ UU ℕ)} : bigSep Finset.univ Φ = iprop(Φ 0 ∗ Φ 1 ∗ Φ 2) := by
  rw [show (Finset.univ : Finset (Fin 3)) = insert 0 (insert 1 {2}) from by decide, bigSep_insert (by decide), bigSep_insert (by decide), bigSep_singleton]
  rfl

theorem bar_axis : ∀ (d : Fin 3) (c : Dev nD), partner d (partner d c) = c := by decide
theorem pay_B : ∀ d : Fin 3, (pk d.val, px d.val, pd d.val) = (Key.bar, d, d) := by decide
theorem ab_B : Above (lev .bar) 3 := by decide
theorem partner_pt : ∀ (j : Fin 3) (c : Dev nD), partner j c = pt j 0 c := by decide

section Steps
variable {c : Dev nD} {Q : PUnit → sProp (MT nD τ sig Unit (Elt F) ℕ UU ℕ)}

/-- A neighbour told that the own rows may be written. -/
theorem wp_tell {t' : ℕ} (i : Fin 3) (ht : t' = i.val + 1) {k : Pr F} :
    iprop(ctx X ∗ owing c i.val ∗ pr c rvM i 0 512 anyV) ⊢ iprop((owing c t' -∗ WP c k Q) -∗ WP c (pSig (dBar i c) barS k) Q) := by
  subst ht
  obtain ⟨h1, h2⟩ := Prod.mk.inj (pay_B i)
  obtain ⟨h2, h3⟩ := Prod.mk.inj h2
  have := wp_sig (c := c) (Q := Q) X i.val (by have := i.isLt; simp only [T]; omega) (d := dBar i c) (s := barS) (by rw [h2]; exact dBar_eq i c) (by rw [h1]; rfl) (by rw [h1]; rfl) (k := k)
  rw [h1, h2, h3] at this
  refine BIBase.Entails.trans (sep_mono_right (sep_mono_right (Entails.of_eq ?_))) this
  show pr c rvM i 0 512 anyV = pr (partner i (partner i c)) rvM i 0 512 anyV
  rw [bar_axis]

/-- What a device holds of a slab at the start, and at the end. -/
def st0 (c : Dev nD) (j : Fin 3) : sProp 𝕄 := iprop(pr c stM j (oS1 j c) 256 anyV ∗ pr c stM j (oK1 j c) 256 anyV ∗ pr c sbM j (oS1 j c) 256 anyV ∗ pr c sbM j (oK1 j c) 256 anyV ∗ NA c j)
def stF (c : Dev nD) (j : Fin 3) : sProp 𝕄 := iprop(idle c (stS j) ∗ outF X c (kb j c) 512 ∗ outF X c (sb j c) 256 ∗ outF X c (sb j c + 256) 256
  ∗ pr c stM j 0 512 anyV ∗ pr c sbM j 0 512 anyV ∗ pr c rvM j 0 512 anyV ∗ DR2 c j)

theorem stA_intro (j : Fin 3) : iprop(st0 c j ∗ pr (partner j c) rvM j 0 512 anyV) ⊢ (stA c j : sProp 𝕄) := by
  unfold st0 stA
  rw [partner_pt]
  iintro ⟨⟨H1, H2, H3, H4, HN⟩, Hr⟩
  ihave Hr := (pr_split j 0 256 256) $$ Hr
  icases Hr with ⟨Hr1, Hr2⟩
  iframe H1 H2 H3 H4 HN
  isplitl [Hr1]; · iexact Hr1
  iexact Hr2

theorem wp_gBar {k : Pr F} :
    iprop(ctx X ∗ owing c 0 ∗ ready c .bar ∗ pr c rvM (0 : Fin 3) 0 512 anyV ∗ pr c rvM (1 : Fin 3) 0 512 anyV ∗ pr c rvM (2 : Fin 3) 0 512 anyV ∗ st0 c 0 ∗ st0 c 1 ∗ st0 c 2)
      ⊢ iprop((iprop(owing c 3 ∗ done c .bar ∗ stA c 0 ∗ stA c 1 ∗ stA c 2) -∗ WP c k Q) -∗ WP c (gBar c k) Q) := by
  unfold gBar
  iintro ⟨#Hc, HO, Hw, Hr0, Hr1, Hr2, H0, H1, H2⟩ Hk
  iapply (wp_tell X (t' := 1) 0 rfl) $$ [HO Hr0]
  · isplitr; · iexact Hc
    isplitl [HO]; · iexact HO
    iexact Hr0
  iintro HO
  iapply (wp_tell X (t' := 2) 1 rfl) $$ [HO Hr1]
  · isplitr; · iexact Hc
    isplitl [HO]; · iexact HO
    iexact Hr1
  iintro HO
  iapply (wp_tell X (t' := 3) 2 rfl) $$ [HO Hr2]
  · isplitr; · iexact Hc
    isplitl [HO]; · iexact HO
    iexact Hr2
  iintro HO
  have hb := wp_credit (c := c) (Q := Q) X .bar 3 ab_B (s := barS) (n := 3#32) rfl (by show (3#32).toInt = ((3 : ℕ) : ℤ); decide) (k := k)
  rw [show dty .bar = Finset.univ from rfl, three] at hb
  have hs : iprop(Pay X .bar 0 c ∗ Pay X .bar 1 c ∗ Pay X .bar 2 c)
      = iprop(pr (partner (0 : Fin 3) c) rvM (0 : Fin 3) 0 512 anyV ∗ pr (partner (1 : Fin 3) c) rvM (1 : Fin 3) 0 512 anyV ∗ pr (partner (2 : Fin 3) c) rvM (2 : Fin 3) 0 512 anyV) := rfl
  rw [hs] at hb
  iapply hb $$ [HO Hw]
  · iframe Hc HO Hw
  iintro ⟨HO, Hd, Hr0, Hr1, Hr2⟩
  iapply Hk
  isplitl [HO]; · iexact HO
  isplitl [Hd]; · iexact Hd
  isplitl [H0 Hr0]
  · iapply (stA_intro 0)
    isplitl [H0]; · iexact H0
    iexact Hr0
  isplitl [H1 Hr1]
  · iapply (stA_intro 1)
    isplitl [H1]; · iexact H1
    iexact Hr1
  iapply (stA_intro 2)
  isplitl [H2]; · iexact H2
  iexact Hr2

/-- The next block's fetch begun once the last one's has ended. -/
theorem wp_gN (t : ℕ) (i i' : Fin 12) (s s' : Fin 2) {g g' : ℕ} (h' : oA i' c = ![g', 0]) {k : Pr F} :
    iprop(ctx X ∗ owing c t ∗ fetching A c s g ∗ free c s' ∗ idle c (ldA s'))
      ⊢ iprop((iprop(owing c t ∗ idle c (ldA s) ∗ holds A c s g ∗ fetching A c s' g') -∗ WP c k Q) -∗ WP c (gN c i i' s s' k) Q) := by
  unfold gN
  iintro ⟨#Hc, HO, Hf, Hs, Hi⟩ Hk
  iapply (wp_pFetched X t s g) $$ [HO Hf]
  · iframe Hc HO Hf
  iintro ⟨HO, Hi', Hh, HA⟩
  iapply (wp_pFetch s' g' h') $$ [HA Hs Hi]
  · iframe
  iintro Hf
  iapply Hk
  iframe

/-- What carries over from one product to the next: the debt, a fetch into the first slot, the second slot, the weights. -/
def carry (A : Dev nD → S3072x1536.Idx → F .f32) (B : Dev nD → S1536x3072.Idx → F .f32) (c : Dev nD) (t g : ℕ) : sProp 𝕄 :=
  iprop(owing c t ∗ fetching A c 0 g ∗ free c 1 ∗ idle c (ldA 1) ∗ wts B c 1536)

/-- The two products passed on of one slab. -/
theorem wp_pairA (j : Fin 3) (i i' i'' : Fin 12) {t t' g g'' : ℕ} (ht : t = 3 + 2 * j.val) (ht' : t' = 5 + 2 * j.val) (hg : g = sb j c + oH j 0 c)
    (h' : oA i' c = ![sb j c + oH j 1 c, 0]) (h'' : oA i'' c = ![g'', 0]) {k : Pr F} :
    iprop(ctx X ∗ carry A B c t g ∗ stA c j)
      ⊢ iprop((iprop(carry A B c t' g'' ∗ stB c j) -∗ WP c k Q) -∗ WP c (gN c i i' 0 1 <| gA c j 0 0 <| gN c i' i'' 1 0 <| gA c j 1 1 k) Q) := by
  subst ht ht' hg
  unfold carry
  iintro ⟨#Hc, ⟨HO, Hf, Hs, Hi, HB⟩, HS⟩ Hk
  iapply (wp_gN X _ i i' 0 1 h') $$ [HO Hf Hs Hi]
  · iframe Hc HO Hf Hs Hi
  iintro ⟨HO, Hi, Hh, Hf⟩
  iapply (wp_gA0 X j 0) $$ [HO Hh HB HS]
  · iframe Hc HO Hh HB HS
  iintro ⟨HO, ⟨Hh, HB⟩, HS⟩
  ihave Hh := (free_of_holds 0 _) $$ Hh
  iapply (wp_gN X _ i' i'' 1 0 h'') $$ [HO Hf Hh Hi]
  · iframe Hc HO Hf Hh Hi
  iintro ⟨HO, Hi, Hh, Hf⟩
  iapply (wp_gA1 X j 1) $$ [HO Hh HB HS]
  · iframe Hc HO Hh HB HS
  iintro ⟨HO, ⟨Hh, HB⟩, HS⟩
  ihave Hh := (free_of_holds 1 _) $$ Hh
  iapply Hk
  iframe

/-- The two products kept of one slab; -/
theorem wp_pairB (j : Fin 3) (i i' i'' : Fin 12) {t t' g g'' : ℕ} (ht : t = 9 + 2 * j.val) (ht' : t' = 11 + 2 * j.val) (hg : g = kb j c + oH j 0 c)
    (h' : oA i' c = ![kb j c + oH j 1 c, 0]) (h'' : oA i'' c = ![g'', 0]) {k : Pr F} :
    iprop(ctx X ∗ carry A B c t g ∗ stB c j)
      ⊢ iprop((iprop(carry A B c t' g'' ∗ stK1 X c j) -∗ WP c k Q) -∗ WP c (gN c i i' 0 1 <| gB c j 0 <| gN c i' i'' 1 0 <| gC c j 1 k) Q) := by
  subst ht ht' hg
  unfold carry
  iintro ⟨#Hc, ⟨HO, Hf, Hs, Hi, HB⟩, HS⟩ Hk
  iapply (wp_gN X _ i i' 0 1 h') $$ [HO Hf Hs Hi]
  · iframe Hc HO Hf Hs Hi
  iintro ⟨HO, Hi, Hh, Hf⟩
  iapply (wp_gB X j 0) $$ [HO Hh HB HS]
  · iframe Hc HO Hh HB HS
  iintro ⟨HO, ⟨Hh, HB⟩, HS⟩
  ihave Hh := (free_of_holds 0 _) $$ Hh
  iapply (wp_gN X _ i' i'' 1 0 h'') $$ [HO Hf Hh Hi]
  · iframe Hc HO Hf Hh Hi
  iintro ⟨HO, Hi, Hh, Hf⟩
  iapply (wp_gC X j 1) $$ [HO Hh HB HS]
  · iframe Hc HO Hh HB HS
  iintro ⟨HO, ⟨Hh, HB⟩, HS⟩
  ihave Hh := (free_of_holds 1 _) $$ Hh
  iapply Hk
  iframe
/-- and of the last one, after which no fetch is under way. -/
theorem wp_pairL (i i' : Fin 12) {g : ℕ} (hg : g = kb 2 c + oH 2 0 c) (h' : oA i' c = ![kb 2 c + oH 2 1 c, 0]) {k : Pr F} :
    iprop(ctx X ∗ carry A B c 13 g ∗ stB c 2)
      ⊢ iprop((iprop(owing c 15 ∗ argA A c ∗ free c 0 ∗ free c 1 ∗ idle c (ldA 0) ∗ idle c (ldA 1) ∗ wts B c 1536 ∗ stK1 X c 2) -∗ WP c k Q)
        -∗ WP c (gN c i i' 0 1 <| gB c 2 0 <| pFetched 1 (oA i' c) (hA i' c) <| gC c 2 1 k) Q) := by
  subst hg
  unfold carry
  iintro ⟨#Hc, ⟨HO, Hf, Hs, Hi, HB⟩, HS⟩ Hk
  iapply (wp_gN X _ i i' 0 1 h') $$ [HO Hf Hs Hi]
  · iframe Hc HO Hf Hs Hi
  iintro ⟨HO, Hi, Hh, Hf⟩
  iapply (wp_gB X 2 0) $$ [HO Hh HB HS]
  · isplitr; · iexact Hc
    isplitl [HO]; · iexact HO
    iframe Hh HB HS
  iintro ⟨HO, ⟨Hh, HB⟩, HS⟩
  ihave Hh := (free_of_holds 0 _) $$ Hh
  iapply (wp_pFetched X _ 1 _) $$ [HO Hf]
  · iframe Hc HO Hf
  iintro ⟨HO, Hi', Hh', HA⟩
  iapply (wp_gC X 2 1) $$ [HO Hh' HB HS]
  · iframe Hc HO Hh' HB HS
  iintro ⟨HO, ⟨Hh', HB⟩, HS⟩
  ihave Hh' := (free_of_holds 1 _) $$ Hh'
  iapply Hk
  isplitl [HO]; · iexact HO
  iframe

/-- A step taken for each of the slabs in turn. -/
theorem wp_each {P : ℕ → sProp (MT nD τ sig Unit (Elt F) ℕ UU ℕ)} {S S' : Fin 3 → sProp (MT nD τ sig Unit (Elt F) ℕ UU ℕ)} {g : Fin 3 → Pr F → Pr F} {t t' : Fin 3 → ℕ}
    (step : ∀ j k, iprop(ctx X ∗ P (t j) ∗ S j) ⊢ iprop((iprop(P (t' j) ∗ S' j) -∗ WP c k Q) -∗ WP c (g j k) Q)) (h1 : t' 0 = t 1) (h2 : t' 1 = t 2)
    {a b : ℕ} (ha : t 0 = a) (hb : t' 2 = b) {k : Pr F} :
    iprop(ctx X ∗ P a ∗ S 0 ∗ S 1 ∗ S 2) ⊢ iprop((iprop(P b ∗ S' 0 ∗ S' 1 ∗ S' 2) -∗ WP c k Q) -∗ WP c (g 0 <| g 1 <| g 2 k) Q) := by
  subst ha hb
  have s0 := step 0 (g 1 <| g 2 k)
  have s1 := step 1 (g 2 k)
  have s2 := step 2 k
  rw [h1] at s0
  rw [h2] at s1
  iintro ⟨#Hc, HP, H0, H1, H2⟩ Hk
  iapply s0 $$ [HP H0]
  · iframe Hc HP H0
  iintro ⟨HP, H0⟩
  iapply s1 $$ [HP H1]
  · iframe Hc HP H1
  iintro ⟨HP, H1⟩
  iapply s2 $$ [HP H2]
  · iframe Hc HP H2
  iintro ⟨HP, H2⟩
  iapply Hk
  iframe

/-- The end of a slab's store. -/
theorem wp_gE (j : Fin 3) {k : Pr F} :
    iprop(ctx X ∗ owing c 39 ∗ stE X c j)
      ⊢ iprop((iprop(owing c 39 ∗ stF X c j) -∗ WP c k Q) -∗ WP c (pStored j (atR j 0) (gX j 512 0) (oO j c) (hO j c) k) Q) := by
  unfold stE stF
  iintro ⟨#Hc, HO, Hst, Hb, Hr, Ho1, Ho2, HD⟩ Hk
  iapply (wp_pStored X 39 (kb j c)) $$ [HO Hst]
  · iframe Hc HO Hst
  iintro ⟨HO, Hi, Ho, Hs⟩
  iapply Hk
  iframe

/-- What a device holds of its own besides the slabs: the arguments, the load buffers and the local transfers' semaphores, the first `n` rows of the weights narrowed. -/
def own0 (A : Dev nD → S3072x1536.Idx → F .f32) (B : Dev nD → S1536x3072.Idx → F .f32) (c : Dev nD) (n : ℕ) : sProp 𝕄 :=
  iprop(argA A c ∗ argB B c ∗ ldb c ∗ wts B c n ∗ free c 0 ∗ free c 1 ∗ idle c (ldS 0) ∗ idle c (ldA 0) ∗ idle c (ldA 1))

/-- The weights fetched. -/
theorem wp_weights (t : ℕ) {k : Pr F} :
    iprop(ctx X ∗ owing c t ∗ argB B c ∗ ldb c ∗ wts B c 0 ∗ idle c (ldS 0))
      ⊢ iprop((iprop(owing c t ∗ argB B c ∗ ldb c ∗ wts B c 1536 ∗ idle c (ldS 0)) -∗ WP c k Q)
        -∗ WP c (pLdB ![0 * 384, 0] (hB 0) (hBs 0) <| pLdB ![1 * 384, 0] (hB 1) (hBs 1) <| pLdB ![2 * 384, 0] (hB 2) (hBs 2) <| pLdB ![3 * 384, 0] (hB 3) (hBs 3) k) Q) := by
  iintro ⟨#Hc, HO, HB, Hl, Hw, Hi⟩ Hk
  iapply (wp_pLdB X t 0 rfl) $$ [HO HB Hl Hw Hi]
  · isplitr; · iexact Hc
    isplitl [HO]; · iexact HO
    isplitl [HB]; · iexact HB
    isplitl [Hl]; · iexact Hl
    isplitl [Hw]; · iexact Hw
    iexact Hi
  iintro ⟨HO, HB, Hl, Hw, Hi⟩
  iapply (wp_pLdB X t 1 rfl) $$ [HO HB Hl Hw Hi]
  · isplitr; · iexact Hc
    isplitl [HO]; · iexact HO
    isplitl [HB]; · iexact HB
    isplitl [Hl]; · iexact Hl
    isplitl [Hw]; · iexact Hw
    iexact Hi
  iintro ⟨HO, HB, Hl, Hw, Hi⟩
  iapply (wp_pLdB X t 2 rfl) $$ [HO HB Hl Hw Hi]
  · isplitr; · iexact Hc
    isplitl [HO]; · iexact HO
    isplitl [HB]; · iexact HB
    isplitl [Hl]; · iexact Hl
    isplitl [Hw]; · iexact Hw
    iexact Hi
  iintro ⟨HO, HB, Hl, Hw, Hi⟩
  iapply (wp_pLdB X t 3 rfl) $$ [HO HB Hl Hw Hi]
  · isplitr; · iexact Hc
    isplitl [HO]; · iexact HO
    isplitl [HB]; · iexact HB
    isplitl [Hl]; · iexact Hl
    isplitl [Hw]; · iexact Hw
    iexact Hi
  iintro ⟨HO, HB, Hl, Hw, Hi⟩
  iapply Hk
  isplitl [HO]; · iexact HO
  isplitl [HB]; · iexact HB
  isplitl [Hl]; · iexact Hl
  isplitl [Hw]; · iexact Hw
  iexact Hi

/-- The whole chain. -/
theorem wp_chain :
    iprop(ctx X ∗ owing c 0 ∗ ready c .bar ∗ (pr c rvM (0 : Fin 3) 0 512 anyV ∗ pr c rvM (1 : Fin 3) 0 512 anyV ∗ pr c rvM (2 : Fin 3) 0 512 anyV) ∗ (st0 c 0 ∗ st0 c 1 ∗ st0 c 2) ∗ own0 A B c 0)
      ⊢ iprop((iprop(owing c 39 ∗ done c .bar ∗ (stF X c 0 ∗ stF X c 1 ∗ stF X c 2) ∗ own0 A B c 1536) -∗ Q ⟨⟩) -∗ WP c (chain c) Q) := by
  unfold chain own0
  iintro ⟨#Hc, HO, Hw, ⟨Hr0, Hr1, Hr2⟩, ⟨H0, H1, H2⟩, HA, HB, Hl, Hbb, Hf0, Hf1, Hi, Hi0, Hi1⟩ Hk
  iapply (wp_gBar X) $$ [HO Hw Hr0 Hr1 Hr2 H0 H1 H2]
  · iframe Hc HO Hw Hr0 Hr1 Hr2 H0 H1 H2
  iintro ⟨HO, Hd, H0, H1, H2⟩
  iapply (wp_weights X 3) $$ [HO HB Hl Hbb Hi]
  · iframe Hc HO HB Hl Hbb Hi
  iintro ⟨HO, HB, Hl, Hbb, Hi⟩
  iapply (wp_pFetch 0 (sb 0 c + oH 0 0 c) (oA_s 0 0 c)) $$ [HA Hf0 Hi0]
  · iframe
  iintro Hf
  ihave HC : carry A B c 3 (sb 0 c + oH 0 0 c) $$ [HO Hf Hf1 Hi1 Hbb]
  · unfold carry; iframe
  iapply (wp_pairA X 0 0 1 2 (t := 3) (t' := 5) (g'' := sb 1 c + oH 1 0 c) rfl rfl rfl (oA_s 0 1 c) (oA_s 1 0 c)) $$ [HC H0]
  · iframe Hc HC H0
  iintro ⟨HC, H0⟩
  iapply (wp_pairA X 1 2 3 4 (t := 5) (t' := 7) (g'' := sb 2 c + oH 2 0 c) rfl rfl rfl (oA_s 1 1 c) (oA_s 2 0 c)) $$ [HC H1]
  · iframe Hc HC H1
  iintro ⟨HC, H1⟩
  iapply (wp_pairA X 2 4 5 6 (t := 7) (t' := 9) (g'' := kb 0 c + oH 0 0 c) rfl rfl rfl (oA_s 2 1 c) (oA_k 0 0 c)) $$ [HC H2]
  · iframe Hc HC H2
  iintro ⟨HC, H2⟩
  iapply (wp_pairB X 0 6 7 8 (t := 9) (t' := 11) (g'' := kb 1 c + oH 1 0 c) rfl rfl rfl (oA_k 0 1 c) (oA_k 1 0 c)) $$ [HC H0]
  · iframe Hc HC H0
  iintro ⟨HC, H0⟩
  iapply (wp_pairB X 1 8 9 10 (t := 11) (t' := 13) (g'' := kb 2 c + oH 2 0 c) rfl rfl rfl (oA_k 1 1 c) (oA_k 2 0 c)) $$ [HC H1]
  · iframe Hc HC H1
  iintro ⟨HC, H1⟩
  iapply (wp_pairL X 10 11 rfl (oA_k 2 1 c)) $$ [HC H2]
  · iframe Hc HC H2
  iintro ⟨HO, HA, Hf0, Hf1, Hi0, Hi1, Hbb, H2⟩
  iapply (wp_each X (P := fun t => owing c t) (S := stK1 X c) (S' := stK2 X c) (g := gK1 c) (fun j k => wp_gK1 X j) rfl rfl (a := 15) (b := 21) rfl rfl) $$ [HO H0 H1 H2]
  · iframe Hc HO H0 H1 H2
  iintro ⟨HO, H0, H1, H2⟩
  iapply (wp_each X (P := fun t => owing c t) (S := stK2 X c) (S' := stS0 X c) (g := gK2 c) (fun j k => wp_gK2 X j) rfl rfl (a := 21) (b := 24) rfl rfl) $$ [HO H0 H1 H2]
  · iframe Hc HO H0 H1 H2
  iintro ⟨HO, H0, H1, H2⟩
  iapply (wp_each X (P := fun t => owing c t) (S := stS0 X c) (S' := stR0 X c) (g := gS0 c) (fun j k => wp_gS0 X j) rfl rfl (a := 24) (b := 27) rfl rfl) $$ [HO H0 H1 H2]
  · iframe Hc HO H0 H1 H2
  iintro ⟨HO, H0, H1, H2⟩
  iapply (wp_each X (P := fun t => owing c t) (S := stR0 X c) (S' := stS1 X c) (g := gR0 c) (fun j k => wp_gR0 X j) rfl rfl (a := 27) (b := 30) rfl rfl) $$ [HO H0 H1 H2]
  · iframe Hc HO H0 H1 H2
  iintro ⟨HO, H0, H1, H2⟩
  iapply (wp_each X (P := fun t => owing c t) (S := stS1 X c) (S' := stR1 X c) (g := gS1 c) (fun j k => wp_gS1 X j) rfl rfl (a := 30) (b := 33) rfl rfl) $$ [HO H0 H1 H2]
  · iframe Hc HO H0 H1 H2
  iintro ⟨HO, H0, H1, H2⟩
  iapply (wp_each X (P := fun t => owing c t) (S := stR1 X c) (S' := stS2 X c) (g := gR1 c) (fun j k => wp_gR1 X j) rfl rfl (a := 33) (b := 36) rfl rfl) $$ [HO H0 H1 H2]
  · iframe Hc HO H0 H1 H2
  iintro ⟨HO, H0, H1, H2⟩
  iapply (wp_each X (P := fun t => owing c t) (S := stS2 X c) (S' := stR2 X c) (g := gS2 c) (fun j k => wp_gS2 X j) rfl rfl (a := 36) (b := 39) rfl rfl) $$ [HO H0 H1 H2]
  · iframe Hc HO H0 H1 H2
  iintro ⟨HO, H0, H1, H2⟩
  have hr2 : ∀ (j : Fin 3) (k : Pr F), iprop(ctx X ∗ (owing c 39 ∗ ldb c ∗ idle c (ldS 0)) ∗ stR2 X c j)
      ⊢ iprop((iprop((owing c 39 ∗ ldb c ∗ idle c (ldS 0)) ∗ stE X c j) -∗ WP c k Q) -∗ WP c (gR2 c j k) Q) := by
    intro j k
    iintro ⟨#Hc, ⟨HO, Hl, Hi⟩, HS⟩ Hk
    iapply (wp_gR2 X j) $$ [HO Hl Hi HS]
    · iframe Hc HO HS Hl Hi
    iintro ⟨HO, HS, Hl, Hi⟩
    iapply Hk
    iframe
  iapply (wp_each X (P := fun _ => iprop(owing c 39 ∗ ldb c ∗ idle c (ldS 0))) (S := stR2 X c) (S' := stE X c) (g := gR2 c) (t := fun _ => 0) (t' := fun _ => 0) hr2 rfl rfl (a := 0) (b := 0) rfl rfl) $$ [HO Hl Hi H0 H1 H2]
  · iframe Hc HO Hl Hi H0 H1 H2
  iintro ⟨⟨HO, Hl, Hi⟩, H0, H1, H2⟩
  iapply (wp_gE X 0) $$ [HO H0]
  · iframe Hc HO H0
  iintro ⟨HO, H0⟩
  iapply (wp_gE X 1) $$ [HO H1]
  · iframe Hc HO H1
  iintro ⟨HO, H1⟩
  iapply (wp_gE X 2) $$ [HO H2]
  · iframe Hc HO H2
  iintro ⟨HO, H2⟩
  have hret : (|={Set.univ}=> Q ⟨⟩) ⊢ WP c (.ret ⟨⟩ : Pr F) Q := Entails.of_eq (wp_ret _ _ _ _ _).symm
  iapply hret
  imodintro
  iapply Hk
  iframe

end Steps

end Cert.KernelIdeal.Ring
end
end
-- ==== Proof.KI.Ghost.lean ====
/- What the launch hands out: the tokens of the payments, the semaphores' invariants, and what each device may wait for. -/
module

public import proofs.«01_k».proof.Proof.KI.Body
public import proofs.«01_k».proof.Proof.Gen.KernelIdeal.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx
open Cert.KernelIdeal Cert.KernelIdeal.Gen Cert.Pieces

variable {F : FTy → Type} [FloatOps F]
local notation "𝕄" => MT nD τ sig Unit (Elt F) ℕ UU ℕ
variable {A : Dev nD → S3072x1536.Idx → F .f32} {B : Dev nD → S1536x3072.Idx → F .f32} (X : Spec F A B)

/-- The semaphores the own sends credit. -/
def own : Key → Bool
  | .rsS _ _ => true | .agS _ _ => true | _ => false

theorem own_pk : ∀ t : Fin 39, own (pk t.val) = false := by decide
theorem pk_pd_inj : ∀ t t' : Fin 39, pk t.val = pk t'.val → pd t.val = pd t'.val → t = t' := by decide
theorem dty_own (x : Key) (h : own x = true) : total x = amt x := by cases x <;> first | rfl | cases h

theorem cell_inj {c c' : Dev nD} {x x' : Key} (h : cell c x = cell c' x') : c = c' ∧ x = x' :=
  ⟨congrArg (fun g : GSem nD τ sig => g.1.1) h, loc_inj (congrArg Prod.snd h)⟩

/-! ## The cells, and the tokens by who uses them -/

def ringCells : Finset (GSem nD τ sig) :=
  (Finset.univ : Finset (Dev nD × Key)).map ⟨fun p => cell p.1 p.2, fun p q h => Prod.ext (cell_inj h).1 (cell_inj h).2⟩
/-- A payment's token, -/
def payTok (p : Dev nD × Fin 39) : GSem nD τ sig × ℕ × Fin 3 := (tgt p.1 p.2.val, 0, pd p.2.val)
theorem payTok_inj : Function.Injective payTok := by
  rintro ⟨c, t⟩ ⟨c', t'⟩ h
  have h1 : tgt c t.val = tgt c' t'.val := congrArg Prod.fst h
  have h2 : pd t.val = pd t'.val := congrArg (fun q : GSem nD τ sig × ℕ × Fin 3 => q.2.2) h
  obtain ⟨hc, hk⟩ := cell_inj h1
  have ht := pk_pd_inj t t' hk h2
  subst ht
  have hcc : c = c' := by rw [← bar_axis (px t.val) c, hc, bar_axis]
  rw [hcc]
/-- and an own send's. -/
def sendTok (p : Dev nD × Key) : GSem nD τ sig × ℕ × Fin 3 := (cell p.1 p.2, 0, 0)
theorem sendTok_inj : Function.Injective sendTok := by
  rintro ⟨c, x⟩ ⟨c', x'⟩ h
  obtain ⟨hc, hx⟩ := cell_inj (congrArg Prod.fst h : cell c x = cell c' x')
  exact Prod.ext hc hx
def payToks : Finset (GSem nD τ sig × ℕ × Fin 3) := (Finset.univ : Finset (Dev nD × Fin 39)).map ⟨payTok, payTok_inj⟩
def sendToks : Finset (GSem nD τ sig × ℕ × Fin 3) :=
  ((Finset.univ : Finset (Dev nD × Key)).filter fun p => own p.2 = true).map ⟨sendTok, sendTok_inj⟩
theorem toks_disjoint : Disjoint payToks sendToks := by
  rw [Finset.disjoint_left]
  intro q h1 h2
  obtain ⟨p, -, hp⟩ := Finset.mem_map.mp h1
  obtain ⟨p', hp', h⟩ := Finset.mem_map.mp h2
  have h3 : tgt p.1 p.2.val = cell p'.1 p'.2 := congrArg Prod.fst (hp.trans h.symm)
  have h4 := (cell_inj h3).2
  have h5 := own_pk p.2
  rw [h4, (Finset.mem_filter.mp hp').2] at h5
  cases h5
def ringToks : Finset (GSem nD τ sig × ℕ × Fin 3) := payToks ∪ sendToks

/-- The launch's ghost state. -/
def u₀ : UU := (initOf (Pipeline.cells cfgs cellOf_inj) (Pipeline.launchToks cfgs cellOf_inj), (initOf ringCells ringToks, 1))

/-- The tokens of a device's own sends. -/
def sends (c : Dev nD) : sProp 𝕄 := bigSep Finset.univ fun x : Key => if own x = true then dutyTok ER (cell c x) 0 0 else iprop(emp)

def G (c : Dev nD) : sProp 𝕄 :=
  iprop((bigSep Finset.univ fun x : Key => roundState ER (Rd X) (cell c x) 0)
    ∗ ((bigSep Finset.univ fun x : Key => atPos ER (cell c x) 0 ∅ 0) ∗ (bigSep Finset.univ fun x : Key => reached ER (cell c x) 0)) ∗ toks c 0 ∗ sends c)

omit [FloatOps F] in
theorem toks_zero (c : Dev nD) : (toks c 0 : sProp 𝕄) = bigSep Finset.univ fun t : Fin 39 => dutyTok ER (tgt c t.val) 0 (pd t.val) := by
  unfold toks
  rw [show Finset.Ico 0 T = (Finset.univ : Finset (Fin 39)).map Fin.valEmbedding from by decide, bigSep_map]
  rfl

theorem fund_ring : BI.own (ER (initOf ringCells ringToks)) ⊢ (|==> bigSep Finset.univ (G X) : sProp 𝕄) := by
  have hX (Φ : GSem nD τ sig → sProp 𝕄) : bigSep ringCells Φ = bigSep Finset.univ fun c : Dev nD => bigSep Finset.univ fun x : Key => Φ (cell c x) := by
    unfold ringCells; rw [bigSep_map, bigSep_univ_prod]; rfl
  have hT : bigSep ringToks (fun x => (dutyTok ER x.1 x.2.1 x.2.2 : sProp 𝕄))
      = iprop((bigSep Finset.univ fun c : Dev nD => toks c 0) ∗ bigSep Finset.univ fun c : Dev nD => sends c) := by
    unfold ringToks payToks sendToks
    refine (bigSep_union toks_disjoint).trans ?_
    unfold payToks sendToks
    rw [bigSep_map, bigSep_map, bigSep_univ_prod, bigSep_filter, bigSep_univ_prod]
    exact congrArg₂ BIBase.sep (bigSep_congr fun c _ => (toks_zero c).symm) rfl
  iintro HX
  imod (Rounds.fund ER (Rd X) ringCells ringToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  icases Htok' with ⟨Ht1, Ht2⟩
  unfold G; simp only [bigSep_sep']
  isplitl [Hst']; · iexact Hst'
  isplitl [Hat' Hr']
  · isplitl [Hat'] <;> iassumption
  isplitl [Ht1] <;> iassumption

/-! ## The semaphores -/

omit [FloatOps F] in
theorem forget_last (P Q : sProp 𝕄) : iprop(P ∗ Q ∗ emp) ⊢ iprop(P ∗ Q) := by
  iintro ⟨H1, H2, -⟩; isplitl [H1] <;> iassumption
omit [FloatOps F] in
theorem forget_mid (P Q : sProp 𝕄) : iprop(P ∗ emp ∗ Q) ⊢ iprop(P ∗ Q) := by
  iintro ⟨H1, -, H2⟩; isplitl [H1] <;> iassumption

omit [FloatOps F] in
theorem sep_swap (P Q : sProp 𝕄) : iprop(P ∗ Q) ⊢ iprop(Q ∗ P) := by
  iintro ⟨H1, H2⟩; isplitl [H2] <;> iassumption
omit [FloatOps F] in
theorem forget (P : sProp 𝕄) : P ⊢ iprop(emp) := by
  iintro -; iempintro

/-- The kernel's own semaphores: all but the barrier's. -/
def osem (l : {l : SemLoc sig // l ≠ .reg barS}) : SemLoc sig := l.val

theorem sems_disj : Disjoint ((Finset.univ : Finset Key).map ⟨loc, loc_inj⟩)
    ((Finset.univ : Finset (Fin 4)).image (fun i => SemLoc.dma (ldS i)) ∪ (Finset.univ : Finset (Fin 3)).image (fun i => SemLoc.dma (stS i))) := by
  decide +kernel
theorem sems_disj' : Disjoint ((Finset.univ : Finset (Fin 4)).image (fun i => (SemLoc.dma (ldS i) : SemLoc sig)))
    ((Finset.univ : Finset (Fin 3)).image (fun i => SemLoc.dma (stS i))) := by
  decide +kernel
theorem sems_all : (Finset.univ : Finset (SemLoc sig))
    = (Finset.univ : Finset Key).map ⟨loc, loc_inj⟩ ∪ ((Finset.univ : Finset (Fin 4)).image (fun i => SemLoc.dma (ldS i)) ∪ (Finset.univ : Finset (Fin 3)).image (fun i => SemLoc.dma (stS i))) := by
  decide +kernel

/-- A device's semaphores of its own transfers. -/
def locals (c : Dev nD) : sProp 𝕄 :=
  iprop((idle c (ldS 0) ∗ idle c (ldS 1) ∗ idle c (ldS 2) ∗ idle c (ldS 3)) ∗ (idle c (stS 0) ∗ idle c (stS 1) ∗ idle c (stS 2)))

omit [FloatOps F] in
theorem sems_eq (c : Dev nD) : (iprop(Pipeline.ownSems0 (Ix := Unit) (Name := ℕ) (U := UU) (Lvl := ℕ) (Val := Elt F) (τ := τ) osem c ∗ unscopedSems0 c) : sProp 𝕄)
    = iprop((bigSep Finset.univ fun x : Key => semVal (cell c x) 0) ∗ locals c) := by
  have h1 (Ψ : SemLoc sig → sProp 𝕄) : bigSep Finset.univ (fun k : {l : SemLoc sig // l ≠ .reg barS} => Ψ k.val) = bigSep (Finset.univ.erase (.reg barS)) Ψ := by
    rw [show (Finset.univ.erase (.reg barS) : Finset (SemLoc sig)) = (Finset.univ : Finset {l : SemLoc sig // l ≠ .reg barS}).map (Function.Embedding.subtype _) from by
      ext l; simp only [Finset.mem_erase, Finset.mem_univ, and_true, Finset.mem_map, true_and, Function.Embedding.subtype_apply, Subtype.exists, exists_prop, exists_eq_right], bigSep_map]
    rfl
  have h2 (Ψ : SemLoc sig → sProp 𝕄) : bigSep (Finset.univ.filter fun sm : SemLoc sig => ¬ sm.isScoped .tc) Ψ = Ψ (.reg barS) := by
    rw [show (Finset.univ.filter fun sm : SemLoc sig => ¬ sm.isScoped .tc) = {SemLoc.reg barS} from by decide +kernel, bigSep_singleton]
  have h3 (Ψ : SemLoc sig → sProp 𝕄) : bigSep Finset.univ Ψ = iprop((bigSep Finset.univ fun x : Key => Ψ (loc x))
      ∗ ((Ψ (.dma (ldS 0)) ∗ Ψ (.dma (ldS 1)) ∗ Ψ (.dma (ldS 2)) ∗ Ψ (.dma (ldS 3))) ∗ (Ψ (.dma (stS 0)) ∗ Ψ (.dma (stS 1)) ∗ Ψ (.dma (stS 2))))) := by
    rw [sems_all]
    refine (bigSep_union sems_disj).trans ?_
    rw [bigSep_map, bigSep_union sems_disj', bigSep_eq_bigSepL_of_eq [SemLoc.dma (ldS 0), .dma (ldS 1), .dma (ldS 2), .dma (ldS 3)] (by decide) (by decide),
      bigSep_eq_bigSepL_of_eq [SemLoc.dma (stS 0), .dma (stS 1), .dma (stS 2)] (by decide) (by decide)]
    rfl
  have e1 := h1 fun sm => semVal ((c : Thread nD τ), sm) 0
  have e2 := h2 fun sm => semVal ((c : Thread nD τ), sm) 0
  have e3 := h3 fun sm => semVal ((c : Thread nD τ), sm) 0
  rw [bigSep_univ_at _ (SemLoc.reg barS)] at e3
  unfold locals
  refine Eq.trans ?_ e3
  rw [← e1, ← e2]
  exact BI.equiv_iff.mp ⟨sep_swap _ _, sep_swap _ _⟩

/-! ## The invariants -/

/-- Every cell's invariant, and that its round is open. -/
def known : sProp 𝕄 := bigSep (Finset.univ : Finset (Dev nD × Key)) (fun p => iprop((∃ κ, cellInv ER (Rd X) κ (cell p.1 p.2)) ∗ reached ER (cell p.1 p.2) 0))
instance known_persistent : BI.Persistent (known X) := by unfold known; infer_instance

/-- A device's positions and tokens, and the semaphores of its own transfers. -/
def linear (c : Dev nD) : sProp 𝕄 := iprop((bigSep Finset.univ fun x : Key => atPos ER (cell c x) 0 ∅ 0) ∗ toks c 0 ∗ sends c ∗ locals c)
def G' (c : Dev nD) : sProp 𝕄 := iprop(known X ∗ linear c)

theorem alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun x : Key => iprop((∃ κ, cellInv ER (Rd X) κ (cell c x)) ∗ reached ER (cell c x) 0)) ∗ linear c) := by
  unfold G linear
  iintro ⟨Hs, Hu, Hst, ⟨Hat, Hr⟩, Ht, Hsd⟩
  ihave Hs := (Entails.of_eq (sems_eq c)) $$ [Hs Hu]
  · isplitl [Hs] <;> iassumption
  icases Hs with ⟨Hv, Hl⟩
  imod (show iprop((bigSep Finset.univ fun x : Key => semVal (cell c x) 0) ∗ bigSep Finset.univ fun x : Key => roundState ER (Rd X) (cell c x) 0)
      ⊢ (|={Set.univ}=> bigSep Finset.univ fun x : Key => iprop(∃ κ, cellInv ER (Rd X) κ (cell c x)) : sProp 𝕄) from by
        rw [← bigSep_sep']
        exact (bigSep_mono fun x _ => (Rounds.body_intro ER (Rd X) (cell c x)).trans inv_alloc).trans (bigSep_fupd _ _)) $$ [Hv Hst] with Hinv
  · isplitl [Hv] <;> iassumption
  imodintro
  rw [bigSep_sep']
  isplitl [Hinv Hr]
  · isplitl [Hinv] <;> iassumption
  isplitl [Hat]; · iexact Hat
  isplitl [Ht]; · iexact Ht
  isplitl [Hsd] <;> iassumption

theorem regroup : (bigSep Finset.univ fun c : Dev nD => iprop((bigSep Finset.univ fun x : Key => iprop((∃ κ, cellInv ER (Rd X) κ (cell c x)) ∗ reached ER (cell c x) 0)) ∗ linear c) : sProp 𝕄)
    ⊢ bigSep Finset.univ (G' X) := by
  rw [bigSep_sep', ← bigSep_univ_prod (fun p : Dev nD × Key => iprop((∃ κ, cellInv ER (Rd X) κ (cell p.1 p.2)) ∗ reached ER (cell p.1 p.2) 0))]
  exact bigSep_with_persistent (R := known X) (Φ := linear) (Ψ := G' X) fun c _ => .rfl

theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) := by
  have h1 : (bigSep Finset.univ fun c => iprop(Pipeline.ownSems0 (Ix := Unit) (Name := ℕ) (U := UU) (Lvl := ℕ) (Val := Elt F) (τ := τ) osem c ∗ unscopedSems0 c ∗ G X c) : sProp 𝕄)
      ⊢ |={Set.univ}=> _ := (bigSep_mono fun c _ => alloc X c).trans (bigSep_fupd _ _)
  iintro H
  imod h1 $$ H with H
  imodintro
  iapply (regroup X) $$ H

/-! ## What is owed to a device at the start -/

/-- Every duty begins owed. -/
def O₀ (c : Dev nD) : CellTallies nD τ sig Unit := owedFrom c 0

theorem paid_card : ∀ x, own x = false → ((Finset.Ico 0 T).filter fun t => pk t = x).card * amt x = total x := by
  have h : ∀ x, own x = false → ((Finset.Ico 0 T).filter fun t => pk t = x).card = if x = .bar then 3 else 1 := by decide +kernel
  intro x hx
  rw [h x hx]
  cases x <;> simp [total, amt]

theorem owed_sum (c : Dev nD) (x : Key) (hx : own x = false) : ∑ d, O₀ d (cell c x) () = total x := by
  have h1 (d : Dev nD) : O₀ d (cell c x) () = ∑ t ∈ Finset.Ico 0 T, if pk t = x then (if d = partner (px t) c then amt x else 0) else 0 := by
    unfold O₀ owedFrom
    rw [Finset.sum_apply, Finsupp.finset_sum_apply]
    refine Finset.sum_congr rfl fun t _ => ?_
    rw [tallyAt_apply]
    by_cases h : cell c x = tgt d t
    · obtain ⟨h2, h3⟩ := cell_inj h
      rw [if_pos ⟨h, rfl⟩, if_pos h3.symm, if_pos (by rw [h2, bar_axis]), h3]
    · rw [if_neg (fun h' => h h'.1)]
      by_cases h3 : pk t = x
      · rw [if_pos h3, if_neg]
        intro h2
        exact h (by unfold tgt; rw [h2, bar_axis, h3])
      · rw [if_neg h3]
  rw [Finset.sum_congr rfl fun d _ => h1 d, Finset.sum_comm, ← paid_card x hx, ← smul_eq_mul, ← Finset.sum_const, Finset.sum_filter]
  refine Finset.sum_congr rfl fun t _ => ?_
  by_cases h3 : pk t = x
  · simp only [if_pos h3]
    rw [Finset.sum_ite_eq' Finset.univ (partner (px t) c) fun _ => amt x, if_pos (Finset.mem_univ _)]
  · simp only [if_neg h3, Finset.sum_const_zero]

theorem launch_cred (c : Dev nD) (x : Key) (hx : own x = false) :
    tallyOn (cell c x) (launchCredit (Pipeline.owing O₀) 0 (cell c x)) = (tallyAt (cell c x) () (total x) : CellTallies nD τ sig Unit) := by
  unfold tallyAt; refine congrArg _ (Finsupp.ext fun u => ?_); cases u
  rw [Pipeline.launchCredit_owing, Finsupp.single_eq_same, owed_sum c x hx]

/-- What a device may wait for. -/
def creds (c : Dev nD) : sProp 𝕄 := bigSep Finset.univ fun x : Key => if own x = true then iprop(emp) else cred (tallyAt (cell c x) () (total x))

omit [FloatOps F] in
theorem creds_intro (c : Dev nD) : (Pipeline.launchCred O₀ c : sProp 𝕄) ⊢ creds c := by
  unfold Pipeline.launchCred creds
  refine (BI.bigSep_subset (Finset.subset_univ ((Finset.univ : Finset Key).map ⟨loc, loc_inj⟩))).trans ?_
  rw [bigSep_map]
  refine bigSep_mono fun x _ => ?_
  cases hx : own x with
  | true => rw [if_pos rfl]; exact forget _
  | false => rw [if_neg (by decide)]; exact Entails.of_eq (congrArg cred (launch_cred c x hx))

/-! ## A semaphore at the start -/

/-- What a device holds of a key at the start: about to be waited for, or about to be credited by an own send. -/
def first (c : Dev nD) (x : Key) : sProp 𝕄 := if own x = true then fresh c x else ready c x

omit [FloatOps F] in
theorem first_intro (c : Dev nD) :
    iprop((bigSep Finset.univ fun x : Key => atPos ER (cell c x) 0 ∅ 0) ∗ sends c ∗ creds c) ⊢ (bigSep Finset.univ fun x : Key => first c x : sProp 𝕄) := by
  unfold sends creds
  rw [← bigSep_sep', ← bigSep_sep']
  refine bigSep_mono fun x _ => ?_
  unfold first fresh ready
  cases own x with
  | true =>
    rw [if_pos rfl, if_pos rfl, if_pos rfl]
    exact forget_last _ _
  | false =>
    rw [if_neg (by decide), if_neg (by decide), if_neg (by decide)]
    exact forget_mid _ _

/-- The keys of slab `j`. -/
def keysOf (j : Fin 3) : List Key :=
  [.cr j 0, .cr j 1, .cr j 2, .cr j 3, .cr j 4, .rsS j 0, .rsS j 1, .rsS j 2, .rsS j 3, .rsR j 0, .rsR j 1, .rsR j 2, .rsR j 3,
   .agS j 0, .agS j 1, .agS j 2, .agR j 0, .agR j 1, .agR j 2]

omit [FloatOps F] in
/-- Every key's share, named one by one. -/
theorem keys_eq (Φ : Key → sProp 𝕄) : bigSep Finset.univ Φ = iprop(Φ .bar ∗ bigSepL (keysOf 0) Φ ∗ bigSepL (keysOf 1) Φ ∗ bigSepL (keysOf 2) Φ) := by
  rw [bigSep_univ_eq_bigSepL (.bar :: (keysOf 0 ++ (keysOf 1 ++ keysOf 2))) (by decide +kernel) (by decide +kernel)]
  have happ (l l' : List Key) : bigSepL (l ++ l') Φ = iprop(bigSepL l Φ ∗ bigSepL l' Φ) := by
    induction l with
    | nil => exact (emp_sep_eq _).symm
    | cons a l ih =>
      rw [List.cons_append, bigSepL_cons, bigSepL_cons, ih]
      exact BI.equiv_iff.mp ⟨BI.sep_assoc', BI.sep_assoc⟩
  rw [← happ, ← happ]
  exact bigSepL_cons _ _ _

end Cert.KernelIdeal.Ring
end
end
-- ==== Proof.KI.BodyEq.lean ====
/- The printed body is the chain of steps. -/
module

public import proofs.«01_k».proof.Proof.KI.Body0

@[expose] public section

noncomputable section

namespace Cert.KernelIdeal.Ring

open Idealize.ShloMosaic Idealize.ShloMosaic.TcCoe
open Idealize.SL.Sem
open Cert.KernelIdeal Cert.KernelIdeal.Gen

variable {F : FTy → Type} [FloatOps F]

/-- The printed body reads the device's name and goes on as the chain of steps. -/
theorem body_eq_chain :
    (cc0__body (F := F) aM (Memref.isWhole_whole _) bM (Memref.isWhole_whole _) oM (Memref.isWhole_whole _) stM (Memref.isWhole_whole _) sbM (Memref.isWhole_whole _) rvM (Memref.isWhole_whole _) bbM (Memref.isWhole_whole _) bsM (Memref.isWhole_whole _) asM (Memref.isWhole_whole _) cc0_scratch6 cc0_scratch7 cc0_scratch8 cc0_scratch9 cc0_scratch10 cc0_scratch11 cc0_scratch12)
      = .op .deviceId (fun c => chain c) := rfl

end Cert.KernelIdeal.Ring
end
end
-- ==== Proof.KI.Launch.lean ====
/- The whole kernel run on every device: what it starts from, what it ends with, and that every run ends so. -/
module

public import proofs.«01_k».proof.Proof.KI.Ghost
public import proofs.«01_k».proof.Proof.KI.BodyEq
public import Idealize.ShloMosaic.Lib.Pipeline.CollectiveSegs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx
open Idealize.ShloMosaic.Pipeline (Dat BodyObligation)
open Cert.KernelIdeal Cert.KernelIdeal.Gen Cert.Pieces

variable {F : FTy → Type} [FloatOps F]
local notation "𝕄" => MT nD τ sig Unit (Elt F) ℕ UU ℕ

/-! ## Whole buffers and their pieces -/

/-- A whole buffer as a piece, -/
theorem pc_whole (c : Dev nD) (b : Ref sig .tc) (P : b.ty.shape.Idx → Elt F b.ty.elt → Prop) (f : Buf (Elt F) ((c : Thread nD τ).loc b)) (h : ∀ i, P i (f i)) :
    (((c : Thread nD τ).loc b) ↦{fullShare} f) ⊢ (pc c (Memref.whole b) Finset.univ P : sProp 𝕄) := by
  have := pc_of_pointsTo (U := UU) (c := c) (m := Memref.whole b) (S := Finset.univ) (P := P) (f := f) fun i _ => h i
  rwa [View.setOn_univ, View.set_whole] at this
/-- and back. -/
theorem whole_pc (c : Dev nD) (b : Ref sig .tc) (P : b.ty.shape.Idx → Elt F b.ty.elt → Prop) :
    (pc c (Memref.whole b) Finset.univ P : sProp 𝕄) ⊢ iprop(∃ f : Buf (Elt F) ((c : Thread nD τ).loc b), ⌜∀ i, P i (f i)⌝ ∗ (((c : Thread nD τ).loc b) ↦{fullShare} f)) := by
  unfold pc
  rw [View.setOn_univ, View.set_whole]
  iintro ⟨%f, %hf, H⟩
  iexists f
  isplitr
  · ipureintro; exact fun i => hf i (Finset.mem_univ i)
  · iexact H

theorem rows_univ : (Finset.univ : Finset S3x512x3072.Idx) = rows 0 0 512 ∪ (rows 1 0 512 ∪ rows 2 0 512) := by
  ext i
  have h0 : (i (0 : Fin 3)).val < 3 := (i (0 : Fin 3)).isLt
  have h1 : (i (1 : Fin 3)).val < 512 := (i (1 : Fin 3)).isLt
  simp only [Finset.mem_univ, Finset.mem_union, mem_rows, true_iff]; omega
theorem rows_disj {j j' r n r' n' : ℕ} (h : j ≠ j') : Disjoint (rows j r n) (rows j' r' n') := by
  rw [Finset.disjoint_left]; intro i; simp only [mem_rows]; omega
theorem rows_disj' : Disjoint (rows 0 0 512) (rows 1 0 512 ∪ rows 2 0 512) :=
  Finset.disjoint_union_right.mpr ⟨rows_disj (by decide), rows_disj (by decide)⟩

/-- The three slabs of a buffer, apart and together. -/
theorem slabs_split {e : EltTy} (c : Dev nD) (m : Memref sig .tc .vmem S3x512x3072 e) :
    (pc c m Finset.univ (fun _ _ => True) : sProp 𝕄) ⊢ iprop(pr c m (0 : Fin 3) 0 512 anyV ∗ pr c m (1 : Fin 3) 0 512 anyV ∗ pr c m (2 : Fin 3) 0 512 anyV) := by
  rw [rows_univ]
  exact (pc_split rows_disj').trans (sep_mono_right (pc_split (rows_disj (by decide))))
theorem slabs_join {e : EltTy} (c : Dev nD) (m : Memref sig .tc .vmem S3x512x3072 e) :
    iprop(pr c m (0 : Fin 3) 0 512 anyV ∗ pr c m (1 : Fin 3) 0 512 anyV ∗ pr c m (2 : Fin 3) 0 512 anyV) ⊢ (pc c m Finset.univ (fun _ _ => True) : sProp 𝕄) := by
  rw [rows_univ]
  exact (sep_mono_right (pc_join (rows_disj (by decide)))).trans (pc_join rows_disj')

theorem kept_sent : ∀ (j : Fin 3) (c : Dev nD), (kept j c = 0 ∧ sent j c = 512) ∨ (kept j c = 512 ∧ sent j c = 0) := by decide
theorem mem_outS {g n : ℕ} {i : S3072x3072.Idx} : i ∈ outS g n ↔ g ≤ (i (0 : Fin 2)).val ∧ (i (0 : Fin 2)).val < g + n := by simp [outS]
theorem outS_slab (j : Fin 3) (c : Dev nD) : outS (j.val * 1024) 1024 = outS (kb j c) 512 ∪ (outS (sb j c) 256 ∪ outS (sb j c + 256) 256) := by
  ext i
  unfold kb sb
  simp only [Finset.mem_union, mem_outS]
  rcases kept_sent j c with ⟨h, h'⟩ | ⟨h, h'⟩ <;> rw [h, h'] <;> omega
theorem outS_disj {g n g' n' : ℕ} (h : g + n ≤ g' ∨ g' + n' ≤ g) : Disjoint (outS g n) (outS g' n') := by
  rw [Finset.disjoint_left]; intro i; simp only [mem_outS]; omega
theorem outS_slab_disj (j : Fin 3) (c : Dev nD) : Disjoint (outS (kb j c) 512) (outS (sb j c) 256 ∪ outS (sb j c + 256) 256) := by
  unfold kb sb
  refine Finset.disjoint_union_right.mpr ⟨outS_disj ?_, outS_disj ?_⟩ <;>
    rcases kept_sent j c with ⟨h, h'⟩ | ⟨h, h'⟩ <;> rw [h, h'] <;> omega
theorem outS_univ : (Finset.univ : Finset S3072x3072.Idx) = outS ((0 : Fin 3).val * 1024) 1024 ∪ (outS ((1 : Fin 3).val * 1024) 1024 ∪ outS ((2 : Fin 3).val * 1024) 1024) := by
  ext i
  have h0 : (i (0 : Fin 2)).val < 3072 := (i (0 : Fin 2)).isLt
  simp only [Finset.mem_univ, Finset.mem_union, mem_outS, true_iff]
  show _ ∨ _ ∨ _
  simp; omega
theorem outS_univ_disj : Disjoint (outS ((0 : Fin 3).val * 1024) 1024) (outS ((1 : Fin 3).val * 1024) 1024 ∪ outS ((2 : Fin 3).val * 1024) 1024) :=
  Finset.disjoint_union_right.mpr ⟨outS_disj (by decide), outS_disj (by decide)⟩

/-- The parts of the result that the three stores of a slab write, -/
abbrev outParts (c : Dev nD) (P : S3072x3072.Idx → Elt F .f32 → Prop) (j : Fin 3) : sProp 𝕄 :=
  iprop(pc c oM (outS (kb j c) 512) P ∗ pc c oM (outS (sb j c) 256) P ∗ pc c oM (outS (sb j c + 256) 256) P)
/-- apart and together. -/
theorem out_split (c : Dev nD) (P : S3072x3072.Idx → Elt F .f32 → Prop) :
    (pc c oM Finset.univ P : sProp 𝕄) ⊢ iprop(outParts c P 0 ∗ outParts c P 1 ∗ outParts c P 2) := by
  have h (j : Fin 3) : (pc c oM (outS (j.val * 1024) 1024) P : sProp 𝕄) ⊢ outParts c P j := by
    rw [outS_slab j c]
    exact (pc_split (outS_slab_disj j c)).trans (sep_mono_right (pc_split (outS_disj (.inl (Nat.le_refl _)))))
  rw [outS_univ]
  exact (pc_split outS_univ_disj).trans (BIClass.sep_mono (h 0) ((pc_split (outS_disj (.inl (by decide)))).trans (BIClass.sep_mono (h 1) (h 2))))
theorem out_join (c : Dev nD) (P : S3072x3072.Idx → Elt F .f32 → Prop) :
    iprop(outParts c P 0 ∗ outParts c P 1 ∗ outParts c P 2) ⊢ (pc c oM Finset.univ P : sProp 𝕄) := by
  have h (j : Fin 3) : outParts c P j ⊢ (pc c oM (outS (j.val * 1024) 1024) P : sProp 𝕄) := by
    rw [outS_slab j c]
    exact (sep_mono_right (pc_join (outS_disj (.inl (Nat.le_refl _))))).trans (pc_join (outS_slab_disj j c))
  rw [outS_univ]
  exact (BIClass.sep_mono (h 0) ((BIClass.sep_mono (h 1) (h 2)).trans (pc_join (outS_disj (.inl (by decide)))))).trans (pc_join outS_univ_disj)

theorem slots_univ : (Finset.univ : Finset S2x256x1536.Idx) = (slotR 0).set ∪ (slotR 1).set := by
  ext i
  have h0 : (i (0 : Fin 3)).val < 2 := (i (0 : Fin 3)).isLt
  have h1 : (i (1 : Fin 3)).val < 256 := (i (1 : Fin 3)).isLt
  have h2 : (i (2 : Fin 3)).val < 1536 := (i (2 : Fin 3)).isLt
  simp only [Finset.mem_univ, Finset.mem_union, Rect.mem_set_unit, true_iff]
  rcases (by omega : (i (0 : Fin 3)).val = 0 ∨ (i (0 : Fin 3)).val = 1) with h | h
  · refine .inl fun a => ?_
    fin_cases a <;> simp <;> omega
  · refine .inr fun a => ?_
    fin_cases a <;> simp <;> omega
theorem slots_disj : Disjoint (slotR 0).set (slotR 1).set := by
  rw [Finset.disjoint_left]
  intro i h h'
  rw [Rect.mem_set_unit] at h h'
  have h := h (0 : Fin 3)
  have h' := h' (0 : Fin 3)
  simp at h h'
  omega

/-! ## What the body starts from and ends with -/

variable (m : (ℓ : Loc nD τ sig) → Buf (Elt F) ℓ) (ρ : Dev nD → PrngReg)
/-- The arguments. -/
def argAt0 (c : Dev nD) : S3072x1536.Idx → F .f32 := m ((c : Thread nD τ).loc main_arg0)
def argAt1 (c : Dev nD) : S1536x3072.Idx → F .f32 := m ((c : Thread nD τ).loc main_arg1)
variable (X : Spec F (argAt0 m) (argAt1 m))

/-- The scratch buffers, whatever they hold. -/
abbrev scr (c : Dev nD) (b : Ref sig .tc) : sProp 𝕄 := iprop(∃ f : Buf (Elt F) ((c : Thread nD τ).loc b), ((c : Thread nD τ).loc b) ↦{fullShare} f)
def scratch (c : Dev nD) : sProp 𝕄 := iprop(scr c cc0_scratch0 ∗ scr c cc0_scratch1 ∗ scr c cc0_scratch2 ∗ scr c cc0_scratch3 ∗ scr c cc0_scratch4 ∗ scr c cc0_scratch5)
/-- The arguments held. -/
def args (c : Dev nD) : sProp 𝕄 :=
  iprop((((c : Thread nD τ).loc main_arg0) ↦{fullShare} m ((c : Thread nD τ).loc main_arg0)) ∗ (((c : Thread nD τ).loc main_arg1) ↦{fullShare} m ((c : Thread nD τ).loc main_arg1)))
/-- The result, as the kernel leaves it. -/
def result (c : Dev nD) : sProp 𝕄 :=
  iprop(∃ f : Buf (Elt F) ((c : Thread nD τ).loc main_v1), ⌜∀ i : S3072x3072.Idx, X.f Finset.univ (i (0 : Fin 2)).val (i (1 : Fin 2)).val (f i)⌝ ∗ (((c : Thread nD τ).loc main_v1) ↦{fullShare} f))

def start (c : Dev nD) : sProp 𝕄 :=
  iprop(ctx X ∗ toks c 0 ∗ (bigSep Finset.univ fun x : Key => first c x) ∗ locals c ∗ args m c ∗ scr c main_v1)
def Φ₀ (c : Dev nD) : sProp 𝕄 := iprop(start m X c ∗ scratch c)
def Φ₁ (c : Dev nD) : sProp 𝕄 :=
  iprop(((bigSep Finset.univ fun x : Key => semVal (cell c x) 0) ∗ locals c) ∗ args m c ∗ result m X c ∗ scratch c)

theorem slab_first (c : Dev nD) (j : Fin 3) :
    iprop(bigSepL (keysOf j) (first c) ∗ outParts c (fun _ _ => True) j ∗ idle c (stS j)) ⊢ (NA c j : sProp 𝕄) := by
  have e : (bigSepL (keysOf j) (first c) : sProp 𝕄) = iprop(ready c (.cr j 0) ∗ ready c (.cr j 1) ∗ ready c (.cr j 2) ∗ ready c (.cr j 3) ∗ ready c (.cr j 4)
      ∗ fresh c (.rsS j 0) ∗ fresh c (.rsS j 1) ∗ fresh c (.rsS j 2) ∗ fresh c (.rsS j 3) ∗ ready c (.rsR j 0) ∗ ready c (.rsR j 1) ∗ ready c (.rsR j 2) ∗ ready c (.rsR j 3)
      ∗ fresh c (.agS j 0) ∗ fresh c (.agS j 1) ∗ fresh c (.agS j 2) ∗ ready c (.agR j 0) ∗ ready c (.agR j 1) ∗ ready c (.agR j 2)) := rfl
  rw [e]
  unfold NA NB NC NK1 NK2 N0 N1 N2 outAny
  iintro ⟨⟨c0, c1, c2, c3, c4, s0, s1, s2, s3, r0, r1, r2, r3, a0, a1, a2, b0, b1, b2⟩, ⟨o0, o1, o2⟩, i0⟩
  iframe
theorem slab_last (c : Dev nD) (j : Fin 3) : (DR2 c j : sProp 𝕄) ⊢ bigSepL (keysOf j) (fun x => semVal (cell c x) 0) := by
  have e : (bigSepL (keysOf j) (fun x => semVal (cell c x) 0) : sProp 𝕄) = iprop(done c (.cr j 0) ∗ done c (.cr j 1) ∗ done c (.cr j 2) ∗ done c (.cr j 3) ∗ done c (.cr j 4)
      ∗ done c (.rsS j 0) ∗ done c (.rsS j 1) ∗ done c (.rsS j 2) ∗ done c (.rsS j 3) ∗ done c (.rsR j 0) ∗ done c (.rsR j 1) ∗ done c (.rsR j 2) ∗ done c (.rsR j 3)
      ∗ done c (.agS j 0) ∗ done c (.agS j 1) ∗ done c (.agS j 2) ∗ done c (.agR j 0) ∗ done c (.agR j 1) ∗ done c (.agR j 2)) := rfl
  rw [e]
  unfold DR2 DS2 DR1 DS1 DR0 DS0 DK2 DK1 DC DB
  iintro ⟨b2, a2, c4, b1, a1, c3, b0, a0, c2, r2, s2, r1, s1, c1, r3, r0, s0, s3, c0⟩
  isplitl [c0]; · iexact c0
  isplitl [c1]; · iexact c1
  isplitl [c2]; · iexact c2
  isplitl [c3]; · iexact c3
  isplitl [c4]; · iexact c4
  isplitl [s0]; · iexact s0
  isplitl [s1]; · iexact s1
  isplitl [s2]; · iexact s2
  isplitl [s3]; · iexact s3
  isplitl [r0]; · iexact r0
  isplitl [r1]; · iexact r1
  isplitl [r2]; · iexact r2
  isplitl [r3]; · iexact r3
  isplitl [a0]; · iexact a0
  isplitl [a1]; · iexact a1
  isplitl [a2]; · iexact a2
  isplitl [b0]; · iexact b0
  isplitl [b1]; · iexact b1
  iexact b2

theorem slab_start (c : Dev nD) (j : Fin 3) :
    iprop(pr c stM j 0 512 anyV ∗ pr c sbM j 0 512 anyV ∗ bigSepL (keysOf j) (first c) ∗ outParts c (fun _ _ => True) j ∗ idle c (stS j)) ⊢ (st0 c j : sProp 𝕄) := by
  unfold st0
  iintro ⟨Hst, Hsb, H⟩
  ihave Hst := (halves (c := c) j) $$ Hst
  icases Hst with ⟨t0, t1⟩
  ihave Hsb := (halves (c := c) j) $$ Hsb
  icases Hsb with ⟨b0, b1⟩
  isplitl [t0]; · iexact t0
  isplitl [t1]; · iexact t1
  isplitl [b0]; · iexact b0
  isplitl [b1]; · iexact b1
  iapply (slab_first c j) $$ H

/-- A scratch buffer as a piece, of which nothing is said; and back. -/
theorem scr_pc (c : Dev nD) (b : Ref sig .tc) : scr c b ⊢ (pc c (Memref.whole b) Finset.univ (fun _ _ => True) : sProp 𝕄) := by
  iintro ⟨%f, H⟩
  iapply (pc_whole c b (fun _ _ => True) f fun _ => trivial) $$ H
theorem pc_scr (c : Dev nD) (b : Ref sig .tc) {P : b.ty.shape.Idx → Elt F b.ty.elt → Prop} : (pc c (Memref.whole b) Finset.univ P : sProp 𝕄) ⊢ scr c b := by
  iintro H
  ihave H := (whole_pc c b P) $$ H
  icases H with ⟨%f, -, H⟩
  iexists f
  iexact H

theorem free_split (c : Dev nD) : scr c cc0_scratch5 ⊢ (iprop(free c 0 ∗ free c 1) : sProp 𝕄) := by
  refine (scr_pc c cc0_scratch5).trans ?_
  unfold free
  have h := pc_split (Val := Elt F) (U := UU) (τ := τ) (c := c) (m := asM) (P := fun _ _ => True) slots_disj
  rw [← slots_univ] at h
  exact h
theorem free_join (c : Dev nD) : (iprop(free c 0 ∗ free c 1) : sProp 𝕄) ⊢ scr c cc0_scratch5 := by
  refine BIBase.Entails.trans ?_ (pc_scr c cc0_scratch5 (P := fun _ _ => True))
  unfold free
  have h := pc_join (Val := Elt F) (U := UU) (τ := τ) (c := c) (m := asM) (P := fun _ _ => True) slots_disj
  rw [← slots_univ] at h
  exact h

theorem argA_intro (c : Dev nD) : (((c : Thread nD τ).loc main_arg0) ↦{fullShare} m ((c : Thread nD τ).loc main_arg0)) ⊢ (argA (argAt0 m) c : sProp 𝕄) :=
  pc_whole c main_arg0 (fun i v => v = argAt0 m c i) _ fun _ => rfl
theorem argB_intro (c : Dev nD) : (((c : Thread nD τ).loc main_arg1) ↦{fullShare} m ((c : Thread nD τ).loc main_arg1)) ⊢ (argB (argAt1 m) c : sProp 𝕄) :=
  pc_whole c main_arg1 (fun i v => v = argAt1 m c i) _ fun _ => rfl

theorem start_own (c : Dev nD) :
    iprop(args m c ∗ scr c cc0_scratch3 ∗ scr c cc0_scratch4 ∗ scr c cc0_scratch5 ∗ idle c (ldS 0) ∗ idle c (ldS 2) ∗ idle c (ldS 3)) ⊢ own0 (argAt0 m) (argAt1 m) c 0 := by
  unfold own0 args ldb wts
  iintro ⟨⟨HA, HB⟩, H3, H4, H5, l0, l2, l3⟩
  ihave H5 := (free_split c) $$ H5
  icases H5 with ⟨f0, f1⟩
  isplitl [HA]
  · iapply (argA_intro m c) $$ HA
  isplitl [HB]
  · iapply (argB_intro m c) $$ HB
  isplitl [H4]
  · iapply (scr_pc c cc0_scratch4) $$ H4
  isplitl [H3]
  · ihave H3 := (scr_pc c cc0_scratch3) $$ H3
    iapply (pc_mono fun i _ v _ h => absurd h (Nat.not_lt_zero _)) $$ H3
  isplitl [f0]; · iexact f0
  isplitl [f1]; · iexact f1
  isplitl [l0]; · iexact l0
  isplitl [l2]; · iexact l2
  iexact l3

theorem arg_back (c : Dev nD) (b : Ref sig .tc) :
    (pc c (Memref.whole b) Finset.univ (fun i v => v = m ((c : Thread nD τ).loc b) i) : sProp 𝕄) ⊢ (((c : Thread nD τ).loc b) ↦{fullShare} m ((c : Thread nD τ).loc b)) := by
  iintro H
  ihave H := (whole_pc c b _) $$ H
  icases H with ⟨%f, %hf, H⟩
  have e : f = m ((c : Thread nD τ).loc b) := funext hf
  rw [← e]
  iexact H

theorem argA_elim (c : Dev nD) : argA (argAt0 m) c ⊢ (((c : Thread nD τ).loc main_arg0) ↦{fullShare} m ((c : Thread nD τ).loc main_arg0) : sProp 𝕄) := arg_back m c main_arg0
theorem argB_elim (c : Dev nD) : argB (argAt1 m) c ⊢ (((c : Thread nD τ).loc main_arg1) ↦{fullShare} m ((c : Thread nD τ).loc main_arg1) : sProp 𝕄) := arg_back m c main_arg1

theorem end_own (c : Dev nD) :
    own0 (argAt0 m) (argAt1 m) c 1536 ⊢ iprop(args m c ∗ scr c cc0_scratch3 ∗ scr c cc0_scratch4 ∗ scr c cc0_scratch5 ∗ idle c (ldS 0) ∗ idle c (ldS 2) ∗ idle c (ldS 3)) := by
  unfold own0 args ldb wts
  iintro ⟨HA, HB, H4, H3, f0, f1, l0, l2, l3⟩
  isplitl [HA HB]
  · isplitl [HA]
    · iapply (argA_elim m c) $$ HA
    · iapply (argB_elim m c) $$ HB
  isplitl [H3]
  · iapply (pc_scr c cc0_scratch3) $$ H3
  isplitl [H4]
  · iapply (pc_scr c cc0_scratch4) $$ H4
  isplitl [f0 f1]
  · iapply (free_join c)
    isplitl [f0] <;> iassumption
  isplitl [l0]; · iexact l0
  isplitl [l2]; · iexact l2
  iexact l3

/-- What the chain of steps starts from, apart from what is owed. -/
def pre (c : Dev nD) : sProp 𝕄 := iprop(ready c .bar ∗ (pr c rvM (0 : Fin 3) 0 512 anyV ∗ pr c rvM (1 : Fin 3) 0 512 anyV ∗ pr c rvM (2 : Fin 3) 0 512 anyV) ∗ (st0 c 0 ∗ st0 c 1 ∗ st0 c 2) ∗ own0 (argAt0 m) (argAt1 m) c 0)
/-- What it ends with. -/
def post (c : Dev nD) : sProp 𝕄 := iprop(done c .bar ∗ (stF X c 0 ∗ stF X c 1 ∗ stF X c 2) ∗ own0 (argAt0 m) (argAt1 m) c 1536)

theorem pre_intro (c : Dev nD) :
    iprop((bigSep Finset.univ fun x : Key => first c x) ∗ locals c ∗ args m c ∗ scr c main_v1 ∗ scratch c) ⊢ iprop(pre m c ∗ idle c (ldS 1)) := by
  unfold locals scratch pre
  rw [keys_eq]
  iintro ⟨⟨Hb, k0, k1, k2⟩, ⟨⟨l0, l1, l2, l3⟩, ⟨s0, s1, s2⟩⟩, HA, Ho, H0, H1, H2, H3, H4, H5⟩
  ihave H0 := ((scr_pc c cc0_scratch0).trans (slabs_split c stM)) $$ H0
  icases H0 with ⟨t0, t1, t2⟩
  ihave H1 := ((scr_pc c cc0_scratch1).trans (slabs_split c sbM)) $$ H1
  icases H1 with ⟨b0, b1, b2⟩
  ihave H2 := ((scr_pc c cc0_scratch2).trans (slabs_split c rvM)) $$ H2
  ihave Ho := ((scr_pc c main_v1).trans (out_split c _)) $$ Ho
  icases Ho with ⟨o0, o1, o2⟩
  isplitr [l1]
  · isplitl [Hb]
    · iapply (Entails.of_eq (show first c Key.bar = ready c Key.bar from rfl)) $$ Hb
    isplitl [H2]; · iexact H2
    isplitr [HA H3 H4 H5 l0 l2 l3]
    · isplitl [t0 b0 k0 o0 s0]
      · iapply (slab_start c 0)
        isplitl [t0]; · iexact t0
        isplitl [b0]; · iexact b0
        isplitl [k0]; · iexact k0
        isplitl [o0]; · iexact o0
        iexact s0
      isplitl [t1 b1 k1 o1 s1]
      · iapply (slab_start c 1)
        isplitl [t1]; · iexact t1
        isplitl [b1]; · iexact b1
        isplitl [k1]; · iexact k1
        isplitl [o1]; · iexact o1
        iexact s1
      · iapply (slab_start c 2)
        isplitl [t2]; · iexact t2
        isplitl [b2]; · iexact b2
        isplitl [k2]; · iexact k2
        isplitl [o2]; · iexact o2
        iexact s2
    · iapply (start_own m c)
      isplitl [HA]; · iexact HA
      isplitl [H3]; · iexact H3
      isplitl [H4]; · iexact H4
      isplitl [H5]; · iexact H5
      isplitl [l0]; · iexact l0
      isplitl [l2]; · iexact l2
      iexact l3
  · iexact l1

/-- The claim of the result. -/
abbrev outV : S3072x3072.Idx → Elt F .f32 → Prop := fun i v => X.f Finset.univ (i (0 : Fin 2)).val (i (1 : Fin 2)).val v

theorem slab_end (c : Dev nD) (j : Fin 3) :
    stF X c j ⊢ iprop(idle c (stS j) ∗ outParts c (outV m X) j ∗ pr c stM j 0 512 anyV ∗ pr c sbM j 0 512 anyV ∗ pr c rvM j 0 512 anyV ∗ bigSepL (keysOf j) (fun x => semVal (cell c x) 0)) := by
  unfold stF outF
  iintro ⟨H1, o0, o1, o2, H2, H3, H4, H5⟩
  isplitl [H1]; · iexact H1
  isplitl [o0 o1 o2]
  · isplitl [o0]; · iexact o0
    isplitl [o1]; · iexact o1
    iexact o2
  isplitl [H2]; · iexact H2
  isplitl [H3]; · iexact H3
  isplitl [H4]; · iexact H4
  iapply (slab_last c j) $$ H5

theorem result_intro (c : Dev nD) : (pc c oM Finset.univ (outV m X) : sProp 𝕄) ⊢ result m X c := whole_pc c main_v1 (outV m X)

theorem post_elim (c : Dev nD) : iprop(post m X c ∗ idle c (ldS 1)) ⊢ Φ₁ m X c := by
  unfold Φ₁ locals scratch post
  rw [keys_eq]
  iintro ⟨⟨Hb, ⟨F0, F1, F2⟩, Hown⟩, l1⟩
  ihave F0 := (slab_end m X c 0) $$ F0
  icases F0 with ⟨s0, o0, t0, b0, r0, k0⟩
  ihave F1 := (slab_end m X c 1) $$ F1
  icases F1 with ⟨s1, o1, t1, b1, r1, k1⟩
  ihave F2 := (slab_end m X c 2) $$ F2
  icases F2 with ⟨s2, o2, t2, b2, r2, k2⟩
  ihave Hown := (end_own m c) $$ Hown
  icases Hown with ⟨HA, H3, H4, H5, l0, l2, l3⟩
  isplitl [Hb k0 k1 k2 l0 l1 l2 l3 s0 s1 s2]
  · isplitl [Hb k0 k1 k2]
    · isplitl [Hb]; · iexact Hb
      isplitl [k0]; · iexact k0
      isplitl [k1] <;> iassumption
    isplitl [l0 l1 l2 l3]
    · isplitl [l0]; · iexact l0
      isplitl [l1]; · iexact l1
      isplitl [l2] <;> iassumption
    isplitl [s0]; · iexact s0
    isplitl [s1] <;> iassumption
  isplitl [HA]; · iexact HA
  isplitl [o0 o1 o2]
  · iapply (result_intro m X c)
    iapply (out_join c (outV m X))
    isplitl [o0]; · iexact o0
    isplitl [o1] <;> iassumption
  isplitl [t0 t1 t2]
  · iapply ((slabs_join c stM).trans (pc_scr c cc0_scratch0))
    isplitl [t0]; · iexact t0
    isplitl [t1] <;> iassumption
  isplitl [b0 b1 b2]
  · iapply ((slabs_join c sbM).trans (pc_scr c cc0_scratch1))
    isplitl [b0]; · iexact b0
    isplitl [b1] <;> iassumption
  isplitl [r0 r1 r2]
  · iapply ((slabs_join c rvM).trans (pc_scr c cc0_scratch2))
    isplitl [r0]; · iexact r0
    isplitl [r1] <;> iassumption
  isplitl [H3]; · iexact H3
  isplitl [H4] <;> iassumption

/-- What a device still owes, in the form the launch speaks of. -/
abbrev owed (c : Dev nD) (O : CellTallies nD τ sig Unit) : sProp 𝕄 := iprop(∃ W, owes (c : Thread nD τ) O W)

/-- The chain of steps, from the start to the end. -/
theorem sound (c : Dev nD) : iprop(Φ₀ m X c ∗ owed c (O₀ c)) ⊢ WP c (chain c) (fun _ => iprop(Φ₁ m X c ∗ owed c 0)) := by
  unfold Φ₀ start
  iintro ⟨⟨⟨#Hc, Ht, Hk, Hl, HA, Ho⟩, Hs⟩, ⟨%W, HW⟩⟩
  ihave H := (pre_intro m c) $$ [Hk Hl HA Ho Hs]
  · isplitl [Hk]; · iexact Hk
    isplitl [Hl]; · iexact Hl
    isplitl [HA]; · iexact HA
    isplitl [Ho] <;> iassumption
  icases H with ⟨Hpre, l1⟩
  have hch := wp_chain (c := c) (Q := fun _ => iprop(Φ₁ m X c ∗ owed c 0)) X
  unfold pre
  icases Hpre with ⟨Hb, Hr, Hst, Hown⟩
  iapply hch $$ [Ht HW Hb Hr Hst Hown]
  · isplitr; · iexact Hc
    isplitl [Ht HW]
    · unfold owing
      iexists W
      isplitl [HW]; · iexact HW
      iexact Ht
    isplitl [Hb]; · iexact Hb
    isplitl [Hr]; · iexact Hr
    isplitl [Hst]; · iexact Hst
    iexact Hown
  iintro ⟨HO, HF⟩
  isplitl [HF l1]
  · iapply (post_elim m X c)
    unfold post
    isplitl [HF]; · iexact HF
    iexact l1
  · unfold owing
    icases HO with ⟨%W', HO, -⟩
    rw [show owedFrom c 39 = 0 from owedFrom_last c]
    iexists W'
    iexact HO

def dats (_ : Fin 1) (c : Dev nD) : Dat τ (Elt F) Unit ℕ UU ℕ cfg0 c where
  A w := w.elim0
  after w _ := w.elim0
  Φ t := match t with
    | ⟨0, _⟩ => Φ₀ m X c
    | ⟨_ + 1, _⟩ => Φ₁ m X c
  q _ := fullShare
  owed t := match t with
    | ⟨0, _⟩ => O₀ c
    | ⟨_ + 1, _⟩ => 0

/-- What the one point of the grid runs is the chain of steps, once the device's name is read. -/
theorem body_at : (defs₀ (F := F)) Proc.tc cfg0.body (cfg0.bodyArgs t0_0 (cfg0.slots t0_0)) = .op .deviceId (fun c => chain c) := body_eq_chain

theorem body_obligation (c : Dev nD) : BodyObligation (dats m X 0 c) (defs₀ (F := F)) 𝒱₀ () Set.univ := fun t => by
  rw [fin_N0 t]
  have e0 : (Finset.univ : Finset (Fin cfg0.W)) = ∅ := rfl
  rw [body_at, e0]
  simp only [bigSep_empty, wp_deviceId]
  have h0 : (dats m X 0 c).Φ t0_0.castSucc = Φ₀ m X c := rfl
  have h1 : (dats m X 0 c).Φ t0_0.succ = Φ₁ m X c := rfl
  rw [h0, h1]
  unfold Dat.owesAt Pipeline.owesWithin
  have o0 : (dats m X 0 c).owed t0_0.castSucc = O₀ c := rfl
  have o1 : (dats m X 0 c).owed t0_0.succ = 0 := rfl
  rw [o0, o1]
  iintro ⟨HΦ, ⟨%W, -, HW⟩, -⟩
  iapply (wp_mono frame (wpE (defs₀ (F := F)) 𝒱₀ c none) Set.univ fun _ => ?_) $$ [HΦ HW]
  rotate_left
  · iapply (sound m X c)
    isplitl [HΦ]; · iexact HΦ
    iexists W
    iexact HW
  iintro ⟨HΦ, ⟨%W', HW⟩⟩
  isplitl [HΦ]; · iexact HΦ
  isplitl
  · iexists W'
    isplitr; · ipureintro; exact fun _ _ => Or.inl trivial
    iexact HW
  · iempintro

/-! ## The launch -/

theorem ownSemFacts : Pipeline.OwnSemFacts cfg0.spec osem where
  isScoped := by decide +kernel
  inj := Subtype.val_injective
  disj := fun _ w => w.elim0
theorem share_eq (c : Dev nD) (w : Fin cfg0.W) : (dats m X 0 c).share w = fullShare := by unfold Dat.share; split <;> rfl
theorem waits (c : Dev nD) : (levAts L lv : sProp 𝕄) ⊢ Pipeline.cellsWaits cfgs (dats m X) () 0 c :=
  Pipeline.cellsWaits_intro cfgs (dats m X) () 0 c fun w _ _ => w.elim0

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' X c)
      ⊢ |={Set.univ}=> iprop(start m X c ∗ emp) := by
  rw [Pipeline.unscopedRestP_none, unscopedRest0_eq]
  unfold G' linear start args ctx known
  iintro ⟨⟨HA, HB, Ho⟩, Hlev, Hcr, -, #HK, Hat, Ht, Hs, Hl⟩
  ihave Hc := (creds_intro (F := F) c) $$ Hcr
  ihave Hk := (first_intro (F := F) c) $$ [Hat Hs Hc]
  · isplitl [Hat]; · iexact Hat
    isplitl [Hs] <;> iassumption
  imodintro
  isplitl
  · isplitl [Hlev]
    · isplitr; · iexact HK
      iexact Hlev
    isplitl [Ht]; · iexact Ht
    isplitl [Hk]; · iexact Hk
    isplitl [Hl]; · iexact Hl
    isplitl [HA HB]
    · isplitl [HA] <;> iassumption
    iexists (m ((c : Thread nD τ).loc main_v1))
    iexact Ho
  · iempintro

theorem phi0_intro (c : Dev nD) :
    iprop(start m X c ∗ Pipeline.prefHeld Pipeline.Prefetch.none c (fun _ => fullShare.right) (fun k => k.elim0) ∗ Pipeline.scopedRest cfg0.spec c)
      ⊢ (dats m X 0 c).Φ 0 := by
  rw [show (dats m X 0 c).Φ 0 = Φ₀ m X c from rfl, scopedRest0_eq]
  unfold Φ₀ scratch
  iintro ⟨Hs, -, Hr⟩
  isplitl [Hs]; · iexact Hs
  iexact Hr

/-- What stays with a device at the end: the arguments, the result and the barrier's semaphore. -/
def final (c : Dev nD) : sProp 𝕄 := iprop(args m c ∗ result m X c ∗ unscopedSems0 c)

theorem phi1_exit (c : Dev nD) :
    (dats m X 0 c).Φ (Fin.last cfg0.N) ⊢ iprop(final m X c ∗ Pipeline.ownSems0 osem c ∗ Pipeline.scopedRest cfg0.spec c) := by
  rw [show (dats m X 0 c).Φ (Fin.last cfg0.N) = Φ₁ m X c from rfl, scopedRest0_eq]
  unfold Φ₁ scratch final
  rw [← sems_eq]
  iintro ⟨⟨Hs, Hu⟩, HA, HR, Hr⟩
  isplitl [Hu HA HR]
  · isplitl [HA]; · iexact HA
    isplitl [HR]; · iexact HR
    iexact Hu
  isplitl [Hs]; · iexact Hs
  iexact Hr

/-- What the memory of a device is at the end. -/
def Final (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ ∀ i : S3072x3072.Idx, X.f Finset.univ (i (0 : Fin 2)).val (i (1 : Fin 2)).val (s.mem ((c : Thread nD τ).loc main_v1) i)

/-- A buffer held whole is what the memory holds. -/
theorem read_whole {ℓ : Loc nD τ sig} {f : Buf (Elt F) ℓ} (s' : Phys nD τ sig (Elt F)) :
    iprop((ℓ ↦{fullShare} f) ∗ SI s') ⊢ (iprop(⌜s'.mem.mem ℓ = f⌝ ∗ SI s') : sProp 𝕄) := by
  iintro ⟨H, HSI⟩
  icombine HSI H gives %h
  isplitr
  · ipureintro; exact Buf.eq_of_forall_mem_univ h
  · iexact HSI

theorem final_read (c : Dev nD) (s' : Phys nD τ sig (Elt F)) :
    iprop(final m X c ∗ emp ∗ SI s') ⊢ (|={Set.univ}=> iprop(⌜(∀ sm : SemLoc sig, sm.isScoped .tc = false → s'.mem.sem ((c.tc : Thread nD τ), sm) = 0) ∧ Final m X c s'.mem⌝ ∗ SI s') : sProp 𝕄) := by
  unfold final args result
  iintro ⟨⟨⟨HA, HB⟩, ⟨%f, %hf, Ho⟩, Hu⟩, -, HSI⟩
  ihave H := (read_whole s') $$ [HA HSI]
  · isplitl [HA] <;> iassumption
  icases H with ⟨%hA, HSI⟩
  ihave H := (read_whole s') $$ [HB HSI]
  · isplitl [HB] <;> iassumption
  icases H with ⟨%hB, HSI⟩
  ihave H := (read_whole s') $$ [Ho HSI]
  · isplitl [Ho] <;> iassumption
  icases H with ⟨%ho, HSI⟩
  imod (Pipeline.unscopedSems0_read (X := unscopedSems0 c) (c := c) fupd_intro s') $$ [Hu HSI] with ⟨%hs, HSI⟩
  · isplitl [Hu] <;> iassumption
  imodintro
  isplitr
  · ipureintro
    exact ⟨hs, hA, hB, fun i => by rw [ho]; exact hf i⟩
  · iexact HSI

/-! ## The run -/

set_option maxRecDepth 16000 in
/-- From any memory with every semaphore at zero, every run of the kernel on all devices ends; at the end every semaphore is
    at zero and every device has its arguments unchanged and a result of which the claim of the sums over all devices holds. -/
theorem run_main : θ_run (defs (F := F)) (onTc (τ := τ) (main (F := F))) ⟨m, fun _ => 0, ρ⟩ (fun r => (∀ c, Final m X c r.2) ∧ r.2.sem = fun _ => 0) :=
  Pipeline.θ_run_region_owing_glob_pf (fun p => (cfgs p).toPCfg) (fun p => (cfgs p).toPCfg_adm) (dats m X) () cellOf_inj (0 : Fin 1)
    winFacts0.to₀ ownSemFacts (Pipeline.PreFacts.none _) EP defs₀ 𝒱₀ m ρ main (hmain := fun _ => rfl)
    (hbody := body_obligation m X) (hne := fun w => w.elim0) (harr := arr_whole0) (hstage := stage_whole0) (hshare := share_eq m X)
    (hdistinct := winFacts0.arr_inj) (O₀ := O₀) (howed₀ := fun _ => rfl) (howedN := fun _ => rfl)
    (L := L) (lv := lv) (hL := L_of_ne) (hwaits := waits m X) (G := G X) (G' := G' X) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_ring X) $$ HX with HG
      imodintro
      isplitl [HP] <;> iassumption)
    (hglob := glob X) (hA := fun _ w => w.elim0) (hpf := fun _ k => k.elim0)
    (X := start m X) (Y := final m X) (Z := fun _ => iprop(emp))
    (hX := start_intro m ρ X) (hin := phi0_intro m X) (hout := phi1_exit m X)
    (QY := fun c s => (∀ sm : SemLoc sig, sm.isScoped .tc = false → s.sem ((c.tc : Thread nD τ), sm) = 0) ∧ Final m X c s)
    (hY := final_read m X)
    (hQ := fun s h hs => ⟨fun c => (h c).2.2.2, by
      funext g
      obtain ⟨⟨d, p⟩, sm⟩ := g
      by_cases hp : p = Proc.tc
      · subst hp
        by_cases hsc : sm.isScoped .tc = true
        · exact hs _ (.inr hsc)
        · exact (h d).2.2.1 sm (by simpa using hsc)
      · exact hs _ (.inl hp)⟩)

end Cert.KernelIdeal.Ring
end
end
-- ==== Proof.KI.Bare.lean ====
/- The run with nothing said of the values: it ends, with the arguments kept and every counter at zero. -/
module

public import proofs.«01_k».proof.Proof.KI.Launch

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-- Nothing is said of any sum. -/
def bare (A : Dev nD → S3072x1536.Idx → F .f32) (B : Dev nD → S1536x3072.Idx → F .f32) : Spec F A B where
  f _ _ _ _ := True
  h _ _ _ _ := True
  trunc _ _ _ _ _ := trivial
  ext _ _ _ _ _ := trivial
  add _ _ _ _ _ _ _ _ _ := trivial
  dot _ _ _ _ _ _ _ := trivial
  dotN_eq _ _ _ := rfl

/-- From any memory with every counter at zero, every weakly fair run ends without a fault, each device's arguments as they were and every
    counter at zero. -/
theorem run_kept (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun _ h => ⟨fun c => ⟨(h.1 c).1, (h.1 c).2.1⟩, h.2⟩) (run_main m ρ (bare (argAt0 m) (argAt1 m)))

end Cert.KernelIdeal.Ring

end

end
-- ==== Proof.KI.Value.lean ====
/- The values of the run over the extended reals: each device ends with the sum of all the devices' products. -/
module

public import proofs.«01_k».proof.Proof.KI.Launch
public import Idealize.ShloMosaic.Lib.MatmulPlain
public import Idealize.ShloMosaic.Lib.ValueLayout
public import Idealize.ShloMosaic.PureOps.Ideal

@[expose] public section

noncomputable section

namespace Cert.KernelIdeal.Ring

open Idealize.ShloMosaic Idealize.ShloMosaic.TcCoe Idealize.ShloMosaic.ValueIdx Idealize.SL.Sem
open Cert.KernelIdeal Cert.KernelIdeal.Gen

variable (A : Dev nD → S3072x1536.Idx → Ideal .f32) (B : Dev nD → S1536x3072.Idx → Ideal .f32)

/-- An entry of one device's product. -/
def term (d : Dev nD) (i j : Fin 3072) : EReal := ∑ k : Fin 1536, A d (ix2 i k) * B d (ix2 k j)

/-- A number is the sum of some devices' products at a row and a column. -/
def IsSum (S : Finset (Dev nD)) (r n : ℕ) (v : EReal) : Prop := ∀ i j : Fin 3072, i.val = r → j.val = n → v = ∑ d ∈ S, term A B d i j

/-- A product of rows, at an entry: the sum along the row and the column. -/
theorem dotW_apply (v : Vec Ideal S1x256x1536 .f32) (w : Vec Ideal S1536x3072 .bf16) (u : Fin 1) (p : Fin 256) (q : Fin 3072) :
    dotW (F := Ideal) v w (ix3 u p q) = ∑ k : Fin 1536, v (ix3 (0 : Fin 1) p k) * w (ix2 k q) := by
  refine (shapeCast_ab_1ab_apply _ _ u p q).trans ((Ideal.matmul_plain_apply none _ w _ p q).trans ?_)
  rw [show constant (F := Ideal) S256x3072 .f32 0x00000000#32 (ix2 p q) = 0 from Ideal.ofBits_zero_f32, zero_add]
  exact Finset.sum_congr rfl fun k _ => congrArg (· * w (ix2 k q)) (shapeCast_1ab_ab_apply v _ p k)

/-- Every sum the kernel makes is the sum of the products of the devices it has added. -/
def sums : Spec Ideal A B where
  f := IsSum A B
  h := IsSum A B
  trunc _ _ _ _ h := h
  ext _ _ _ _ h := h
  add S T r n v w hd hv hw i j hi hj := by
    rw [Finset.sum_union hd, ← hv i j hi hj, ← hw i j hi hj]; rfl
  dot c base v w hv hw x i j hi hj := by
    have hx : x = ix3 (x 0) (x 1) (x 2) := eq_ix3 x
    rw [Finset.sum_singleton, hx]
    refine (dotW_apply v w (x 0) (x 1) (x 2)).trans (Finset.sum_congr rfl fun k _ => ?_)
    rw [hv (ix3 (0 : Fin 1) (x 1) k) (ix2 i k) hi rfl, hw (ix2 k (x 2)), show x 2 = j from Fin.ext hj.symm]
    rfl
  dotN_eq _ _ _ := rfl

end Cert.KernelIdeal.Ring

end

end
-- ==== Proof.Ref.lean ====
/- The run of the reference: one product of two whole matrices on one device, and what an entry of it is. -/
module

public import proofs.«01_k».proof.Proof.Gen.ReferenceIdeal
public import Idealize.ShloMosaic.Lib.StableHlo.Run
public import Idealize.ShloMosaic.Lib.MatmulPlain
public import Idealize.ShloMosaic.Lib.Quiescent
public import Idealize.ShloMosaic.PureOps.Ideal

@[expose] public section

noncomputable section

namespace Cert.ReferenceIdeal.Whole

open Cert.ReferenceIdeal Cert.ReferenceIdeal.Gen
open Idealize.ShloMosaic Idealize.ShloMosaic.TcCoe Idealize.ShloMosaic.StableHlo Idealize.ShloMosaic.ValueIdx Idealize.SL.Sem

variable {F : FTy → Type} [FloatOps F]

/-- The product of the two whole matrices. -/
def prod (l : FVec F S3072x12288 .f32) (r : FVec F S12288x3072 .f32) : FVec F S3072x3072 .f32 :=
  Host.dotGeneral dot_S3072x12288_S12288x3072_S3072x3072_1_0_0_1_n_n none l r

/-- The one operation of the program. -/
abbrev ops : List (HloOp τ sig (Elt F)) := [binary main_arg0 main_arg1 main_v0 prod]

/-- The program is that operation. -/
theorem main_ops (c : Dev nD) : main (F := F) c = seq ops := rfl

/-- The operation leaves the product in the result, -/
theorem after_v0 (V : Valuation τ sig (Elt F)) :
    after ops V (main_v0 : DevRef τ sig) = prod (V (main_arg0 : DevRef τ sig)) (V (main_arg1 : DevRef τ sig)) := by after_results
/-- the left matrix as it was, -/
theorem after_arg0 (V : Valuation τ sig (Elt F)) : after ops V (main_arg0 : DevRef τ sig) = V (main_arg0 : DevRef τ sig) := by after_results
/-- and the right one. -/
theorem after_arg1 (V : Valuation τ sig (Elt F)) : after ops V (main_arg1 : DevRef τ sig) = V (main_arg1 : DevRef τ sig) := by after_results

/-- From any memory with every counter at zero, every weakly fair run ends with the product in the result, the arguments as they were, and
    every counter at zero. -/
theorem run_prod (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v0)
          = prod (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono
    (fun r h => ⟨fun c => ⟨(h c main_v0).trans (after_v0 _), (h c main_arg0).trans (after_arg0 _), (h c main_arg1).trans (after_arg1 _)⟩,
      sem_eq_zero_of_no_sems (by decide) r.2⟩)
    (run_seq (by decide) (by decide) defs main (fun _ => ops) main_ops (fun _ => binary_bufs_sub ..) m ρ)

/-- An entry of the product is the sum, along the row and the column, of the products. -/
theorem prod_apply (l : FVec Ideal S3072x12288 .f32) (r : FVec Ideal S12288x3072 .f32) (i j : Fin 3072) :
    prod (F := Ideal) l r (ix2 i j) = ∑ k : Fin 12288, l (ix2 i k) * r (ix2 k j) := by
  have h := Ideal.matmul_plain_apply none l r (constant S3072x3072 .f32 0x00000000#32) i j
  rw [show constant (F := Ideal) S3072x3072 .f32 0x00000000#32 (ix2 i j) = 0 from Ideal.ofBits_zero_f32, zero_add,
    Ideal.matmul_constant_zero_apply] at h
  exact (Ideal.dotGeneral_apply _ _ _ l r (ix2 i j)).trans h

/-- The sum along twelve thousand products, in eight runs. -/
theorem sum_runs {M : Type*} [AddCommMonoid M] (g : Fin 12288 → M) :
    ∑ k, g k = ∑ d : Fin 8, ∑ k : Fin 1536, g ⟨d.val * 1536 + k.val, by omega⟩ := by
  rw [← Fintype.sum_prod_type' fun (d : Fin 8) (k : Fin 1536) => g ⟨d.val * 1536 + k.val, by omega⟩]
  refine (Fintype.sum_equiv (finProdFinEquiv (m := 8) (n := 1536)) _ g fun p => ?_).symm
  exact congrArg g (Fin.ext (by show p.1.val * 1536 + p.2.val = p.2.val + 1536 * p.1.val; omega))

end Cert.ReferenceIdeal.Whole

end

end
-- ==== Proof.lean ====
/- The kernel and the reference: each runs to its end, keeps its arguments and leaves every counter at zero; the kernel over the extended
   reals is the kernel's own text; and over the extended reals every device's result is the reference's. -/
module

public import proofs.«01_k».proof.Defs
public import proofs.«01_k».proof.Proof.K.Bare
public import proofs.«01_k».proof.Proof.KI.Bare
public import proofs.«01_k».proof.Proof.KI.Value
public import proofs.«01_k».proof.Proof.Ref

@[expose] public section

noncomputable section

namespace Cert.Proof

open Idealize.ShloMosaic Idealize.ShloMosaic.TcCoe Idealize.ShloMosaic.ValueIdx Idealize.SL.Sem
open Cert.KernelIdeal.Ring Cert.ReferenceIdeal.Whole

/-- The kernel runs, keeps its arguments and leaves every counter at zero. -/
theorem kernel_kept : Cert.quiescent_Kernel := fun m g _ => Cert.Kernel.Ring.run_kept m g

/-- The same of the kernel over the extended reals, -/
theorem ideal_kept : Cert.quiescent_KernelIdeal := fun m g _ => Cert.KernelIdeal.Ring.run_kept m g

/-- and of the reference. -/
theorem ref_kept : Cert.quiescent_ReferenceIdeal := fun m g _ =>
  (θ_run Cert.ReferenceIdeal.defs _ _).mono (fun _ h => ⟨fun c => (h.1 c).2, h.2⟩) (run_prod m g)

/-- Entries of the whole product are the sums of the entries of the devices' products, when the devices hold the blocks of the whole. -/
theorem prod_blocks (l : FVec Ideal ⟨2, ![3072, 12288]⟩ .f32) (r : FVec Ideal ⟨2, ![12288, 3072]⟩ .f32) (i j : Fin 3072) :
    prod (F := Ideal) l r (ix2 i j) = ∑ d, term (fun d => Layout.block ⟨2, ![3072, 1536]⟩ ⟨2, ![3072, 12288]⟩ 1 8 d l)
      (fun d => Layout.block ⟨2, ![1536, 3072]⟩ ⟨2, ![12288, 3072]⟩ 0 8 d r) d i j := by
  refine (prod_apply l r i j).trans ((sum_runs _).trans (Finset.sum_congr rfl fun d _ => Finset.sum_congr rfl fun k _ => ?_))
  refine congr (congrArg (fun x y : EReal => x * y) (congrArg l ?_)) (congrArg r ?_) <;>
  · funext b
    match b with
    | ⟨0, _⟩ => rfl
    | ⟨1, _⟩ => rfl

/-- Over the extended reals every device ends with the product of the two whole matrices, which is the reference's result. -/
theorem values : Cert.algebraic_KernelIdeal_ReferenceIdeal := by
  intro m g m' g' _ hm
  refine ⟨_, (θ_run Cert.KernelIdeal.defs _ _).mono (fun r h c => ⟨?_, (h.1 c).1, (h.1 c).2.1⟩) (run_main m g (sums (argAt0 m) (argAt1 m))),
    (θ_run Cert.ReferenceIdeal.defs _ _).mono (fun r h => h.1 0) (run_prod m' g')⟩
  funext y
  have hy : y = ix2 (y 0) (y 1) := eq_ix2 y
  refine ((h.1 c).2.2 y (y 0) (y 1) rfl rfl).trans ?_
  rw [show argAt0 m = _ from funext fun c => (hm c).1, show argAt1 m = _ from funext fun c => (hm c).2]
  exact (prod_blocks _ _ (y 0) (y 1)).symm.trans (congrArg _ hy.symm)

/-- All five claims. -/
theorem claim : Cert.Claim := ⟨Cert.Kernel.Gen.facts, Cert.KernelIdeal.Gen.facts, Cert.ReferenceIdeal.Gen.facts,
  kernel_kept, ideal_kept, ref_kept, trivial, values⟩

end Cert.Proof

end
